-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_DhInRefIdeal (m : (ℓ : Loc Cert.DhInRefIdeal.nD Cert.DhInRefIdeal.τ Cert.DhInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DyOut (m : (ℓ : Loc Cert.DyOut.nD Cert.DyOut.τ Cert.DyOut.sig) → Buf (Elt Bits) ℓ) : Prop :=
  True

def Pre_DyOutIdeal (m : (ℓ : Loc Cert.DyOutIdeal.nD Cert.DyOutIdeal.τ Cert.DyOutIdeal.sig) → Buf (Elt Ideal) ℓ) : Prop :=
  True

def Pre_DyOutRefIdeal (m : (ℓ : Loc Cert.DyOutRefIdeal.nD Cert.DyOutRefIdeal.τ Cert.DyOutRefIdeal.sig) → Buf (Elt Ideal) ℓ) : Prop :=
  True

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_MInRefIdeal (m : (ℓ : Loc Cert.MInRefIdeal.nD Cert.MInRefIdeal.τ Cert.MInRefIdeal.sig) → Buf (Elt Ideal) ℓ) : Prop :=
  True

def Pre_MOut (m : (ℓ : Loc Cert.MOut.nD Cert.MOut.τ Cert.MOut.sig) → Buf (Elt Bits) ℓ) : Prop :=
  True

def Pre_MOutIdeal (m : (ℓ : Loc Cert.MOutIdeal.nD Cert.MOutIdeal.τ Cert.MOutIdeal.sig) → Buf (Elt Ideal) ℓ) : Prop :=
  True

def Pre_MOutRefIdeal (m : (ℓ : Loc Cert.MOutRefIdeal.nD Cert.MOutRefIdeal.τ Cert.MOutRefIdeal.sig) → Buf (Elt Ideal) ℓ) : Prop :=
  True

def Pre_AWIn (m : (ℓ : Loc Cert.AWIn.nD Cert.AWIn.τ Cert.AWIn.sig) → Buf (Elt Bits) ℓ) : Prop :=
  True

def Pre_AWInIdeal (m : (ℓ : Loc Cert.AWInIdeal.nD Cert.AWInIdeal.τ Cert.AWInIdeal.sig) → Buf (Elt Ideal) ℓ) : Prop :=
  True

def Pre_AWInRefIdeal (m : (ℓ : Loc Cert.AWInRefIdeal.nD Cert.AWInRefIdeal.τ Cert.AWInRefIdeal.sig) → Buf (Elt Ideal) ℓ) : Prop :=
  True

def Pre_AWOut (m : (ℓ : Loc Cert.AWOut.nD Cert.AWOut.τ Cert.AWOut.sig) → Buf (Elt Bits) ℓ) : Prop :=
  True

def Pre_AWOutIdeal (m : (ℓ : Loc Cert.AWOutIdeal.nD Cert.AWOutIdeal.τ Cert.AWOutIdeal.sig) → Buf (Elt Ideal) ℓ) : Prop :=
  True

def Pre_AWOutRefIdeal (m : (ℓ : Loc Cert.AWOutRefIdeal.nD Cert.AWOutRefIdeal.τ Cert.AWOutRefIdeal.sig) → Buf (Elt Ideal) ℓ) : Prop :=
  True

def Pre_ANorm (m : (ℓ : Loc Cert.ANorm.nD Cert.ANorm.τ Cert.ANorm.sig) → Buf (Elt Bits) ℓ) : Prop :=
  True

def Pre_ANormIdeal (m : (ℓ : Loc Cert.ANormIdeal.nD Cert.ANormIdeal.τ Cert.ANormIdeal.sig) → Buf (Elt Ideal) ℓ) : Prop :=
  True

def Pre_ANormRefIdeal (m : (ℓ : Loc Cert.ANormRefIdeal.nD Cert.ANormRefIdeal.τ Cert.ANormRefIdeal.sig) → Buf (Elt Ideal) ℓ) : Prop :=
  True

def Pre_AShort (m : (ℓ : Loc Cert.AShort.nD Cert.AShort.τ Cert.AShort.sig) → Buf (Elt Bits) ℓ) : Prop :=
  True

def Pre_AShortIdeal (m : (ℓ : Loc Cert.AShortIdeal.nD Cert.AShortIdeal.τ Cert.AShortIdeal.sig) → Buf (Elt Ideal) ℓ) : Prop :=
  True

def Pre_AShortRefIdeal (m : (ℓ : Loc Cert.AShortRefIdeal.nD Cert.AShortRefIdeal.τ Cert.AShortRefIdeal.sig) → Buf (Elt Ideal) ℓ) : Prop :=
  True

def Pre_AHead (m : (ℓ : Loc Cert.AHead.nD Cert.AHead.τ Cert.AHead.sig) → Buf (Elt Bits) ℓ) : Prop :=
  True

def Pre_AHeadIdeal (m : (ℓ : Loc Cert.AHeadIdeal.nD Cert.AHeadIdeal.τ Cert.AHeadIdeal.sig) → Buf (Elt Ideal) ℓ) : Prop :=
  True

def Pre_AHeadRefIdeal (m : (ℓ : Loc Cert.AHeadRefIdeal.nD Cert.AHeadRefIdeal.τ Cert.AHeadRefIdeal.sig) → Buf (Elt Ideal) ℓ) : Prop :=
  True

def Pre_AGdn (m : (ℓ : Loc Cert.AGdn.nD Cert.AGdn.τ Cert.AGdn.sig) → Buf (Elt Bits) ℓ) : Prop :=
  True

def Pre_AGdnIdeal (m : (ℓ : Loc Cert.AGdnIdeal.nD Cert.AGdnIdeal.τ Cert.AGdnIdeal.sig) → Buf (Elt Ideal) ℓ) : Prop :=
  True

def Pre_AGdnRefIdeal (m : (ℓ : Loc Cert.AGdnRefIdeal.nD Cert.AGdnRefIdeal.τ Cert.AGdnRefIdeal.sig) → Buf (Elt Ideal) ℓ) : Prop :=
  True

def Pre_ADw (m : (ℓ : Loc Cert.ADw.nD Cert.ADw.τ Cert.ADw.sig) → Buf (Elt Bits) ℓ) : Prop :=
  True

def Pre_ADwIdeal (m : (ℓ : Loc Cert.ADwIdeal.nD Cert.ADwIdeal.τ Cert.ADwIdeal.sig) → Buf (Elt Ideal) ℓ) : Prop :=
  True

def Pre_ADwRefIdeal (m : (ℓ : Loc Cert.ADwRefIdeal.nD Cert.ADwRefIdeal.τ Cert.ADwRefIdeal.sig) → Buf (Elt Ideal) ℓ) : Prop :=
  True

def Pre_ALn (m : (ℓ : Loc Cert.ALn.nD Cert.ALn.τ Cert.ALn.sig) → Buf (Elt Bits) ℓ) : Prop :=
  True

def Pre_ALnIdeal (m : (ℓ : Loc Cert.ALnIdeal.nD Cert.ALnIdeal.τ Cert.ALnIdeal.sig) → Buf (Elt Ideal) ℓ) : Prop :=
  True

def Pre_ALnRefIdeal (m : (ℓ : Loc Cert.ALnRefIdeal.nD Cert.ALnRefIdeal.τ Cert.ALnRefIdeal.sig) → Buf (Elt Ideal) ℓ) : Prop :=
  True

def Pre_APw (m : (ℓ : Loc Cert.APw.nD Cert.APw.τ Cert.APw.sig) → Buf (Elt Bits) ℓ) : Prop :=
  True

def Pre_APwIdeal (m : (ℓ : Loc Cert.APwIdeal.nD Cert.APwIdeal.τ Cert.APwIdeal.sig) → Buf (Elt Ideal) ℓ) : Prop :=
  True

def Pre_APwRefIdeal (m : (ℓ : Loc Cert.APwRefIdeal.nD Cert.APwRefIdeal.τ Cert.APwRefIdeal.sig) → Buf (Elt Ideal) ℓ) : Prop :=
  True

def Pre_AFinal (m : (ℓ : Loc Cert.AFinal.nD Cert.AFinal.τ Cert.AFinal.sig) → Buf (Elt Bits) ℓ) : Prop :=
  True

def Pre_AFinalIdeal (m : (ℓ : Loc Cert.AFinalIdeal.nD Cert.AFinalIdeal.τ Cert.AFinalIdeal.sig) → Buf (Elt Ideal) ℓ) : Prop :=
  True

def Pre_AFinalRefIdeal (m : (ℓ : Loc Cert.AFinalRefIdeal.nD Cert.AFinalRefIdeal.τ Cert.AFinalRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_SSmall (m : (ℓ : Loc Cert.SSmall.nD Cert.SSmall.τ Cert.SSmall.sig) → Buf (Elt Bits) ℓ) : Prop :=
  True

def Pre_SSmallIdeal (m : (ℓ : Loc Cert.SSmallIdeal.nD Cert.SSmallIdeal.τ Cert.SSmallIdeal.sig) → Buf (Elt Ideal) ℓ) : Prop :=
  True

def Pre_SSmallRefIdeal (m : (ℓ : Loc Cert.SSmallRefIdeal.nD Cert.SSmallRefIdeal.τ Cert.SSmallRefIdeal.sig) → Buf (Elt Ideal) ℓ) : Prop :=
  True

def Pre_SPw (m : (ℓ : Loc Cert.SPw.nD Cert.SPw.τ Cert.SPw.sig) → Buf (Elt Bits) ℓ) : Prop :=
  True

def Pre_SPwIdeal (m : (ℓ : Loc Cert.SPwIdeal.nD Cert.SPwIdeal.τ Cert.SPwIdeal.sig) → Buf (Elt Ideal) ℓ) : Prop :=
  True

def Pre_SPwRefIdeal (m : (ℓ : Loc Cert.SPwRefIdeal.nD Cert.SPwRefIdeal.τ Cert.SPwRefIdeal.sig) → Buf (Elt Ideal) ℓ) : Prop :=
  True

def Pre_SIn (m : (ℓ : Loc Cert.SIn.nD Cert.SIn.τ Cert.SIn.sig) → Buf (Elt Bits) ℓ) : Prop :=
  True

def Pre_SInIdeal (m : (ℓ : Loc Cert.SInIdeal.nD Cert.SInIdeal.τ Cert.SInIdeal.sig) → Buf (Elt Ideal) ℓ) : Prop :=
  True

def Pre_SInRefIdeal (m : (ℓ : Loc Cert.SInRefIdeal.nD Cert.SInRefIdeal.τ Cert.SInRefIdeal.sig) → Buf (Elt Ideal) ℓ) : Prop :=
  True

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_APrep (m : (ℓ : Loc Cert.APrep.nD Cert.APrep.τ Cert.APrep.sig) → Buf (Elt Bits) ℓ) : Prop :=
  True

def Pre_APrepIdeal (m : (ℓ : Loc Cert.APrepIdeal.nD Cert.APrepIdeal.τ Cert.APrepIdeal.sig) → Buf (Elt Ideal) ℓ) : Prop :=
  True

def Pre_APrepRefIdeal (m : (ℓ : Loc Cert.APrepRefIdeal.nD Cert.APrepRefIdeal.τ Cert.APrepRefIdeal.sig) → Buf (Elt Ideal) ℓ) : Prop :=
  True

def Pre_APrepF (m : (ℓ : Loc Cert.APrepF.nD Cert.APrepF.τ Cert.APrepF.sig) → Buf (Elt Bits) ℓ) : Prop :=
  True

def Pre_APrepFIdeal (m : (ℓ : Loc Cert.APrepFIdeal.nD Cert.APrepFIdeal.τ Cert.APrepFIdeal.sig) → Buf (Elt Ideal) ℓ) : Prop :=
  True

def Pre_APrepFRefIdeal (m : (ℓ : Loc Cert.APrepFRefIdeal.nD Cert.APrepFRefIdeal.τ Cert.APrepFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_DhInRefIdeal [hDhInRefIdeal : Cert.DhInRefIdeal.Facts] : Prop :=
  ∀ (m : (ℓ : Loc Cert.DhInRefIdeal.nD Cert.DhInRefIdeal.τ Cert.DhInRefIdeal.sig) → Buf (Elt Ideal) ℓ) (g : Dev Cert.DhInRefIdeal.nD → PrngReg), Pre_DhInRefIdeal m →
    θ_run (Cert.DhInRefIdeal.defs (F := Ideal)) (onTc (τ := Cert.DhInRefIdeal.τ) (Cert.DhInRefIdeal.main (F := Ideal))) ⟨m, fun _ => 0, g⟩ (fun r => (∀ c : Dev Cert.DhInRefIdeal.nD,
      r.2.mem ((c.tc : Thread Cert.DhInRefIdeal.nD Cert.DhInRefIdeal.τ).loc Cert.DhInRefIdeal.main_arg0) = m ((c.tc : Thread Cert.DhInRefIdeal.nD Cert.DhInRefIdeal.τ).loc Cert.DhInRefIdeal.main_arg0)
      ∧ r.2.mem ((c.tc : Thread Cert.DhInRefIdeal.nD Cert.DhInRefIdeal.τ).loc Cert.DhInRefIdeal.main_arg1) = m ((c.tc : Thread Cert.DhInRefIdeal.nD Cert.DhInRefIdeal.τ).loc Cert.DhInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DyOut [hDyOut : Cert.DyOut.Facts] : Prop :=
  ∀ (m : (ℓ : Loc Cert.DyOut.nD Cert.DyOut.τ Cert.DyOut.sig) → Buf (Elt Bits) ℓ) (g : Dev Cert.DyOut.nD → PrngReg), Pre_DyOut m →
    θ_run (Cert.DyOut.defs (F := Bits)) (onTc (τ := Cert.DyOut.τ) (Cert.DyOut.main (F := Bits))) ⟨m, fun _ => 0, g⟩ (fun r => (∀ c : Dev Cert.DyOut.nD,
      r.2.mem ((c.tc : Thread Cert.DyOut.nD Cert.DyOut.τ).loc Cert.DyOut.main_arg0) = m ((c.tc : Thread Cert.DyOut.nD Cert.DyOut.τ).loc Cert.DyOut.main_arg0)
      ∧ r.2.mem ((c.tc : Thread Cert.DyOut.nD Cert.DyOut.τ).loc Cert.DyOut.main_arg1) = m ((c.tc : Thread Cert.DyOut.nD Cert.DyOut.τ).loc Cert.DyOut.main_arg1))
      ∧ r.2.sem = fun _ => 0)

def quiescent_DyOutIdeal [hDyOutIdeal : Cert.DyOutIdeal.Facts] : Prop :=
  ∀ (m : (ℓ : Loc Cert.DyOutIdeal.nD Cert.DyOutIdeal.τ Cert.DyOutIdeal.sig) → Buf (Elt Ideal) ℓ) (g : Dev Cert.DyOutIdeal.nD → PrngReg), Pre_DyOutIdeal m →
    θ_run (Cert.DyOutIdeal.defs (F := Ideal)) (onTc (τ := Cert.DyOutIdeal.τ) (Cert.DyOutIdeal.main (F := Ideal))) ⟨m, fun _ => 0, g⟩ (fun r => (∀ c : Dev Cert.DyOutIdeal.nD,
      r.2.mem ((c.tc : Thread Cert.DyOutIdeal.nD Cert.DyOutIdeal.τ).loc Cert.DyOutIdeal.main_arg0) = m ((c.tc : Thread Cert.DyOutIdeal.nD Cert.DyOutIdeal.τ).loc Cert.DyOutIdeal.main_arg0)
      ∧ r.2.mem ((c.tc : Thread Cert.DyOutIdeal.nD Cert.DyOutIdeal.τ).loc Cert.DyOutIdeal.main_arg1) = m ((c.tc : Thread Cert.DyOutIdeal.nD Cert.DyOutIdeal.τ).loc Cert.DyOutIdeal.main_arg1))
      ∧ r.2.sem = fun _ => 0)

def quiescent_DyOutRefIdeal [hDyOutRefIdeal : Cert.DyOutRefIdeal.Facts] : Prop :=
  ∀ (m : (ℓ : Loc Cert.DyOutRefIdeal.nD Cert.DyOutRefIdeal.τ Cert.DyOutRefIdeal.sig) → Buf (Elt Ideal) ℓ) (g : Dev Cert.DyOutRefIdeal.nD → PrngReg), Pre_DyOutRefIdeal m →
    θ_run (Cert.DyOutRefIdeal.defs (F := Ideal)) (onTc (τ := Cert.DyOutRefIdeal.τ) (Cert.DyOutRefIdeal.main (F := Ideal))) ⟨m, fun _ => 0, g⟩ (fun r => (∀ c : Dev Cert.DyOutRefIdeal.nD,
      r.2.mem ((c.tc : Thread Cert.DyOutRefIdeal.nD Cert.DyOutRefIdeal.τ).loc Cert.DyOutRefIdeal.main_arg0) = m ((c.tc : Thread Cert.DyOutRefIdeal.nD Cert.DyOutRefIdeal.τ).loc Cert.DyOutRefIdeal.main_arg0)
      ∧ r.2.mem ((c.tc : Thread Cert.DyOutRefIdeal.nD Cert.DyOutRefIdeal.τ).loc Cert.DyOutRefIdeal.main_arg1) = m ((c.tc : Thread Cert.DyOutRefIdeal.nD Cert.DyOutRefIdeal.τ).loc Cert.DyOutRefIdeal.main_arg1))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1))
      ∧ r.2.sem = fun _ => 0)

def quiescent_MInRefIdeal [hMInRefIdeal : Cert.MInRefIdeal.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1))
      ∧ r.2.sem = fun _ => 0)

def quiescent_MOut [hMOut : Cert.MOut.Facts] : Prop :=
  ∀ (m : (ℓ : Loc Cert.MOut.nD Cert.MOut.τ Cert.MOut.sig) → Buf (Elt Bits) ℓ) (g : Dev Cert.MOut.nD → PrngReg), Pre_MOut m →
    θ_run (Cert.MOut.defs (F := Bits)) (onTc (τ := Cert.MOut.τ) (Cert.MOut.main (F := Bits))) ⟨m, fun _ => 0, g⟩ (fun r => (∀ c : Dev Cert.MOut.nD,
      r.2.mem ((c.tc : Thread Cert.MOut.nD Cert.MOut.τ).loc Cert.MOut.main_arg0) = m ((c.tc : Thread Cert.MOut.nD Cert.MOut.τ).loc Cert.MOut.main_arg0)
      ∧ r.2.mem ((c.tc : Thread Cert.MOut.nD Cert.MOut.τ).loc Cert.MOut.main_arg1) = m ((c.tc : Thread Cert.MOut.nD Cert.MOut.τ).loc Cert.MOut.main_arg1)
      ∧ r.2.mem ((c.tc : Thread Cert.MOut.nD Cert.MOut.τ).loc Cert.MOut.main_arg2) = m ((c.tc : Thread Cert.MOut.nD Cert.MOut.τ).loc Cert.MOut.main_arg2))
      ∧ r.2.sem = fun _ => 0)

def quiescent_MOutIdeal [hMOutIdeal : Cert.MOutIdeal.Facts] : Prop :=
  ∀ (m : (ℓ : Loc Cert.MOutIdeal.nD Cert.MOutIdeal.τ Cert.MOutIdeal.sig) → Buf (Elt Ideal) ℓ) (g : Dev Cert.MOutIdeal.nD → PrngReg), Pre_MOutIdeal m →
    θ_run (Cert.MOutIdeal.defs (F := Ideal)) (onTc (τ := Cert.MOutIdeal.τ) (Cert.MOutIdeal.main (F := Ideal))) ⟨m, fun _ => 0, g⟩ (fun r => (∀ c : Dev Cert.MOutIdeal.nD,
      r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
      ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
      ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2))
      ∧ r.2.sem = fun _ => 0)

def quiescent_MOutRefIdeal [hMOutRefIdeal : Cert.MOutRefIdeal.Facts] : Prop :=
  ∀ (m : (ℓ : Loc Cert.MOutRefIdeal.nD Cert.MOutRefIdeal.τ Cert.MOutRefIdeal.sig) → Buf (Elt Ideal) ℓ) (g : Dev Cert.MOutRefIdeal.nD → PrngReg), Pre_MOutRefIdeal m →
    θ_run (Cert.MOutRefIdeal.defs (F := Ideal)) (onTc (τ := Cert.MOutRefIdeal.τ) (Cert.MOutRefIdeal.main (F := Ideal))) ⟨m, fun _ => 0, g⟩ (fun r => (∀ c : Dev Cert.MOutRefIdeal.nD,
      r.2.mem ((c.tc : Thread Cert.MOutRefIdeal.nD Cert.MOutRefIdeal.τ).loc Cert.MOutRefIdeal.main_arg0) = m ((c.tc : Thread Cert.MOutRefIdeal.nD Cert.MOutRefIdeal.τ).loc Cert.MOutRefIdeal.main_arg0)
      ∧ r.2.mem ((c.tc : Thread Cert.MOutRefIdeal.nD Cert.MOutRefIdeal.τ).loc Cert.MOutRefIdeal.main_arg1) = m ((c.tc : Thread Cert.MOutRefIdeal.nD Cert.MOutRefIdeal.τ).loc Cert.MOutRefIdeal.main_arg1)
      ∧ r.2.mem ((c.tc : Thread Cert.MOutRefIdeal.nD Cert.MOutRefIdeal.τ).loc Cert.MOutRefIdeal.main_arg2) = m ((c.tc : Thread Cert.MOutRefIdeal.nD Cert.MOutRefIdeal.τ).loc Cert.MOutRefIdeal.main_arg2))
      ∧ r.2.sem = fun _ => 0)

def quiescent_AWIn [hAWIn : Cert.AWIn.Facts] : Prop :=
  ∀ (m : (ℓ : Loc Cert.AWIn.nD Cert.AWIn.τ Cert.AWIn.sig) → Buf (Elt Bits) ℓ) (g : Dev Cert.AWIn.nD → PrngReg), Pre_AWIn m →
    θ_run (Cert.AWIn.defs (F := Bits)) (onTc (τ := Cert.AWIn.τ) (Cert.AWIn.main (F := Bits))) ⟨m, fun _ => 0, g⟩ (fun r => (∀ c : Dev Cert.AWIn.nD,
      r.2.mem ((c.tc : Thread Cert.AWIn.nD Cert.AWIn.τ).loc Cert.AWIn.main_arg0) = m ((c.tc : Thread Cert.AWIn.nD Cert.AWIn.τ).loc Cert.AWIn.main_arg0)
      ∧ r.2.mem ((c.tc : Thread Cert.AWIn.nD Cert.AWIn.τ).loc Cert.AWIn.main_arg1) = m ((c.tc : Thread Cert.AWIn.nD Cert.AWIn.τ).loc Cert.AWIn.main_arg1)
      ∧ r.2.mem ((c.tc : Thread Cert.AWIn.nD Cert.AWIn.τ).loc Cert.AWIn.main_arg2) = m ((c.tc : Thread Cert.AWIn.nD Cert.AWIn.τ).loc Cert.AWIn.main_arg2)
      ∧ r.2.mem ((c.tc : Thread Cert.AWIn.nD Cert.AWIn.τ).loc Cert.AWIn.main_arg3) = m ((c.tc : Thread Cert.AWIn.nD Cert.AWIn.τ).loc Cert.AWIn.main_arg3))
      ∧ r.2.sem = fun _ => 0)

def quiescent_AWInIdeal [hAWInIdeal : Cert.AWInIdeal.Facts] : Prop :=
  ∀ (m : (ℓ : Loc Cert.AWInIdeal.nD Cert.AWInIdeal.τ Cert.AWInIdeal.sig) → Buf (Elt Ideal) ℓ) (g : Dev Cert.AWInIdeal.nD → PrngReg), Pre_AWInIdeal m →
    θ_run (Cert.AWInIdeal.defs (F := Ideal)) (onTc (τ := Cert.AWInIdeal.τ) (Cert.AWInIdeal.main (F := Ideal))) ⟨m, fun _ => 0, g⟩ (fun r => (∀ c : Dev Cert.AWInIdeal.nD,
      r.2.mem ((c.tc : Thread Cert.AWInIdeal.nD Cert.AWInIdeal.τ).loc Cert.AWInIdeal.main_arg0) = m ((c.tc : Thread Cert.AWInIdeal.nD Cert.AWInIdeal.τ).loc Cert.AWInIdeal.main_arg0)
      ∧ r.2.mem ((c.tc : Thread Cert.AWInIdeal.nD Cert.AWInIdeal.τ).loc Cert.AWInIdeal.main_arg1) = m ((c.tc : Thread Cert.AWInIdeal.nD Cert.AWInIdeal.τ).loc Cert.AWInIdeal.main_arg1)
      ∧ r.2.mem ((c.tc : Thread Cert.AWInIdeal.nD Cert.AWInIdeal.τ).loc Cert.AWInIdeal.main_arg2) = m ((c.tc : Thread Cert.AWInIdeal.nD Cert.AWInIdeal.τ).loc Cert.AWInIdeal.main_arg2)
      ∧ r.2.mem ((c.tc : Thread Cert.AWInIdeal.nD Cert.AWInIdeal.τ).loc Cert.AWInIdeal.main_arg3) = m ((c.tc : Thread Cert.AWInIdeal.nD Cert.AWInIdeal.τ).loc Cert.AWInIdeal.main_arg3))
      ∧ r.2.sem = fun _ => 0)

def quiescent_AWInRefIdeal [hAWInRefIdeal : Cert.AWInRefIdeal.Facts] : Prop :=
  ∀ (m : (ℓ : Loc Cert.AWInRefIdeal.nD Cert.AWInRefIdeal.τ Cert.AWInRefIdeal.sig) → Buf (Elt Ideal) ℓ) (g : Dev Cert.AWInRefIdeal.nD → PrngReg), Pre_AWInRefIdeal m →
    θ_run (Cert.AWInRefIdeal.defs (F := Ideal)) (onTc (τ := Cert.AWInRefIdeal.τ) (Cert.AWInRefIdeal.main (F := Ideal))) ⟨m, fun _ => 0, g⟩ (fun r => (∀ c : Dev Cert.AWInRefIdeal.nD,
      r.2.mem ((c.tc : Thread Cert.AWInRefIdeal.nD Cert.AWInRefIdeal.τ).loc Cert.AWInRefIdeal.main_arg0) = m ((c.tc : Thread Cert.AWInRefIdeal.nD Cert.AWInRefIdeal.τ).loc Cert.AWInRefIdeal.main_arg0)
      ∧ r.2.mem ((c.tc : Thread Cert.AWInRefIdeal.nD Cert.AWInRefIdeal.τ).loc Cert.AWInRefIdeal.main_arg1) = m ((c.tc : Thread Cert.AWInRefIdeal.nD Cert.AWInRefIdeal.τ).loc Cert.AWInRefIdeal.main_arg1)
      ∧ r.2.mem ((c.tc : Thread Cert.AWInRefIdeal.nD Cert.AWInRefIdeal.τ).loc Cert.AWInRefIdeal.main_arg2) = m ((c.tc : Thread Cert.AWInRefIdeal.nD Cert.AWInRefIdeal.τ).loc Cert.AWInRefIdeal.main_arg2)
      ∧ r.2.mem ((c.tc : Thread Cert.AWInRefIdeal.nD Cert.AWInRefIdeal.τ).loc Cert.AWInRefIdeal.main_arg3) = m ((c.tc : Thread Cert.AWInRefIdeal.nD Cert.AWInRefIdeal.τ).loc Cert.AWInRefIdeal.main_arg3))
      ∧ r.2.sem = fun _ => 0)

def quiescent_AWOut [hAWOut : Cert.AWOut.Facts] : Prop :=
  ∀ (m : (ℓ : Loc Cert.AWOut.nD Cert.AWOut.τ Cert.AWOut.sig) → Buf (Elt Bits) ℓ) (g : Dev Cert.AWOut.nD → PrngReg), Pre_AWOut m →
    θ_run (Cert.AWOut.defs (F := Bits)) (onTc (τ := Cert.AWOut.τ) (Cert.AWOut.main (F := Bits))) ⟨m, fun _ => 0, g⟩ (fun r => (∀ c : Dev Cert.AWOut.nD,
      r.2.mem ((c.tc : Thread Cert.AWOut.nD Cert.AWOut.τ).loc Cert.AWOut.main_arg0) = m ((c.tc : Thread Cert.AWOut.nD Cert.AWOut.τ).loc Cert.AWOut.main_arg0)
      ∧ r.2.mem ((c.tc : Thread Cert.AWOut.nD Cert.AWOut.τ).loc Cert.AWOut.main_arg1) = m ((c.tc : Thread Cert.AWOut.nD Cert.AWOut.τ).loc Cert.AWOut.main_arg1)
      ∧ r.2.mem ((c.tc : Thread Cert.AWOut.nD Cert.AWOut.τ).loc Cert.AWOut.main_arg2) = m ((c.tc : Thread Cert.AWOut.nD Cert.AWOut.τ).loc Cert.AWOut.main_arg2)
      ∧ r.2.mem ((c.tc : Thread Cert.AWOut.nD Cert.AWOut.τ).loc Cert.AWOut.main_arg3) = m ((c.tc : Thread Cert.AWOut.nD Cert.AWOut.τ).loc Cert.AWOut.main_arg3))
      ∧ r.2.sem = fun _ => 0)

def quiescent_AWOutIdeal [hAWOutIdeal : Cert.AWOutIdeal.Facts] : Prop :=
  ∀ (m : (ℓ : Loc Cert.AWOutIdeal.nD Cert.AWOutIdeal.τ Cert.AWOutIdeal.sig) → Buf (Elt Ideal) ℓ) (g : Dev Cert.AWOutIdeal.nD → PrngReg), Pre_AWOutIdeal m →
    θ_run (Cert.AWOutIdeal.defs (F := Ideal)) (onTc (τ := Cert.AWOutIdeal.τ) (Cert.AWOutIdeal.main (F := Ideal))) ⟨m, fun _ => 0, g⟩ (fun r => (∀ c : Dev Cert.AWOutIdeal.nD,
      r.2.mem ((c.tc : Thread Cert.AWOutIdeal.nD Cert.AWOutIdeal.τ).loc Cert.AWOutIdeal.main_arg0) = m ((c.tc : Thread Cert.AWOutIdeal.nD Cert.AWOutIdeal.τ).loc Cert.AWOutIdeal.main_arg0)
      ∧ r.2.mem ((c.tc : Thread Cert.AWOutIdeal.nD Cert.AWOutIdeal.τ).loc Cert.AWOutIdeal.main_arg1) = m ((c.tc : Thread Cert.AWOutIdeal.nD Cert.AWOutIdeal.τ).loc Cert.AWOutIdeal.main_arg1)
      ∧ r.2.mem ((c.tc : Thread Cert.AWOutIdeal.nD Cert.AWOutIdeal.τ).loc Cert.AWOutIdeal.main_arg2) = m ((c.tc : Thread Cert.AWOutIdeal.nD Cert.AWOutIdeal.τ).loc Cert.AWOutIdeal.main_arg2)
      ∧ r.2.mem ((c.tc : Thread Cert.AWOutIdeal.nD Cert.AWOutIdeal.τ).loc Cert.AWOutIdeal.main_arg3) = m ((c.tc : Thread Cert.AWOutIdeal.nD Cert.AWOutIdeal.τ).loc Cert.AWOutIdeal.main_arg3))
      ∧ r.2.sem = fun _ => 0)

def quiescent_AWOutRefIdeal [hAWOutRefIdeal : Cert.AWOutRefIdeal.Facts] : Prop :=
  ∀ (m : (ℓ : Loc Cert.AWOutRefIdeal.nD Cert.AWOutRefIdeal.τ Cert.AWOutRefIdeal.sig) → Buf (Elt Ideal) ℓ) (g : Dev Cert.AWOutRefIdeal.nD → PrngReg), Pre_AWOutRefIdeal m →
    θ_run (Cert.AWOutRefIdeal.defs (F := Ideal)) (onTc (τ := Cert.AWOutRefIdeal.τ) (Cert.AWOutRefIdeal.main (F := Ideal))) ⟨m, fun _ => 0, g⟩ (fun r => (∀ c : Dev Cert.AWOutRefIdeal.nD,
      r.2.mem ((c.tc : Thread Cert.AWOutRefIdeal.nD Cert.AWOutRefIdeal.τ).loc Cert.AWOutRefIdeal.main_arg0) = m ((c.tc : Thread Cert.AWOutRefIdeal.nD Cert.AWOutRefIdeal.τ).loc Cert.AWOutRefIdeal.main_arg0)
      ∧ r.2.mem ((c.tc : Thread Cert.AWOutRefIdeal.nD Cert.AWOutRefIdeal.τ).loc Cert.AWOutRefIdeal.main_arg1) = m ((c.tc : Thread Cert.AWOutRefIdeal.nD Cert.AWOutRefIdeal.τ).loc Cert.AWOutRefIdeal.main_arg1)
      ∧ r.2.mem ((c.tc : Thread Cert.AWOutRefIdeal.nD Cert.AWOutRefIdeal.τ).loc Cert.AWOutRefIdeal.main_arg2) = m ((c.tc : Thread Cert.AWOutRefIdeal.nD Cert.AWOutRefIdeal.τ).loc Cert.AWOutRefIdeal.main_arg2)
      ∧ r.2.mem ((c.tc : Thread Cert.AWOutRefIdeal.nD Cert.AWOutRefIdeal.τ).loc Cert.AWOutRefIdeal.main_arg3) = m ((c.tc : Thread Cert.AWOutRefIdeal.nD Cert.AWOutRefIdeal.τ).loc Cert.AWOutRefIdeal.main_arg3))
      ∧ r.2.sem = fun _ => 0)

def quiescent_ANorm [hANorm : Cert.ANorm.Facts] : Prop :=
  ∀ (m : (ℓ : Loc Cert.ANorm.nD Cert.ANorm.τ Cert.ANorm.sig) → Buf (Elt Bits) ℓ) (g : Dev Cert.ANorm.nD → PrngReg), Pre_ANorm m →
    θ_run (Cert.ANorm.defs (F := Bits)) (onTc (τ := Cert.ANorm.τ) (Cert.ANorm.main (F := Bits))) ⟨m, fun _ => 0, g⟩ (fun r => (∀ c : Dev Cert.ANorm.nD,
      r.2.mem ((c.tc : Thread Cert.ANorm.nD Cert.ANorm.τ).loc Cert.ANorm.main_arg0) = m ((c.tc : Thread Cert.ANorm.nD Cert.ANorm.τ).loc Cert.ANorm.main_arg0)
      ∧ r.2.mem ((c.tc : Thread Cert.ANorm.nD Cert.ANorm.τ).loc Cert.ANorm.main_arg1) = m ((c.tc : Thread Cert.ANorm.nD Cert.ANorm.τ).loc Cert.ANorm.main_arg1)
      ∧ r.2.mem ((c.tc : Thread Cert.ANorm.nD Cert.ANorm.τ).loc Cert.ANorm.main_arg2) = m ((c.tc : Thread Cert.ANorm.nD Cert.ANorm.τ).loc Cert.ANorm.main_arg2)
      ∧ r.2.mem ((c.tc : Thread Cert.ANorm.nD Cert.ANorm.τ).loc Cert.ANorm.main_arg3) = m ((c.tc : Thread Cert.ANorm.nD Cert.ANorm.τ).loc Cert.ANorm.main_arg3))
      ∧ r.2.sem = fun _ => 0)

def quiescent_ANormIdeal [hANormIdeal : Cert.ANormIdeal.Facts] : Prop :=
  ∀ (m : (ℓ : Loc Cert.ANormIdeal.nD Cert.ANormIdeal.τ Cert.ANormIdeal.sig) → Buf (Elt Ideal) ℓ) (g : Dev Cert.ANormIdeal.nD → PrngReg), Pre_ANormIdeal m →
    θ_run (Cert.ANormIdeal.defs (F := Ideal)) (onTc (τ := Cert.ANormIdeal.τ) (Cert.ANormIdeal.main (F := Ideal))) ⟨m, fun _ => 0, g⟩ (fun r => (∀ c : Dev Cert.ANormIdeal.nD,
      r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
      ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
      ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
      ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3))
      ∧ r.2.sem = fun _ => 0)

def quiescent_ANormRefIdeal [hANormRefIdeal : Cert.ANormRefIdeal.Facts] : Prop :=
  ∀ (m : (ℓ : Loc Cert.ANormRefIdeal.nD Cert.ANormRefIdeal.τ Cert.ANormRefIdeal.sig) → Buf (Elt Ideal) ℓ) (g : Dev Cert.ANormRefIdeal.nD → PrngReg), Pre_ANormRefIdeal m →
    θ_run (Cert.ANormRefIdeal.defs (F := Ideal)) (onTc (τ := Cert.ANormRefIdeal.τ) (Cert.ANormRefIdeal.main (F := Ideal))) ⟨m, fun _ => 0, g⟩ (fun r => (∀ c : Dev Cert.ANormRefIdeal.nD,
      r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0)
      ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1)
      ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2)
      ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3))
      ∧ r.2.sem = fun _ => 0)

def quiescent_AShort [hAShort : Cert.AShort.Facts] : Prop :=
  ∀ (m : (ℓ : Loc Cert.AShort.nD Cert.AShort.τ Cert.AShort.sig) → Buf (Elt Bits) ℓ) (g : Dev Cert.AShort.nD → PrngReg), Pre_AShort m →
    θ_run (Cert.AShort.defs (F := Bits)) (onTc (τ := Cert.AShort.τ) (Cert.AShort.main (F := Bits))) ⟨m, fun _ => 0, g⟩ (fun r => (∀ c : Dev Cert.AShort.nD,
      r.2.mem ((c.tc : Thread Cert.AShort.nD Cert.AShort.τ).loc Cert.AShort.main_arg0) = m ((c.tc : Thread Cert.AShort.nD Cert.AShort.τ).loc Cert.AShort.main_arg0)
      ∧ r.2.mem ((c.tc : Thread Cert.AShort.nD Cert.AShort.τ).loc Cert.AShort.main_arg1) = m ((c.tc : Thread Cert.AShort.nD Cert.AShort.τ).loc Cert.AShort.main_arg1)
      ∧ r.2.mem ((c.tc : Thread Cert.AShort.nD Cert.AShort.τ).loc Cert.AShort.main_arg2) = m ((c.tc : Thread Cert.AShort.nD Cert.AShort.τ).loc Cert.AShort.main_arg2)
      ∧ r.2.mem ((c.tc : Thread Cert.AShort.nD Cert.AShort.τ).loc Cert.AShort.main_arg3) = m ((c.tc : Thread Cert.AShort.nD Cert.AShort.τ).loc Cert.AShort.main_arg3))
      ∧ r.2.sem = fun _ => 0)

def quiescent_AShortIdeal [hAShortIdeal : Cert.AShortIdeal.Facts] : Prop :=
  ∀ (m : (ℓ : Loc Cert.AShortIdeal.nD Cert.AShortIdeal.τ Cert.AShortIdeal.sig) → Buf (Elt Ideal) ℓ) (g : Dev Cert.AShortIdeal.nD → PrngReg), Pre_AShortIdeal m →
    θ_run (Cert.AShortIdeal.defs (F := Ideal)) (onTc (τ := Cert.AShortIdeal.τ) (Cert.AShortIdeal.main (F := Ideal))) ⟨m, fun _ => 0, g⟩ (fun r => (∀ c : Dev Cert.AShortIdeal.nD,
      r.2.mem ((c.tc : Thread Cert.AShortIdeal.nD Cert.AShortIdeal.τ).loc Cert.AShortIdeal.main_arg0) = m ((c.tc : Thread Cert.AShortIdeal.nD Cert.AShortIdeal.τ).loc Cert.AShortIdeal.main_arg0)
      ∧ r.2.mem ((c.tc : Thread Cert.AShortIdeal.nD Cert.AShortIdeal.τ).loc Cert.AShortIdeal.main_arg1) = m ((c.tc : Thread Cert.AShortIdeal.nD Cert.AShortIdeal.τ).loc Cert.AShortIdeal.main_arg1)
      ∧ r.2.mem ((c.tc : Thread Cert.AShortIdeal.nD Cert.AShortIdeal.τ).loc Cert.AShortIdeal.main_arg2) = m ((c.tc : Thread Cert.AShortIdeal.nD Cert.AShortIdeal.τ).loc Cert.AShortIdeal.main_arg2)
      ∧ r.2.mem ((c.tc : Thread Cert.AShortIdeal.nD Cert.AShortIdeal.τ).loc Cert.AShortIdeal.main_arg3) = m ((c.tc : Thread Cert.AShortIdeal.nD Cert.AShortIdeal.τ).loc Cert.AShortIdeal.main_arg3))
      ∧ r.2.sem = fun _ => 0)

def quiescent_AShortRefIdeal [hAShortRefIdeal : Cert.AShortRefIdeal.Facts] : Prop :=
  ∀ (m : (ℓ : Loc Cert.AShortRefIdeal.nD Cert.AShortRefIdeal.τ Cert.AShortRefIdeal.sig) → Buf (Elt Ideal) ℓ) (g : Dev Cert.AShortRefIdeal.nD → PrngReg), Pre_AShortRefIdeal m →
    θ_run (Cert.AShortRefIdeal.defs (F := Ideal)) (onTc (τ := Cert.AShortRefIdeal.τ) (Cert.AShortRefIdeal.main (F := Ideal))) ⟨m, fun _ => 0, g⟩ (fun r => (∀ c : Dev Cert.AShortRefIdeal.nD,
      r.2.mem ((c.tc : Thread Cert.AShortRefIdeal.nD Cert.AShortRefIdeal.τ).loc Cert.AShortRefIdeal.main_arg0) = m ((c.tc : Thread Cert.AShortRefIdeal.nD Cert.AShortRefIdeal.τ).loc Cert.AShortRefIdeal.main_arg0)
      ∧ r.2.mem ((c.tc : Thread Cert.AShortRefIdeal.nD Cert.AShortRefIdeal.τ).loc Cert.AShortRefIdeal.main_arg1) = m ((c.tc : Thread Cert.AShortRefIdeal.nD Cert.AShortRefIdeal.τ).loc Cert.AShortRefIdeal.main_arg1)
      ∧ r.2.mem ((c.tc : Thread Cert.AShortRefIdeal.nD Cert.AShortRefIdeal.τ).loc Cert.AShortRefIdeal.main_arg2) = m ((c.tc : Thread Cert.AShortRefIdeal.nD Cert.AShortRefIdeal.τ).loc Cert.AShortRefIdeal.main_arg2)
      ∧ r.2.mem ((c.tc : Thread Cert.AShortRefIdeal.nD Cert.AShortRefIdeal.τ).loc Cert.AShortRefIdeal.main_arg3) = m ((c.tc : Thread Cert.AShortRefIdeal.nD Cert.AShortRefIdeal.τ).loc Cert.AShortRefIdeal.main_arg3))
      ∧ r.2.sem = fun _ => 0)

def quiescent_AHead [hAHead : Cert.AHead.Facts] : Prop :=
  ∀ (m : (ℓ : Loc Cert.AHead.nD Cert.AHead.τ Cert.AHead.sig) → Buf (Elt Bits) ℓ) (g : Dev Cert.AHead.nD → PrngReg), Pre_AHead m →
    θ_run (Cert.AHead.defs (F := Bits)) (onTc (τ := Cert.AHead.τ) (Cert.AHead.main (F := Bits))) ⟨m, fun _ => 0, g⟩ (fun r => (∀ c : Dev Cert.AHead.nD,
      r.2.mem ((c.tc : Thread Cert.AHead.nD Cert.AHead.τ).loc Cert.AHead.main_arg0) = m ((c.tc : Thread Cert.AHead.nD Cert.AHead.τ).loc Cert.AHead.main_arg0)
      ∧ r.2.mem ((c.tc : Thread Cert.AHead.nD Cert.AHead.τ).loc Cert.AHead.main_arg1) = m ((c.tc : Thread Cert.AHead.nD Cert.AHead.τ).loc Cert.AHead.main_arg1)
      ∧ r.2.mem ((c.tc : Thread Cert.AHead.nD Cert.AHead.τ).loc Cert.AHead.main_arg2) = m ((c.tc : Thread Cert.AHead.nD Cert.AHead.τ).loc Cert.AHead.main_arg2)
      ∧ r.2.mem ((c.tc : Thread Cert.AHead.nD Cert.AHead.τ).loc Cert.AHead.main_arg3) = m ((c.tc : Thread Cert.AHead.nD Cert.AHead.τ).loc Cert.AHead.main_arg3))
      ∧ r.2.sem = fun _ => 0)

def quiescent_AHeadIdeal [hAHeadIdeal : Cert.AHeadIdeal.Facts] : Prop :=
  ∀ (m : (ℓ : Loc Cert.AHeadIdeal.nD Cert.AHeadIdeal.τ Cert.AHeadIdeal.sig) → Buf (Elt Ideal) ℓ) (g : Dev Cert.AHeadIdeal.nD → PrngReg), Pre_AHeadIdeal m →
    θ_run (Cert.AHeadIdeal.defs (F := Ideal)) (onTc (τ := Cert.AHeadIdeal.τ) (Cert.AHeadIdeal.main (F := Ideal))) ⟨m, fun _ => 0, g⟩ (fun r => (∀ c : Dev Cert.AHeadIdeal.nD,
      r.2.mem ((c.tc : Thread Cert.AHeadIdeal.nD Cert.AHeadIdeal.τ).loc Cert.AHeadIdeal.main_arg0) = m ((c.tc : Thread Cert.AHeadIdeal.nD Cert.AHeadIdeal.τ).loc Cert.AHeadIdeal.main_arg0)
      ∧ r.2.mem ((c.tc : Thread Cert.AHeadIdeal.nD Cert.AHeadIdeal.τ).loc Cert.AHeadIdeal.main_arg1) = m ((c.tc : Thread Cert.AHeadIdeal.nD Cert.AHeadIdeal.τ).loc Cert.AHeadIdeal.main_arg1)
      ∧ r.2.mem ((c.tc : Thread Cert.AHeadIdeal.nD Cert.AHeadIdeal.τ).loc Cert.AHeadIdeal.main_arg2) = m ((c.tc : Thread Cert.AHeadIdeal.nD Cert.AHeadIdeal.τ).loc Cert.AHeadIdeal.main_arg2)
      ∧ r.2.mem ((c.tc : Thread Cert.AHeadIdeal.nD Cert.AHeadIdeal.τ).loc Cert.AHeadIdeal.main_arg3) = m ((c.tc : Thread Cert.AHeadIdeal.nD Cert.AHeadIdeal.τ).loc Cert.AHeadIdeal.main_arg3))
      ∧ r.2.sem = fun _ => 0)

def quiescent_AHeadRefIdeal [hAHeadRefIdeal : Cert.AHeadRefIdeal.Facts] : Prop :=
  ∀ (m : (ℓ : Loc Cert.AHeadRefIdeal.nD Cert.AHeadRefIdeal.τ Cert.AHeadRefIdeal.sig) → Buf (Elt Ideal) ℓ) (g : Dev Cert.AHeadRefIdeal.nD → PrngReg), Pre_AHeadRefIdeal m →
    θ_run (Cert.AHeadRefIdeal.defs (F := Ideal)) (onTc (τ := Cert.AHeadRefIdeal.τ) (Cert.AHeadRefIdeal.main (F := Ideal))) ⟨m, fun _ => 0, g⟩ (fun r => (∀ c : Dev Cert.AHeadRefIdeal.nD,
      r.2.mem ((c.tc : Thread Cert.AHeadRefIdeal.nD Cert.AHeadRefIdeal.τ).loc Cert.AHeadRefIdeal.main_arg0) = m ((c.tc : Thread Cert.AHeadRefIdeal.nD Cert.AHeadRefIdeal.τ).loc Cert.AHeadRefIdeal.main_arg0)
      ∧ r.2.mem ((c.tc : Thread Cert.AHeadRefIdeal.nD Cert.AHeadRefIdeal.τ).loc Cert.AHeadRefIdeal.main_arg1) = m ((c.tc : Thread Cert.AHeadRefIdeal.nD Cert.AHeadRefIdeal.τ).loc Cert.AHeadRefIdeal.main_arg1)
      ∧ r.2.mem ((c.tc : Thread Cert.AHeadRefIdeal.nD Cert.AHeadRefIdeal.τ).loc Cert.AHeadRefIdeal.main_arg2) = m ((c.tc : Thread Cert.AHeadRefIdeal.nD Cert.AHeadRefIdeal.τ).loc Cert.AHeadRefIdeal.main_arg2)
      ∧ r.2.mem ((c.tc : Thread Cert.AHeadRefIdeal.nD Cert.AHeadRefIdeal.τ).loc Cert.AHeadRefIdeal.main_arg3) = m ((c.tc : Thread Cert.AHeadRefIdeal.nD Cert.AHeadRefIdeal.τ).loc Cert.AHeadRefIdeal.main_arg3))
      ∧ r.2.sem = fun _ => 0)

def quiescent_AGdn [hAGdn : Cert.AGdn.Facts] : Prop :=
  ∀ (m : (ℓ : Loc Cert.AGdn.nD Cert.AGdn.τ Cert.AGdn.sig) → Buf (Elt Bits) ℓ) (g : Dev Cert.AGdn.nD → PrngReg), Pre_AGdn m →
    θ_run (Cert.AGdn.defs (F := Bits)) (onTc (τ := Cert.AGdn.τ) (Cert.AGdn.main (F := Bits))) ⟨m, fun _ => 0, g⟩ (fun r => (∀ c : Dev Cert.AGdn.nD,
      r.2.mem ((c.tc : Thread Cert.AGdn.nD Cert.AGdn.τ).loc Cert.AGdn.main_arg0) = m ((c.tc : Thread Cert.AGdn.nD Cert.AGdn.τ).loc Cert.AGdn.main_arg0)
      ∧ r.2.mem ((c.tc : Thread Cert.AGdn.nD Cert.AGdn.τ).loc Cert.AGdn.main_arg1) = m ((c.tc : Thread Cert.AGdn.nD Cert.AGdn.τ).loc Cert.AGdn.main_arg1)
      ∧ r.2.mem ((c.tc : Thread Cert.AGdn.nD Cert.AGdn.τ).loc Cert.AGdn.main_arg2) = m ((c.tc : Thread Cert.AGdn.nD Cert.AGdn.τ).loc Cert.AGdn.main_arg2)
      ∧ r.2.mem ((c.tc : Thread Cert.AGdn.nD Cert.AGdn.τ).loc Cert.AGdn.main_arg3) = m ((c.tc : Thread Cert.AGdn.nD Cert.AGdn.τ).loc Cert.AGdn.main_arg3))
      ∧ r.2.sem = fun _ => 0)

def quiescent_AGdnIdeal [hAGdnIdeal : Cert.AGdnIdeal.Facts] : Prop :=
  ∀ (m : (ℓ : Loc Cert.AGdnIdeal.nD Cert.AGdnIdeal.τ Cert.AGdnIdeal.sig) → Buf (Elt Ideal) ℓ) (g : Dev Cert.AGdnIdeal.nD → PrngReg), Pre_AGdnIdeal m →
    θ_run (Cert.AGdnIdeal.defs (F := Ideal)) (onTc (τ := Cert.AGdnIdeal.τ) (Cert.AGdnIdeal.main (F := Ideal))) ⟨m, fun _ => 0, g⟩ (fun r => (∀ c : Dev Cert.AGdnIdeal.nD,
      r.2.mem ((c.tc : Thread Cert.AGdnIdeal.nD Cert.AGdnIdeal.τ).loc Cert.AGdnIdeal.main_arg0) = m ((c.tc : Thread Cert.AGdnIdeal.nD Cert.AGdnIdeal.τ).loc Cert.AGdnIdeal.main_arg0)
      ∧ r.2.mem ((c.tc : Thread Cert.AGdnIdeal.nD Cert.AGdnIdeal.τ).loc Cert.AGdnIdeal.main_arg1) = m ((c.tc : Thread Cert.AGdnIdeal.nD Cert.AGdnIdeal.τ).loc Cert.AGdnIdeal.main_arg1)
      ∧ r.2.mem ((c.tc : Thread Cert.AGdnIdeal.nD Cert.AGdnIdeal.τ).loc Cert.AGdnIdeal.main_arg2) = m ((c.tc : Thread Cert.AGdnIdeal.nD Cert.AGdnIdeal.τ).loc Cert.AGdnIdeal.main_arg2)
      ∧ r.2.mem ((c.tc : Thread Cert.AGdnIdeal.nD Cert.AGdnIdeal.τ).loc Cert.AGdnIdeal.main_arg3) = m ((c.tc : Thread Cert.AGdnIdeal.nD Cert.AGdnIdeal.τ).loc Cert.AGdnIdeal.main_arg3))
      ∧ r.2.sem = fun _ => 0)

def quiescent_AGdnRefIdeal [hAGdnRefIdeal : Cert.AGdnRefIdeal.Facts] : Prop :=
  ∀ (m : (ℓ : Loc Cert.AGdnRefIdeal.nD Cert.AGdnRefIdeal.τ Cert.AGdnRefIdeal.sig) → Buf (Elt Ideal) ℓ) (g : Dev Cert.AGdnRefIdeal.nD → PrngReg), Pre_AGdnRefIdeal m →
    θ_run (Cert.AGdnRefIdeal.defs (F := Ideal)) (onTc (τ := Cert.AGdnRefIdeal.τ) (Cert.AGdnRefIdeal.main (F := Ideal))) ⟨m, fun _ => 0, g⟩ (fun r => (∀ c : Dev Cert.AGdnRefIdeal.nD,
      r.2.mem ((c.tc : Thread Cert.AGdnRefIdeal.nD Cert.AGdnRefIdeal.τ).loc Cert.AGdnRefIdeal.main_arg0) = m ((c.tc : Thread Cert.AGdnRefIdeal.nD Cert.AGdnRefIdeal.τ).loc Cert.AGdnRefIdeal.main_arg0)
      ∧ r.2.mem ((c.tc : Thread Cert.AGdnRefIdeal.nD Cert.AGdnRefIdeal.τ).loc Cert.AGdnRefIdeal.main_arg1) = m ((c.tc : Thread Cert.AGdnRefIdeal.nD Cert.AGdnRefIdeal.τ).loc Cert.AGdnRefIdeal.main_arg1)
      ∧ r.2.mem ((c.tc : Thread Cert.AGdnRefIdeal.nD Cert.AGdnRefIdeal.τ).loc Cert.AGdnRefIdeal.main_arg2) = m ((c.tc : Thread Cert.AGdnRefIdeal.nD Cert.AGdnRefIdeal.τ).loc Cert.AGdnRefIdeal.main_arg2)
      ∧ r.2.mem ((c.tc : Thread Cert.AGdnRefIdeal.nD Cert.AGdnRefIdeal.τ).loc Cert.AGdnRefIdeal.main_arg3) = m ((c.tc : Thread Cert.AGdnRefIdeal.nD Cert.AGdnRefIdeal.τ).loc Cert.AGdnRefIdeal.main_arg3))
      ∧ r.2.sem = fun _ => 0)

def quiescent_ADw [hADw : Cert.ADw.Facts] : Prop :=
  ∀ (m : (ℓ : Loc Cert.ADw.nD Cert.ADw.τ Cert.ADw.sig) → Buf (Elt Bits) ℓ) (g : Dev Cert.ADw.nD → PrngReg), Pre_ADw m →
    θ_run (Cert.ADw.defs (F := Bits)) (onTc (τ := Cert.ADw.τ) (Cert.ADw.main (F := Bits))) ⟨m, fun _ => 0, g⟩ (fun r => (∀ c : Dev Cert.ADw.nD,
      r.2.mem ((c.tc : Thread Cert.ADw.nD Cert.ADw.τ).loc Cert.ADw.main_arg0) = m ((c.tc : Thread Cert.ADw.nD Cert.ADw.τ).loc Cert.ADw.main_arg0)
      ∧ r.2.mem ((c.tc : Thread Cert.ADw.nD Cert.ADw.τ).loc Cert.ADw.main_arg1) = m ((c.tc : Thread Cert.ADw.nD Cert.ADw.τ).loc Cert.ADw.main_arg1)
      ∧ r.2.mem ((c.tc : Thread Cert.ADw.nD Cert.ADw.τ).loc Cert.ADw.main_arg2) = m ((c.tc : Thread Cert.ADw.nD Cert.ADw.τ).loc Cert.ADw.main_arg2)
      ∧ r.2.mem ((c.tc : Thread Cert.ADw.nD Cert.ADw.τ).loc Cert.ADw.main_arg3) = m ((c.tc : Thread Cert.ADw.nD Cert.ADw.τ).loc Cert.ADw.main_arg3))
      ∧ r.2.sem = fun _ => 0)

def quiescent_ADwIdeal [hADwIdeal : Cert.ADwIdeal.Facts] : Prop :=
  ∀ (m : (ℓ : Loc Cert.ADwIdeal.nD Cert.ADwIdeal.τ Cert.ADwIdeal.sig) → Buf (Elt Ideal) ℓ) (g : Dev Cert.ADwIdeal.nD → PrngReg), Pre_ADwIdeal m →
    θ_run (Cert.ADwIdeal.defs (F := Ideal)) (onTc (τ := Cert.ADwIdeal.τ) (Cert.ADwIdeal.main (F := Ideal))) ⟨m, fun _ => 0, g⟩ (fun r => (∀ c : Dev Cert.ADwIdeal.nD,
      r.2.mem ((c.tc : Thread Cert.ADwIdeal.nD Cert.ADwIdeal.τ).loc Cert.ADwIdeal.main_arg0) = m ((c.tc : Thread Cert.ADwIdeal.nD Cert.ADwIdeal.τ).loc Cert.ADwIdeal.main_arg0)
      ∧ r.2.mem ((c.tc : Thread Cert.ADwIdeal.nD Cert.ADwIdeal.τ).loc Cert.ADwIdeal.main_arg1) = m ((c.tc : Thread Cert.ADwIdeal.nD Cert.ADwIdeal.τ).loc Cert.ADwIdeal.main_arg1)
      ∧ r.2.mem ((c.tc : Thread Cert.ADwIdeal.nD Cert.ADwIdeal.τ).loc Cert.ADwIdeal.main_arg2) = m ((c.tc : Thread Cert.ADwIdeal.nD Cert.ADwIdeal.τ).loc Cert.ADwIdeal.main_arg2)
      ∧ r.2.mem ((c.tc : Thread Cert.ADwIdeal.nD Cert.ADwIdeal.τ).loc Cert.ADwIdeal.main_arg3) = m ((c.tc : Thread Cert.ADwIdeal.nD Cert.ADwIdeal.τ).loc Cert.ADwIdeal.main_arg3))
      ∧ r.2.sem = fun _ => 0)

def quiescent_ADwRefIdeal [hADwRefIdeal : Cert.ADwRefIdeal.Facts] : Prop :=
  ∀ (m : (ℓ : Loc Cert.ADwRefIdeal.nD Cert.ADwRefIdeal.τ Cert.ADwRefIdeal.sig) → Buf (Elt Ideal) ℓ) (g : Dev Cert.ADwRefIdeal.nD → PrngReg), Pre_ADwRefIdeal m →
    θ_run (Cert.ADwRefIdeal.defs (F := Ideal)) (onTc (τ := Cert.ADwRefIdeal.τ) (Cert.ADwRefIdeal.main (F := Ideal))) ⟨m, fun _ => 0, g⟩ (fun r => (∀ c : Dev Cert.ADwRefIdeal.nD,
      r.2.mem ((c.tc : Thread Cert.ADwRefIdeal.nD Cert.ADwRefIdeal.τ).loc Cert.ADwRefIdeal.main_arg0) = m ((c.tc : Thread Cert.ADwRefIdeal.nD Cert.ADwRefIdeal.τ).loc Cert.ADwRefIdeal.main_arg0)
      ∧ r.2.mem ((c.tc : Thread Cert.ADwRefIdeal.nD Cert.ADwRefIdeal.τ).loc Cert.ADwRefIdeal.main_arg1) = m ((c.tc : Thread Cert.ADwRefIdeal.nD Cert.ADwRefIdeal.τ).loc Cert.ADwRefIdeal.main_arg1)
      ∧ r.2.mem ((c.tc : Thread Cert.ADwRefIdeal.nD Cert.ADwRefIdeal.τ).loc Cert.ADwRefIdeal.main_arg2) = m ((c.tc : Thread Cert.ADwRefIdeal.nD Cert.ADwRefIdeal.τ).loc Cert.ADwRefIdeal.main_arg2)
      ∧ r.2.mem ((c.tc : Thread Cert.ADwRefIdeal.nD Cert.ADwRefIdeal.τ).loc Cert.ADwRefIdeal.main_arg3) = m ((c.tc : Thread Cert.ADwRefIdeal.nD Cert.ADwRefIdeal.τ).loc Cert.ADwRefIdeal.main_arg3))
      ∧ r.2.sem = fun _ => 0)

def quiescent_ALn [hALn : Cert.ALn.Facts] : Prop :=
  ∀ (m : (ℓ : Loc Cert.ALn.nD Cert.ALn.τ Cert.ALn.sig) → Buf (Elt Bits) ℓ) (g : Dev Cert.ALn.nD → PrngReg), Pre_ALn m →
    θ_run (Cert.ALn.defs (F := Bits)) (onTc (τ := Cert.ALn.τ) (Cert.ALn.main (F := Bits))) ⟨m, fun _ => 0, g⟩ (fun r => (∀ c : Dev Cert.ALn.nD,
      r.2.mem ((c.tc : Thread Cert.ALn.nD Cert.ALn.τ).loc Cert.ALn.main_arg0) = m ((c.tc : Thread Cert.ALn.nD Cert.ALn.τ).loc Cert.ALn.main_arg0)
      ∧ r.2.mem ((c.tc : Thread Cert.ALn.nD Cert.ALn.τ).loc Cert.ALn.main_arg1) = m ((c.tc : Thread Cert.ALn.nD Cert.ALn.τ).loc Cert.ALn.main_arg1)
      ∧ r.2.mem ((c.tc : Thread Cert.ALn.nD Cert.ALn.τ).loc Cert.ALn.main_arg2) = m ((c.tc : Thread Cert.ALn.nD Cert.ALn.τ).loc Cert.ALn.main_arg2)
      ∧ r.2.mem ((c.tc : Thread Cert.ALn.nD Cert.ALn.τ).loc Cert.ALn.main_arg3) = m ((c.tc : Thread Cert.ALn.nD Cert.ALn.τ).loc Cert.ALn.main_arg3))
      ∧ r.2.sem = fun _ => 0)

def quiescent_ALnIdeal [hALnIdeal : Cert.ALnIdeal.Facts] : Prop :=
  ∀ (m : (ℓ : Loc Cert.ALnIdeal.nD Cert.ALnIdeal.τ Cert.ALnIdeal.sig) → Buf (Elt Ideal) ℓ) (g : Dev Cert.ALnIdeal.nD → PrngReg), Pre_ALnIdeal m →
    θ_run (Cert.ALnIdeal.defs (F := Ideal)) (onTc (τ := Cert.ALnIdeal.τ) (Cert.ALnIdeal.main (F := Ideal))) ⟨m, fun _ => 0, g⟩ (fun r => (∀ c : Dev Cert.ALnIdeal.nD,
      r.2.mem ((c.tc : Thread Cert.ALnIdeal.nD Cert.ALnIdeal.τ).loc Cert.ALnIdeal.main_arg0) = m ((c.tc : Thread Cert.ALnIdeal.nD Cert.ALnIdeal.τ).loc Cert.ALnIdeal.main_arg0)
      ∧ r.2.mem ((c.tc : Thread Cert.ALnIdeal.nD Cert.ALnIdeal.τ).loc Cert.ALnIdeal.main_arg1) = m ((c.tc : Thread Cert.ALnIdeal.nD Cert.ALnIdeal.τ).loc Cert.ALnIdeal.main_arg1)
      ∧ r.2.mem ((c.tc : Thread Cert.ALnIdeal.nD Cert.ALnIdeal.τ).loc Cert.ALnIdeal.main_arg2) = m ((c.tc : Thread Cert.ALnIdeal.nD Cert.ALnIdeal.τ).loc Cert.ALnIdeal.main_arg2)
      ∧ r.2.mem ((c.tc : Thread Cert.ALnIdeal.nD Cert.ALnIdeal.τ).loc Cert.ALnIdeal.main_arg3) = m ((c.tc : Thread Cert.ALnIdeal.nD Cert.ALnIdeal.τ).loc Cert.ALnIdeal.main_arg3))
      ∧ r.2.sem = fun _ => 0)

def quiescent_ALnRefIdeal [hALnRefIdeal : Cert.ALnRefIdeal.Facts] : Prop :=
  ∀ (m : (ℓ : Loc Cert.ALnRefIdeal.nD Cert.ALnRefIdeal.τ Cert.ALnRefIdeal.sig) → Buf (Elt Ideal) ℓ) (g : Dev Cert.ALnRefIdeal.nD → PrngReg), Pre_ALnRefIdeal m →
    θ_run (Cert.ALnRefIdeal.defs (F := Ideal)) (onTc (τ := Cert.ALnRefIdeal.τ) (Cert.ALnRefIdeal.main (F := Ideal))) ⟨m, fun _ => 0, g⟩ (fun r => (∀ c : Dev Cert.ALnRefIdeal.nD,
      r.2.mem ((c.tc : Thread Cert.ALnRefIdeal.nD Cert.ALnRefIdeal.τ).loc Cert.ALnRefIdeal.main_arg0) = m ((c.tc : Thread Cert.ALnRefIdeal.nD Cert.ALnRefIdeal.τ).loc Cert.ALnRefIdeal.main_arg0)
      ∧ r.2.mem ((c.tc : Thread Cert.ALnRefIdeal.nD Cert.ALnRefIdeal.τ).loc Cert.ALnRefIdeal.main_arg1) = m ((c.tc : Thread Cert.ALnRefIdeal.nD Cert.ALnRefIdeal.τ).loc Cert.ALnRefIdeal.main_arg1)
      ∧ r.2.mem ((c.tc : Thread Cert.ALnRefIdeal.nD Cert.ALnRefIdeal.τ).loc Cert.ALnRefIdeal.main_arg2) = m ((c.tc : Thread Cert.ALnRefIdeal.nD Cert.ALnRefIdeal.τ).loc Cert.ALnRefIdeal.main_arg2)
      ∧ r.2.mem ((c.tc : Thread Cert.ALnRefIdeal.nD Cert.ALnRefIdeal.τ).loc Cert.ALnRefIdeal.main_arg3) = m ((c.tc : Thread Cert.ALnRefIdeal.nD Cert.ALnRefIdeal.τ).loc Cert.ALnRefIdeal.main_arg3))
      ∧ r.2.sem = fun _ => 0)

def quiescent_APw [hAPw : Cert.APw.Facts] : Prop :=
  ∀ (m : (ℓ : Loc Cert.APw.nD Cert.APw.τ Cert.APw.sig) → Buf (Elt Bits) ℓ) (g : Dev Cert.APw.nD → PrngReg), Pre_APw m →
    θ_run (Cert.APw.defs (F := Bits)) (onTc (τ := Cert.APw.τ) (Cert.APw.main (F := Bits))) ⟨m, fun _ => 0, g⟩ (fun r => (∀ c : Dev Cert.APw.nD,
      r.2.mem ((c.tc : Thread Cert.APw.nD Cert.APw.τ).loc Cert.APw.main_arg0) = m ((c.tc : Thread Cert.APw.nD Cert.APw.τ).loc Cert.APw.main_arg0)
      ∧ r.2.mem ((c.tc : Thread Cert.APw.nD Cert.APw.τ).loc Cert.APw.main_arg1) = m ((c.tc : Thread Cert.APw.nD Cert.APw.τ).loc Cert.APw.main_arg1)
      ∧ r.2.mem ((c.tc : Thread Cert.APw.nD Cert.APw.τ).loc Cert.APw.main_arg2) = m ((c.tc : Thread Cert.APw.nD Cert.APw.τ).loc Cert.APw.main_arg2)
      ∧ r.2.mem ((c.tc : Thread Cert.APw.nD Cert.APw.τ).loc Cert.APw.main_arg3) = m ((c.tc : Thread Cert.APw.nD Cert.APw.τ).loc Cert.APw.main_arg3))
      ∧ r.2.sem = fun _ => 0)

def quiescent_APwIdeal [hAPwIdeal : Cert.APwIdeal.Facts] : Prop :=
  ∀ (m : (ℓ : Loc Cert.APwIdeal.nD Cert.APwIdeal.τ Cert.APwIdeal.sig) → Buf (Elt Ideal) ℓ) (g : Dev Cert.APwIdeal.nD → PrngReg), Pre_APwIdeal m →
    θ_run (Cert.APwIdeal.defs (F := Ideal)) (onTc (τ := Cert.APwIdeal.τ) (Cert.APwIdeal.main (F := Ideal))) ⟨m, fun _ => 0, g⟩ (fun r => (∀ c : Dev Cert.APwIdeal.nD,
      r.2.mem ((c.tc : Thread Cert.APwIdeal.nD Cert.APwIdeal.τ).loc Cert.APwIdeal.main_arg0) = m ((c.tc : Thread Cert.APwIdeal.nD Cert.APwIdeal.τ).loc Cert.APwIdeal.main_arg0)
      ∧ r.2.mem ((c.tc : Thread Cert.APwIdeal.nD Cert.APwIdeal.τ).loc Cert.APwIdeal.main_arg1) = m ((c.tc : Thread Cert.APwIdeal.nD Cert.APwIdeal.τ).loc Cert.APwIdeal.main_arg1)
      ∧ r.2.mem ((c.tc : Thread Cert.APwIdeal.nD Cert.APwIdeal.τ).loc Cert.APwIdeal.main_arg2) = m ((c.tc : Thread Cert.APwIdeal.nD Cert.APwIdeal.τ).loc Cert.APwIdeal.main_arg2)
      ∧ r.2.mem ((c.tc : Thread Cert.APwIdeal.nD Cert.APwIdeal.τ).loc Cert.APwIdeal.main_arg3) = m ((c.tc : Thread Cert.APwIdeal.nD Cert.APwIdeal.τ).loc Cert.APwIdeal.main_arg3))
      ∧ r.2.sem = fun _ => 0)

def quiescent_APwRefIdeal [hAPwRefIdeal : Cert.APwRefIdeal.Facts] : Prop :=
  ∀ (m : (ℓ : Loc Cert.APwRefIdeal.nD Cert.APwRefIdeal.τ Cert.APwRefIdeal.sig) → Buf (Elt Ideal) ℓ) (g : Dev Cert.APwRefIdeal.nD → PrngReg), Pre_APwRefIdeal m →
    θ_run (Cert.APwRefIdeal.defs (F := Ideal)) (onTc (τ := Cert.APwRefIdeal.τ) (Cert.APwRefIdeal.main (F := Ideal))) ⟨m, fun _ => 0, g⟩ (fun r => (∀ c : Dev Cert.APwRefIdeal.nD,
      r.2.mem ((c.tc : Thread Cert.APwRefIdeal.nD Cert.APwRefIdeal.τ).loc Cert.APwRefIdeal.main_arg0) = m ((c.tc : Thread Cert.APwRefIdeal.nD Cert.APwRefIdeal.τ).loc Cert.APwRefIdeal.main_arg0)
      ∧ r.2.mem ((c.tc : Thread Cert.APwRefIdeal.nD Cert.APwRefIdeal.τ).loc Cert.APwRefIdeal.main_arg1) = m ((c.tc : Thread Cert.APwRefIdeal.nD Cert.APwRefIdeal.τ).loc Cert.APwRefIdeal.main_arg1)
      ∧ r.2.mem ((c.tc : Thread Cert.APwRefIdeal.nD Cert.APwRefIdeal.τ).loc Cert.APwRefIdeal.main_arg2) = m ((c.tc : Thread Cert.APwRefIdeal.nD Cert.APwRefIdeal.τ).loc Cert.APwRefIdeal.main_arg2)
      ∧ r.2.mem ((c.tc : Thread Cert.APwRefIdeal.nD Cert.APwRefIdeal.τ).loc Cert.APwRefIdeal.main_arg3) = m ((c.tc : Thread Cert.APwRefIdeal.nD Cert.APwRefIdeal.τ).loc Cert.APwRefIdeal.main_arg3))
      ∧ r.2.sem = fun _ => 0)

def quiescent_AFinal [hAFinal : Cert.AFinal.Facts] : Prop :=
  ∀ (m : (ℓ : Loc Cert.AFinal.nD Cert.AFinal.τ Cert.AFinal.sig) → Buf (Elt Bits) ℓ) (g : Dev Cert.AFinal.nD → PrngReg), Pre_AFinal m →
    θ_run (Cert.AFinal.defs (F := Bits)) (onTc (τ := Cert.AFinal.τ) (Cert.AFinal.main (F := Bits))) ⟨m, fun _ => 0, g⟩ (fun r => (∀ c : Dev Cert.AFinal.nD,
      r.2.mem ((c.tc : Thread Cert.AFinal.nD Cert.AFinal.τ).loc Cert.AFinal.main_arg0) = m ((c.tc : Thread Cert.AFinal.nD Cert.AFinal.τ).loc Cert.AFinal.main_arg0)
      ∧ r.2.mem ((c.tc : Thread Cert.AFinal.nD Cert.AFinal.τ).loc Cert.AFinal.main_arg1) = m ((c.tc : Thread Cert.AFinal.nD Cert.AFinal.τ).loc Cert.AFinal.main_arg1)
      ∧ r.2.mem ((c.tc : Thread Cert.AFinal.nD Cert.AFinal.τ).loc Cert.AFinal.main_arg2) = m ((c.tc : Thread Cert.AFinal.nD Cert.AFinal.τ).loc Cert.AFinal.main_arg2)
      ∧ r.2.mem ((c.tc : Thread Cert.AFinal.nD Cert.AFinal.τ).loc Cert.AFinal.main_arg3) = m ((c.tc : Thread Cert.AFinal.nD Cert.AFinal.τ).loc Cert.AFinal.main_arg3))
      ∧ r.2.sem = fun _ => 0)

def quiescent_AFinalIdeal [hAFinalIdeal : Cert.AFinalIdeal.Facts] : Prop :=
  ∀ (m : (ℓ : Loc Cert.AFinalIdeal.nD Cert.AFinalIdeal.τ Cert.AFinalIdeal.sig) → Buf (Elt Ideal) ℓ) (g : Dev Cert.AFinalIdeal.nD → PrngReg), Pre_AFinalIdeal m →
    θ_run (Cert.AFinalIdeal.defs (F := Ideal)) (onTc (τ := Cert.AFinalIdeal.τ) (Cert.AFinalIdeal.main (F := Ideal))) ⟨m, fun _ => 0, g⟩ (fun r => (∀ c : Dev Cert.AFinalIdeal.nD,
      r.2.mem ((c.tc : Thread Cert.AFinalIdeal.nD Cert.AFinalIdeal.τ).loc Cert.AFinalIdeal.main_arg0) = m ((c.tc : Thread Cert.AFinalIdeal.nD Cert.AFinalIdeal.τ).loc Cert.AFinalIdeal.main_arg0)
      ∧ r.2.mem ((c.tc : Thread Cert.AFinalIdeal.nD Cert.AFinalIdeal.τ).loc Cert.AFinalIdeal.main_arg1) = m ((c.tc : Thread Cert.AFinalIdeal.nD Cert.AFinalIdeal.τ).loc Cert.AFinalIdeal.main_arg1)
      ∧ r.2.mem ((c.tc : Thread Cert.AFinalIdeal.nD Cert.AFinalIdeal.τ).loc Cert.AFinalIdeal.main_arg2) = m ((c.tc : Thread Cert.AFinalIdeal.nD Cert.AFinalIdeal.τ).loc Cert.AFinalIdeal.main_arg2)
      ∧ r.2.mem ((c.tc : Thread Cert.AFinalIdeal.nD Cert.AFinalIdeal.τ).loc Cert.AFinalIdeal.main_arg3) = m ((c.tc : Thread Cert.AFinalIdeal.nD Cert.AFinalIdeal.τ).loc Cert.AFinalIdeal.main_arg3))
      ∧ r.2.sem = fun _ => 0)

def quiescent_AFinalRefIdeal [hAFinalRefIdeal : Cert.AFinalRefIdeal.Facts] : Prop :=
  ∀ (m : (ℓ : Loc Cert.AFinalRefIdeal.nD Cert.AFinalRefIdeal.τ Cert.AFinalRefIdeal.sig) → Buf (Elt Ideal) ℓ) (g : Dev Cert.AFinalRefIdeal.nD → PrngReg), Pre_AFinalRefIdeal m →
    θ_run (Cert.AFinalRefIdeal.defs (F := Ideal)) (onTc (τ := Cert.AFinalRefIdeal.τ) (Cert.AFinalRefIdeal.main (F := Ideal))) ⟨m, fun _ => 0, g⟩ (fun r => (∀ c : Dev Cert.AFinalRefIdeal.nD,
      r.2.mem ((c.tc : Thread Cert.AFinalRefIdeal.nD Cert.AFinalRefIdeal.τ).loc Cert.AFinalRefIdeal.main_arg0) = m ((c.tc : Thread Cert.AFinalRefIdeal.nD Cert.AFinalRefIdeal.τ).loc Cert.AFinalRefIdeal.main_arg0)
      ∧ r.2.mem ((c.tc : Thread Cert.AFinalRefIdeal.nD Cert.AFinalRefIdeal.τ).loc Cert.AFinalRefIdeal.main_arg1) = m ((c.tc : Thread Cert.AFinalRefIdeal.nD Cert.AFinalRefIdeal.τ).loc Cert.AFinalRefIdeal.main_arg1)
      ∧ r.2.mem ((c.tc : Thread Cert.AFinalRefIdeal.nD Cert.AFinalRefIdeal.τ).loc Cert.AFinalRefIdeal.main_arg2) = m ((c.tc : Thread Cert.AFinalRefIdeal.nD Cert.AFinalRefIdeal.τ).loc Cert.AFinalRefIdeal.main_arg2)
      ∧ r.2.mem ((c.tc : Thread Cert.AFinalRefIdeal.nD Cert.AFinalRefIdeal.τ).loc Cert.AFinalRefIdeal.main_arg3) = m ((c.tc : Thread Cert.AFinalRefIdeal.nD Cert.AFinalRefIdeal.τ).loc Cert.AFinalRefIdeal.main_arg3))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_SSmall [hSSmall : Cert.SSmall.Facts] : Prop :=
  ∀ (m : (ℓ : Loc Cert.SSmall.nD Cert.SSmall.τ Cert.SSmall.sig) → Buf (Elt Bits) ℓ) (g : Dev Cert.SSmall.nD → PrngReg), Pre_SSmall m →
    θ_run (Cert.SSmall.defs (F := Bits)) (onTc (τ := Cert.SSmall.τ) (Cert.SSmall.main (F := Bits))) ⟨m, fun _ => 0, g⟩ (fun r => (∀ c : Dev Cert.SSmall.nD,
      r.2.mem ((c.tc : Thread Cert.SSmall.nD Cert.SSmall.τ).loc Cert.SSmall.main_arg0) = m ((c.tc : Thread Cert.SSmall.nD Cert.SSmall.τ).loc Cert.SSmall.main_arg0))
      ∧ r.2.sem = fun _ => 0)

def quiescent_SSmallIdeal [hSSmallIdeal : Cert.SSmallIdeal.Facts] : Prop :=
  ∀ (m : (ℓ : Loc Cert.SSmallIdeal.nD Cert.SSmallIdeal.τ Cert.SSmallIdeal.sig) → Buf (Elt Ideal) ℓ) (g : Dev Cert.SSmallIdeal.nD → PrngReg), Pre_SSmallIdeal m →
    θ_run (Cert.SSmallIdeal.defs (F := Ideal)) (onTc (τ := Cert.SSmallIdeal.τ) (Cert.SSmallIdeal.main (F := Ideal))) ⟨m, fun _ => 0, g⟩ (fun r => (∀ c : Dev Cert.SSmallIdeal.nD,
      r.2.mem ((c.tc : Thread Cert.SSmallIdeal.nD Cert.SSmallIdeal.τ).loc Cert.SSmallIdeal.main_arg0) = m ((c.tc : Thread Cert.SSmallIdeal.nD Cert.SSmallIdeal.τ).loc Cert.SSmallIdeal.main_arg0))
      ∧ r.2.sem = fun _ => 0)

def quiescent_SSmallRefIdeal [hSSmallRefIdeal : Cert.SSmallRefIdeal.Facts] : Prop :=
  ∀ (m : (ℓ : Loc Cert.SSmallRefIdeal.nD Cert.SSmallRefIdeal.τ Cert.SSmallRefIdeal.sig) → Buf (Elt Ideal) ℓ) (g : Dev Cert.SSmallRefIdeal.nD → PrngReg), Pre_SSmallRefIdeal m →
    θ_run (Cert.SSmallRefIdeal.defs (F := Ideal)) (onTc (τ := Cert.SSmallRefIdeal.τ) (Cert.SSmallRefIdeal.main (F := Ideal))) ⟨m, fun _ => 0, g⟩ (fun r => (∀ c : Dev Cert.SSmallRefIdeal.nD,
      r.2.mem ((c.tc : Thread Cert.SSmallRefIdeal.nD Cert.SSmallRefIdeal.τ).loc Cert.SSmallRefIdeal.main_arg0) = m ((c.tc : Thread Cert.SSmallRefIdeal.nD Cert.SSmallRefIdeal.τ).loc Cert.SSmallRefIdeal.main_arg0))
      ∧ r.2.sem = fun _ => 0)

def quiescent_SPw [hSPw : Cert.SPw.Facts] : Prop :=
  ∀ (m : (ℓ : Loc Cert.SPw.nD Cert.SPw.τ Cert.SPw.sig) → Buf (Elt Bits) ℓ) (g : Dev Cert.SPw.nD → PrngReg), Pre_SPw m →
    θ_run (Cert.SPw.defs (F := Bits)) (onTc (τ := Cert.SPw.τ) (Cert.SPw.main (F := Bits))) ⟨m, fun _ => 0, g⟩ (fun r => (∀ c : Dev Cert.SPw.nD,
      r.2.mem ((c.tc : Thread Cert.SPw.nD Cert.SPw.τ).loc Cert.SPw.main_arg0) = m ((c.tc : Thread Cert.SPw.nD Cert.SPw.τ).loc Cert.SPw.main_arg0))
      ∧ r.2.sem = fun _ => 0)

def quiescent_SPwIdeal [hSPwIdeal : Cert.SPwIdeal.Facts] : Prop :=
  ∀ (m : (ℓ : Loc Cert.SPwIdeal.nD Cert.SPwIdeal.τ Cert.SPwIdeal.sig) → Buf (Elt Ideal) ℓ) (g : Dev Cert.SPwIdeal.nD → PrngReg), Pre_SPwIdeal m →
    θ_run (Cert.SPwIdeal.defs (F := Ideal)) (onTc (τ := Cert.SPwIdeal.τ) (Cert.SPwIdeal.main (F := Ideal))) ⟨m, fun _ => 0, g⟩ (fun r => (∀ c : Dev Cert.SPwIdeal.nD,
      r.2.mem ((c.tc : Thread Cert.SPwIdeal.nD Cert.SPwIdeal.τ).loc Cert.SPwIdeal.main_arg0) = m ((c.tc : Thread Cert.SPwIdeal.nD Cert.SPwIdeal.τ).loc Cert.SPwIdeal.main_arg0))
      ∧ r.2.sem = fun _ => 0)

def quiescent_SPwRefIdeal [hSPwRefIdeal : Cert.SPwRefIdeal.Facts] : Prop :=
  ∀ (m : (ℓ : Loc Cert.SPwRefIdeal.nD Cert.SPwRefIdeal.τ Cert.SPwRefIdeal.sig) → Buf (Elt Ideal) ℓ) (g : Dev Cert.SPwRefIdeal.nD → PrngReg), Pre_SPwRefIdeal m →
    θ_run (Cert.SPwRefIdeal.defs (F := Ideal)) (onTc (τ := Cert.SPwRefIdeal.τ) (Cert.SPwRefIdeal.main (F := Ideal))) ⟨m, fun _ => 0, g⟩ (fun r => (∀ c : Dev Cert.SPwRefIdeal.nD,
      r.2.mem ((c.tc : Thread Cert.SPwRefIdeal.nD Cert.SPwRefIdeal.τ).loc Cert.SPwRefIdeal.main_arg0) = m ((c.tc : Thread Cert.SPwRefIdeal.nD Cert.SPwRefIdeal.τ).loc Cert.SPwRefIdeal.main_arg0))
      ∧ r.2.sem = fun _ => 0)

def quiescent_SIn [hSIn : Cert.SIn.Facts] : Prop :=
  ∀ (m : (ℓ : Loc Cert.SIn.nD Cert.SIn.τ Cert.SIn.sig) → Buf (Elt Bits) ℓ) (g : Dev Cert.SIn.nD → PrngReg), Pre_SIn m →
    θ_run (Cert.SIn.defs (F := Bits)) (onTc (τ := Cert.SIn.τ) (Cert.SIn.main (F := Bits))) ⟨m, fun _ => 0, g⟩ (fun r => (∀ c : Dev Cert.SIn.nD,
      r.2.mem ((c.tc : Thread Cert.SIn.nD Cert.SIn.τ).loc Cert.SIn.main_arg0) = m ((c.tc : Thread Cert.SIn.nD Cert.SIn.τ).loc Cert.SIn.main_arg0))
      ∧ r.2.sem = fun _ => 0)

def quiescent_SInIdeal [hSInIdeal : Cert.SInIdeal.Facts] : Prop :=
  ∀ (m : (ℓ : Loc Cert.SInIdeal.nD Cert.SInIdeal.τ Cert.SInIdeal.sig) → Buf (Elt Ideal) ℓ) (g : Dev Cert.SInIdeal.nD → PrngReg), Pre_SInIdeal m →
    θ_run (Cert.SInIdeal.defs (F := Ideal)) (onTc (τ := Cert.SInIdeal.τ) (Cert.SInIdeal.main (F := Ideal))) ⟨m, fun _ => 0, g⟩ (fun r => (∀ c : Dev Cert.SInIdeal.nD,
      r.2.mem ((c.tc : Thread Cert.SInIdeal.nD Cert.SInIdeal.τ).loc Cert.SInIdeal.main_arg0) = m ((c.tc : Thread Cert.SInIdeal.nD Cert.SInIdeal.τ).loc Cert.SInIdeal.main_arg0))
      ∧ r.2.sem = fun _ => 0)

def quiescent_SInRefIdeal [hSInRefIdeal : Cert.SInRefIdeal.Facts] : Prop :=
  ∀ (m : (ℓ : Loc Cert.SInRefIdeal.nD Cert.SInRefIdeal.τ Cert.SInRefIdeal.sig) → Buf (Elt Ideal) ℓ) (g : Dev Cert.SInRefIdeal.nD → PrngReg), Pre_SInRefIdeal m →
    θ_run (Cert.SInRefIdeal.defs (F := Ideal)) (onTc (τ := Cert.SInRefIdeal.τ) (Cert.SInRefIdeal.main (F := Ideal))) ⟨m, fun _ => 0, g⟩ (fun r => (∀ c : Dev Cert.SInRefIdeal.nD,
      r.2.mem ((c.tc : Thread Cert.SInRefIdeal.nD Cert.SInRefIdeal.τ).loc Cert.SInRefIdeal.main_arg0) = m ((c.tc : Thread Cert.SInRefIdeal.nD Cert.SInRefIdeal.τ).loc Cert.SInRefIdeal.main_arg0))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0))
      ∧ r.2.sem = fun _ => 0)

def quiescent_APrep [hAPrep : Cert.APrep.Facts] : Prop :=
  ∀ (m : (ℓ : Loc Cert.APrep.nD Cert.APrep.τ Cert.APrep.sig) → Buf (Elt Bits) ℓ) (g : Dev Cert.APrep.nD → PrngReg), Pre_APrep m →
    θ_run (Cert.APrep.defs (F := Bits)) (onTc (τ := Cert.APrep.τ) (Cert.APrep.main (F := Bits))) ⟨m, fun _ => 0, g⟩ (fun r => (∀ c : Dev Cert.APrep.nD,
      r.2.mem ((c.tc : Thread Cert.APrep.nD Cert.APrep.τ).loc Cert.APrep.main_arg0) = m ((c.tc : Thread Cert.APrep.nD Cert.APrep.τ).loc Cert.APrep.main_arg0)
      ∧ r.2.mem ((c.tc : Thread Cert.APrep.nD Cert.APrep.τ).loc Cert.APrep.main_arg1) = m ((c.tc : Thread Cert.APrep.nD Cert.APrep.τ).loc Cert.APrep.main_arg1)
      ∧ r.2.mem ((c.tc : Thread Cert.APrep.nD Cert.APrep.τ).loc Cert.APrep.main_arg2) = m ((c.tc : Thread Cert.APrep.nD Cert.APrep.τ).loc Cert.APrep.main_arg2)
      ∧ r.2.mem ((c.tc : Thread Cert.APrep.nD Cert.APrep.τ).loc Cert.APrep.main_arg3) = m ((c.tc : Thread Cert.APrep.nD Cert.APrep.τ).loc Cert.APrep.main_arg3)
      ∧ r.2.mem ((c.tc : Thread Cert.APrep.nD Cert.APrep.τ).loc Cert.APrep.main_arg4) = m ((c.tc : Thread Cert.APrep.nD Cert.APrep.τ).loc Cert.APrep.main_arg4)
      ∧ r.2.mem ((c.tc : Thread Cert.APrep.nD Cert.APrep.τ).loc Cert.APrep.main_arg5) = m ((c.tc : Thread Cert.APrep.nD Cert.APrep.τ).loc Cert.APrep.main_arg5)
      ∧ r.2.mem ((c.tc : Thread Cert.APrep.nD Cert.APrep.τ).loc Cert.APrep.main_arg6) = m ((c.tc : Thread Cert.APrep.nD Cert.APrep.τ).loc Cert.APrep.main_arg6)
      ∧ r.2.mem ((c.tc : Thread Cert.APrep.nD Cert.APrep.τ).loc Cert.APrep.main_arg7) = m ((c.tc : Thread Cert.APrep.nD Cert.APrep.τ).loc Cert.APrep.main_arg7)
      ∧ r.2.mem ((c.tc : Thread Cert.APrep.nD Cert.APrep.τ).loc Cert.APrep.main_arg8) = m ((c.tc : Thread Cert.APrep.nD Cert.APrep.τ).loc Cert.APrep.main_arg8)
      ∧ r.2.mem ((c.tc : Thread Cert.APrep.nD Cert.APrep.τ).loc Cert.APrep.main_arg9) = m ((c.tc : Thread Cert.APrep.nD Cert.APrep.τ).loc Cert.APrep.main_arg9)
      ∧ r.2.mem ((c.tc : Thread Cert.APrep.nD Cert.APrep.τ).loc Cert.APrep.main_arg10) = m ((c.tc : Thread Cert.APrep.nD Cert.APrep.τ).loc Cert.APrep.main_arg10)
      ∧ r.2.mem ((c.tc : Thread Cert.APrep.nD Cert.APrep.τ).loc Cert.APrep.main_arg11) = m ((c.tc : Thread Cert.APrep.nD Cert.APrep.τ).loc Cert.APrep.main_arg11))
      ∧ r.2.sem = fun _ => 0)

def quiescent_APrepIdeal [hAPrepIdeal : Cert.APrepIdeal.Facts] : Prop :=
  ∀ (m : (ℓ : Loc Cert.APrepIdeal.nD Cert.APrepIdeal.τ Cert.APrepIdeal.sig) → Buf (Elt Ideal) ℓ) (g : Dev Cert.APrepIdeal.nD → PrngReg), Pre_APrepIdeal m →
    θ_run (Cert.APrepIdeal.defs (F := Ideal)) (onTc (τ := Cert.APrepIdeal.τ) (Cert.APrepIdeal.main (F := Ideal))) ⟨m, fun _ => 0, g⟩ (fun r => (∀ c : Dev Cert.APrepIdeal.nD,
      r.2.mem ((c.tc : Thread Cert.APrepIdeal.nD Cert.APrepIdeal.τ).loc Cert.APrepIdeal.main_arg0) = m ((c.tc : Thread Cert.APrepIdeal.nD Cert.APrepIdeal.τ).loc Cert.APrepIdeal.main_arg0)
      ∧ r.2.mem ((c.tc : Thread Cert.APrepIdeal.nD Cert.APrepIdeal.τ).loc Cert.APrepIdeal.main_arg1) = m ((c.tc : Thread Cert.APrepIdeal.nD Cert.APrepIdeal.τ).loc Cert.APrepIdeal.main_arg1)
      ∧ r.2.mem ((c.tc : Thread Cert.APrepIdeal.nD Cert.APrepIdeal.τ).loc Cert.APrepIdeal.main_arg2) = m ((c.tc : Thread Cert.APrepIdeal.nD Cert.APrepIdeal.τ).loc Cert.APrepIdeal.main_arg2)
      ∧ r.2.mem ((c.tc : Thread Cert.APrepIdeal.nD Cert.APrepIdeal.τ).loc Cert.APrepIdeal.main_arg3) = m ((c.tc : Thread Cert.APrepIdeal.nD Cert.APrepIdeal.τ).loc Cert.APrepIdeal.main_arg3)
      ∧ r.2.mem ((c.tc : Thread Cert.APrepIdeal.nD Cert.APrepIdeal.τ).loc Cert.APrepIdeal.main_arg4) = m ((c.tc : Thread Cert.APrepIdeal.nD Cert.APrepIdeal.τ).loc Cert.APrepIdeal.main_arg4)
      ∧ r.2.mem ((c.tc : Thread Cert.APrepIdeal.nD Cert.APrepIdeal.τ).loc Cert.APrepIdeal.main_arg5) = m ((c.tc : Thread Cert.APrepIdeal.nD Cert.APrepIdeal.τ).loc Cert.APrepIdeal.main_arg5)
      ∧ r.2.mem ((c.tc : Thread Cert.APrepIdeal.nD Cert.APrepIdeal.τ).loc Cert.APrepIdeal.main_arg6) = m ((c.tc : Thread Cert.APrepIdeal.nD Cert.APrepIdeal.τ).loc Cert.APrepIdeal.main_arg6)
      ∧ r.2.mem ((c.tc : Thread Cert.APrepIdeal.nD Cert.APrepIdeal.τ).loc Cert.APrepIdeal.main_arg7) = m ((c.tc : Thread Cert.APrepIdeal.nD Cert.APrepIdeal.τ).loc Cert.APrepIdeal.main_arg7)
      ∧ r.2.mem ((c.tc : Thread Cert.APrepIdeal.nD Cert.APrepIdeal.τ).loc Cert.APrepIdeal.main_arg8) = m ((c.tc : Thread Cert.APrepIdeal.nD Cert.APrepIdeal.τ).loc Cert.APrepIdeal.main_arg8)
      ∧ r.2.mem ((c.tc : Thread Cert.APrepIdeal.nD Cert.APrepIdeal.τ).loc Cert.APrepIdeal.main_arg9) = m ((c.tc : Thread Cert.APrepIdeal.nD Cert.APrepIdeal.τ).loc Cert.APrepIdeal.main_arg9)
      ∧ r.2.mem ((c.tc : Thread Cert.APrepIdeal.nD Cert.APrepIdeal.τ).loc Cert.APrepIdeal.main_arg10) = m ((c.tc : Thread Cert.APrepIdeal.nD Cert.APrepIdeal.τ).loc Cert.APrepIdeal.main_arg10)
      ∧ r.2.mem ((c.tc : Thread Cert.APrepIdeal.nD Cert.APrepIdeal.τ).loc Cert.APrepIdeal.main_arg11) = m ((c.tc : Thread Cert.APrepIdeal.nD Cert.APrepIdeal.τ).loc Cert.APrepIdeal.main_arg11))
      ∧ r.2.sem = fun _ => 0)

def quiescent_APrepRefIdeal [hAPrepRefIdeal : Cert.APrepRefIdeal.Facts] : Prop :=
  ∀ (m : (ℓ : Loc Cert.APrepRefIdeal.nD Cert.APrepRefIdeal.τ Cert.APrepRefIdeal.sig) → Buf (Elt Ideal) ℓ) (g : Dev Cert.APrepRefIdeal.nD → PrngReg), Pre_APrepRefIdeal m →
    θ_run (Cert.APrepRefIdeal.defs (F := Ideal)) (onTc (τ := Cert.APrepRefIdeal.τ) (Cert.APrepRefIdeal.main (F := Ideal))) ⟨m, fun _ => 0, g⟩ (fun r => (∀ c : Dev Cert.APrepRefIdeal.nD,
      r.2.mem ((c.tc : Thread Cert.APrepRefIdeal.nD Cert.APrepRefIdeal.τ).loc Cert.APrepRefIdeal.main_arg0) = m ((c.tc : Thread Cert.APrepRefIdeal.nD Cert.APrepRefIdeal.τ).loc Cert.APrepRefIdeal.main_arg0)
      ∧ r.2.mem ((c.tc : Thread Cert.APrepRefIdeal.nD Cert.APrepRefIdeal.τ).loc Cert.APrepRefIdeal.main_arg1) = m ((c.tc : Thread Cert.APrepRefIdeal.nD Cert.APrepRefIdeal.τ).loc Cert.APrepRefIdeal.main_arg1)
      ∧ r.2.mem ((c.tc : Thread Cert.APrepRefIdeal.nD Cert.APrepRefIdeal.τ).loc Cert.APrepRefIdeal.main_arg2) = m ((c.tc : Thread Cert.APrepRefIdeal.nD Cert.APrepRefIdeal.τ).loc Cert.APrepRefIdeal.main_arg2)
      ∧ r.2.mem ((c.tc : Thread Cert.APrepRefIdeal.nD Cert.APrepRefIdeal.τ).loc Cert.APrepRefIdeal.main_arg3) = m ((c.tc : Thread Cert.APrepRefIdeal.nD Cert.APrepRefIdeal.τ).loc Cert.APrepRefIdeal.main_arg3)
      ∧ r.2.mem ((c.tc : Thread Cert.APrepRefIdeal.nD Cert.APrepRefIdeal.τ).loc Cert.APrepRefIdeal.main_arg4) = m ((c.tc : Thread Cert.APrepRefIdeal.nD Cert.APrepRefIdeal.τ).loc Cert.APrepRefIdeal.main_arg4)
      ∧ r.2.mem ((c.tc : Thread Cert.APrepRefIdeal.nD Cert.APrepRefIdeal.τ).loc Cert.APrepRefIdeal.main_arg5) = m ((c.tc : Thread Cert.APrepRefIdeal.nD Cert.APrepRefIdeal.τ).loc Cert.APrepRefIdeal.main_arg5)
      ∧ r.2.mem ((c.tc : Thread Cert.APrepRefIdeal.nD Cert.APrepRefIdeal.τ).loc Cert.APrepRefIdeal.main_arg6) = m ((c.tc : Thread Cert.APrepRefIdeal.nD Cert.APrepRefIdeal.τ).loc Cert.APrepRefIdeal.main_arg6)
      ∧ r.2.mem ((c.tc : Thread Cert.APrepRefIdeal.nD Cert.APrepRefIdeal.τ).loc Cert.APrepRefIdeal.main_arg7) = m ((c.tc : Thread Cert.APrepRefIdeal.nD Cert.APrepRefIdeal.τ).loc Cert.APrepRefIdeal.main_arg7)
      ∧ r.2.mem ((c.tc : Thread Cert.APrepRefIdeal.nD Cert.APrepRefIdeal.τ).loc Cert.APrepRefIdeal.main_arg8) = m ((c.tc : Thread Cert.APrepRefIdeal.nD Cert.APrepRefIdeal.τ).loc Cert.APrepRefIdeal.main_arg8)
      ∧ r.2.mem ((c.tc : Thread Cert.APrepRefIdeal.nD Cert.APrepRefIdeal.τ).loc Cert.APrepRefIdeal.main_arg9) = m ((c.tc : Thread Cert.APrepRefIdeal.nD Cert.APrepRefIdeal.τ).loc Cert.APrepRefIdeal.main_arg9)
      ∧ r.2.mem ((c.tc : Thread Cert.APrepRefIdeal.nD Cert.APrepRefIdeal.τ).loc Cert.APrepRefIdeal.main_arg10) = m ((c.tc : Thread Cert.APrepRefIdeal.nD Cert.APrepRefIdeal.τ).loc Cert.APrepRefIdeal.main_arg10)
      ∧ r.2.mem ((c.tc : Thread Cert.APrepRefIdeal.nD Cert.APrepRefIdeal.τ).loc Cert.APrepRefIdeal.main_arg11) = m ((c.tc : Thread Cert.APrepRefIdeal.nD Cert.APrepRefIdeal.τ).loc Cert.APrepRefIdeal.main_arg11))
      ∧ r.2.sem = fun _ => 0)

def quiescent_APrepF [hAPrepF : Cert.APrepF.Facts] : Prop :=
  ∀ (m : (ℓ : Loc Cert.APrepF.nD Cert.APrepF.τ Cert.APrepF.sig) → Buf (Elt Bits) ℓ) (g : Dev Cert.APrepF.nD → PrngReg), Pre_APrepF m →
    θ_run (Cert.APrepF.defs (F := Bits)) (onTc (τ := Cert.APrepF.τ) (Cert.APrepF.main (F := Bits))) ⟨m, fun _ => 0, g⟩ (fun r => (∀ c : Dev Cert.APrepF.nD,
      r.2.mem ((c.tc : Thread Cert.APrepF.nD Cert.APrepF.τ).loc Cert.APrepF.main_arg0) = m ((c.tc : Thread Cert.APrepF.nD Cert.APrepF.τ).loc Cert.APrepF.main_arg0)
      ∧ r.2.mem ((c.tc : Thread Cert.APrepF.nD Cert.APrepF.τ).loc Cert.APrepF.main_arg1) = m ((c.tc : Thread Cert.APrepF.nD Cert.APrepF.τ).loc Cert.APrepF.main_arg1)
      ∧ r.2.mem ((c.tc : Thread Cert.APrepF.nD Cert.APrepF.τ).loc Cert.APrepF.main_arg2) = m ((c.tc : Thread Cert.APrepF.nD Cert.APrepF.τ).loc Cert.APrepF.main_arg2))
      ∧ r.2.sem = fun _ => 0)

def quiescent_APrepFIdeal [hAPrepFIdeal : Cert.APrepFIdeal.Facts] : Prop :=
  ∀ (m : (ℓ : Loc Cert.APrepFIdeal.nD Cert.APrepFIdeal.τ Cert.APrepFIdeal.sig) → Buf (Elt Ideal) ℓ) (g : Dev Cert.APrepFIdeal.nD → PrngReg), Pre_APrepFIdeal m →
    θ_run (Cert.APrepFIdeal.defs (F := Ideal)) (onTc (τ := Cert.APrepFIdeal.τ) (Cert.APrepFIdeal.main (F := Ideal))) ⟨m, fun _ => 0, g⟩ (fun r => (∀ c : Dev Cert.APrepFIdeal.nD,
      r.2.mem ((c.tc : Thread Cert.APrepFIdeal.nD Cert.APrepFIdeal.τ).loc Cert.APrepFIdeal.main_arg0) = m ((c.tc : Thread Cert.APrepFIdeal.nD Cert.APrepFIdeal.τ).loc Cert.APrepFIdeal.main_arg0)
      ∧ r.2.mem ((c.tc : Thread Cert.APrepFIdeal.nD Cert.APrepFIdeal.τ).loc Cert.APrepFIdeal.main_arg1) = m ((c.tc : Thread Cert.APrepFIdeal.nD Cert.APrepFIdeal.τ).loc Cert.APrepFIdeal.main_arg1)
      ∧ r.2.mem ((c.tc : Thread Cert.APrepFIdeal.nD Cert.APrepFIdeal.τ).loc Cert.APrepFIdeal.main_arg2) = m ((c.tc : Thread Cert.APrepFIdeal.nD Cert.APrepFIdeal.τ).loc Cert.APrepFIdeal.main_arg2))
      ∧ r.2.sem = fun _ => 0)

def quiescent_APrepFRefIdeal [hAPrepFRefIdeal : Cert.APrepFRefIdeal.Facts] : Prop :=
  ∀ (m : (ℓ : Loc Cert.APrepFRefIdeal.nD Cert.APrepFRefIdeal.τ Cert.APrepFRefIdeal.sig) → Buf (Elt Ideal) ℓ) (g : Dev Cert.APrepFRefIdeal.nD → PrngReg), Pre_APrepFRefIdeal m →
    θ_run (Cert.APrepFRefIdeal.defs (F := Ideal)) (onTc (τ := Cert.APrepFRefIdeal.τ) (Cert.APrepFRefIdeal.main (F := Ideal))) ⟨m, fun _ => 0, g⟩ (fun r => (∀ c : Dev Cert.APrepFRefIdeal.nD,
      r.2.mem ((c.tc : Thread Cert.APrepFRefIdeal.nD Cert.APrepFRefIdeal.τ).loc Cert.APrepFRefIdeal.main_arg0) = m ((c.tc : Thread Cert.APrepFRefIdeal.nD Cert.APrepFRefIdeal.τ).loc Cert.APrepFRefIdeal.main_arg0)
      ∧ r.2.mem ((c.tc : Thread Cert.APrepFRefIdeal.nD Cert.APrepFRefIdeal.τ).loc Cert.APrepFRefIdeal.main_arg1) = m ((c.tc : Thread Cert.APrepFRefIdeal.nD Cert.APrepFRefIdeal.τ).loc Cert.APrepFRefIdeal.main_arg1)
      ∧ r.2.mem ((c.tc : Thread Cert.APrepFRefIdeal.nD Cert.APrepFRefIdeal.τ).loc Cert.APrepFRefIdeal.main_arg2) = m ((c.tc : Thread Cert.APrepFRefIdeal.nD Cert.APrepFRefIdeal.τ).loc Cert.APrepFRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DhIn_DhInIdeal : Prop :=
  True

def algebraic_DhInIdeal_DhInRefIdeal [hDhInIdeal : Cert.DhInIdeal.Facts] [hDhInRefIdeal : Cert.DhInRefIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.DhInRefIdeal.nD Cert.DhInRefIdeal.τ Cert.DhInRefIdeal.sig) → Buf (Elt Ideal) ℓ) (g' : Dev Cert.DhInRefIdeal.nD → PrngReg), Pre_DhInIdeal m →
    (∀ c : Dev Cert.DhInIdeal.nD,
      m' ((c.tc : Thread Cert.DhInRefIdeal.nD Cert.DhInRefIdeal.τ).loc Cert.DhInRefIdeal.main_arg0) = m ((c.tc : Thread Cert.DhInIdeal.nD Cert.DhInIdeal.τ).loc Cert.DhInIdeal.main_arg0)
      ∧ m' ((c.tc : Thread Cert.DhInRefIdeal.nD Cert.DhInRefIdeal.τ).loc Cert.DhInRefIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v0)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v0) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.DhInRefIdeal.defs (F := Ideal)) (onTc (τ := Cert.DhInRefIdeal.τ) (Cert.DhInRefIdeal.main (F := Ideal))) ⟨m', fun _ => 0, g'⟩ (fun r => ∀ c : Dev Cert.DhInRefIdeal.nD,
          r.2.mem ((c.tc : Thread Cert.DhInRefIdeal.nD Cert.DhInRefIdeal.τ).loc Cert.DhInRefIdeal.main_v4) = v0 c
          ∧ r.2.mem ((c.tc : Thread Cert.DhInRefIdeal.nD Cert.DhInRefIdeal.τ).loc Cert.DhInRefIdeal.main_arg0) = m' ((c.tc : Thread Cert.DhInRefIdeal.nD Cert.DhInRefIdeal.τ).loc Cert.DhInRefIdeal.main_arg0)
          ∧ r.2.mem ((c.tc : Thread Cert.DhInRefIdeal.nD Cert.DhInRefIdeal.τ).loc Cert.DhInRefIdeal.main_arg1) = m' ((c.tc : Thread Cert.DhInRefIdeal.nD Cert.DhInRefIdeal.τ).loc Cert.DhInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DyOut_DyOutIdeal : Prop :=
  True

def algebraic_DyOutIdeal_DyOutRefIdeal [hDyOutIdeal : Cert.DyOutIdeal.Facts] [hDyOutRefIdeal : Cert.DyOutRefIdeal.Facts] : Prop :=
  ∀ (m : (ℓ : Loc Cert.DyOutIdeal.nD Cert.DyOutIdeal.τ Cert.DyOutIdeal.sig) → Buf (Elt Ideal) ℓ) (g : Dev Cert.DyOutIdeal.nD → PrngReg)
    (m' : (ℓ : Loc Cert.DyOutRefIdeal.nD Cert.DyOutRefIdeal.τ Cert.DyOutRefIdeal.sig) → Buf (Elt Ideal) ℓ) (g' : Dev Cert.DyOutRefIdeal.nD → PrngReg), Pre_DyOutIdeal m →
    (∀ c : Dev Cert.DyOutIdeal.nD,
      m' ((c.tc : Thread Cert.DyOutRefIdeal.nD Cert.DyOutRefIdeal.τ).loc Cert.DyOutRefIdeal.main_arg0) = m ((c.tc : Thread Cert.DyOutIdeal.nD Cert.DyOutIdeal.τ).loc Cert.DyOutIdeal.main_arg0)
      ∧ m' ((c.tc : Thread Cert.DyOutRefIdeal.nD Cert.DyOutRefIdeal.τ).loc Cert.DyOutRefIdeal.main_arg1) = m ((c.tc : Thread Cert.DyOutIdeal.nD Cert.DyOutIdeal.τ).loc Cert.DyOutIdeal.main_arg1)) →
    ∃ (v0 : (c : Dev Cert.DyOutIdeal.nD) → Buf (Elt Ideal) ((c.tc : Thread Cert.DyOutIdeal.nD Cert.DyOutIdeal.τ).loc Cert.DyOutIdeal.main_v0)),
      θ_run (Cert.DyOutIdeal.defs (F := Ideal)) (onTc (τ := Cert.DyOutIdeal.τ) (Cert.DyOutIdeal.main (F := Ideal))) ⟨m, fun _ => 0, g⟩ (fun r => ∀ c : Dev Cert.DyOutIdeal.nD,
          r.2.mem ((c.tc : Thread Cert.DyOutIdeal.nD Cert.DyOutIdeal.τ).loc Cert.DyOutIdeal.main_v0) = v0 c
          ∧ r.2.mem ((c.tc : Thread Cert.DyOutIdeal.nD Cert.DyOutIdeal.τ).loc Cert.DyOutIdeal.main_arg0) = m ((c.tc : Thread Cert.DyOutIdeal.nD Cert.DyOutIdeal.τ).loc Cert.DyOutIdeal.main_arg0)
          ∧ r.2.mem ((c.tc : Thread Cert.DyOutIdeal.nD Cert.DyOutIdeal.τ).loc Cert.DyOutIdeal.main_arg1) = m ((c.tc : Thread Cert.DyOutIdeal.nD Cert.DyOutIdeal.τ).loc Cert.DyOutIdeal.main_arg1))
      ∧ θ_run (Cert.DyOutRefIdeal.defs (F := Ideal)) (onTc (τ := Cert.DyOutRefIdeal.τ) (Cert.DyOutRefIdeal.main (F := Ideal))) ⟨m', fun _ => 0, g'⟩ (fun r => ∀ c : Dev Cert.DyOutRefIdeal.nD,
          r.2.mem ((c.tc : Thread Cert.DyOutRefIdeal.nD Cert.DyOutRefIdeal.τ).loc Cert.DyOutRefIdeal.main_v3) = v0 c
          ∧ r.2.mem ((c.tc : Thread Cert.DyOutRefIdeal.nD Cert.DyOutRefIdeal.τ).loc Cert.DyOutRefIdeal.main_arg0) = m' ((c.tc : Thread Cert.DyOutRefIdeal.nD Cert.DyOutRefIdeal.τ).loc Cert.DyOutRefIdeal.main_arg0)
          ∧ r.2.mem ((c.tc : Thread Cert.DyOutRefIdeal.nD Cert.DyOutRefIdeal.τ).loc Cert.DyOutRefIdeal.main_arg1) = m' ((c.tc : Thread Cert.DyOutRefIdeal.nD Cert.DyOutRefIdeal.τ).loc Cert.DyOutRefIdeal.main_arg1))

def preserves_MIn_MInIdeal : Prop :=
  True

def algebraic_MInIdeal_MInRefIdeal [hMInIdeal : Cert.MInIdeal.Facts] [hMInRefIdeal : Cert.MInRefIdeal.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.MInRefIdeal.nD Cert.MInRefIdeal.τ Cert.MInRefIdeal.sig) → Buf (Elt Ideal) ℓ) (g' : Dev Cert.MInRefIdeal.nD → PrngReg), Pre_MInIdeal m →
    (∀ c : Dev Cert.MInIdeal.nD,
      m' ((c.tc : Thread Cert.MInRefIdeal.nD Cert.MInRefIdeal.τ).loc Cert.MInRefIdeal.main_arg0) = m ((c.tc : Thread Cert.MInIdeal.nD Cert.MInIdeal.τ).loc Cert.MInIdeal.main_arg0)
      ∧ m' ((c.tc : Thread Cert.MInRefIdeal.nD Cert.MInRefIdeal.τ).loc Cert.MInRefIdeal.main_arg1) = m ((c.tc : Thread Cert.MInIdeal.nD Cert.MInIdeal.τ).loc Cert.MInIdeal.main_arg1)) →
    ∃ (v0 : (c : Dev Cert.MInIdeal.nD) → Buf (Elt Ideal) ((c.tc : Thread Cert.MInIdeal.nD Cert.MInIdeal.τ).loc Cert.MInIdeal.main_v0)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v0) = v0 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1))
      ∧ θ_run (Cert.MInRefIdeal.defs (F := Ideal)) (onTc (τ := Cert.MInRefIdeal.τ) (Cert.MInRefIdeal.main (F := Ideal))) ⟨m', fun _ => 0, g'⟩ (fun r => ∀ c : Dev Cert.MInRefIdeal.nD,
          r.2.mem ((c.tc : Thread Cert.MInRefIdeal.nD Cert.MInRefIdeal.τ).loc Cert.MInRefIdeal.main_v2) = v0 c
          ∧ r.2.mem ((c.tc : Thread Cert.MInRefIdeal.nD Cert.MInRefIdeal.τ).loc Cert.MInRefIdeal.main_arg0) = m' ((c.tc : Thread Cert.MInRefIdeal.nD Cert.MInRefIdeal.τ).loc Cert.MInRefIdeal.main_arg0)
          ∧ r.2.mem ((c.tc : Thread Cert.MInRefIdeal.nD Cert.MInRefIdeal.τ).loc Cert.MInRefIdeal.main_arg1) = m' ((c.tc : Thread Cert.MInRefIdeal.nD Cert.MInRefIdeal.τ).loc Cert.MInRefIdeal.main_arg1))

def preserves_MOut_MOutIdeal : Prop :=
  True

def algebraic_MOutIdeal_MOutRefIdeal [hMOutIdeal : Cert.MOutIdeal.Facts] [hMOutRefIdeal : Cert.MOutRefIdeal.Facts] : Prop :=
  ∀ (m : (ℓ : Loc Cert.MOutIdeal.nD Cert.MOutIdeal.τ Cert.MOutIdeal.sig) → Buf (Elt Ideal) ℓ) (g : Dev Cert.MOutIdeal.nD → PrngReg)
    (m' : (ℓ : Loc Cert.MOutRefIdeal.nD Cert.MOutRefIdeal.τ Cert.MOutRefIdeal.sig) → Buf (Elt Ideal) ℓ) (g' : Dev Cert.MOutRefIdeal.nD → PrngReg), Pre_MOutIdeal m →
    (∀ c : Dev Cert.MOutIdeal.nD,
      m' ((c.tc : Thread Cert.MOutRefIdeal.nD Cert.MOutRefIdeal.τ).loc Cert.MOutRefIdeal.main_arg0) = m ((c.tc : Thread Cert.MOutIdeal.nD Cert.MOutIdeal.τ).loc Cert.MOutIdeal.main_arg0)
      ∧ m' ((c.tc : Thread Cert.MOutRefIdeal.nD Cert.MOutRefIdeal.τ).loc Cert.MOutRefIdeal.main_arg1) = m ((c.tc : Thread Cert.MOutIdeal.nD Cert.MOutIdeal.τ).loc Cert.MOutIdeal.main_arg1)
      ∧ m' ((c.tc : Thread Cert.MOutRefIdeal.nD Cert.MOutRefIdeal.τ).loc Cert.MOutRefIdeal.main_arg2) = m ((c.tc : Thread Cert.MOutIdeal.nD Cert.MOutIdeal.τ).loc Cert.MOutIdeal.main_arg2)) →
    ∃ (v0 : (c : Dev Cert.MOutIdeal.nD) → Buf (Elt Ideal) ((c.tc : Thread Cert.MOutIdeal.nD Cert.MOutIdeal.τ).loc Cert.MOutIdeal.main_v0)),
      θ_run (Cert.MOutIdeal.defs (F := Ideal)) (onTc (τ := Cert.MOutIdeal.τ) (Cert.MOutIdeal.main (F := Ideal))) ⟨m, fun _ => 0, g⟩ (fun r => ∀ c : Dev Cert.MOutIdeal.nD,
          r.2.mem ((c.tc : Thread Cert.MOutIdeal.nD Cert.MOutIdeal.τ).loc Cert.MOutIdeal.main_v0) = v0 c
          ∧ r.2.mem ((c.tc : Thread Cert.MOutIdeal.nD Cert.MOutIdeal.τ).loc Cert.MOutIdeal.main_arg0) = m ((c.tc : Thread Cert.MOutIdeal.nD Cert.MOutIdeal.τ).loc Cert.MOutIdeal.main_arg0)
          ∧ r.2.mem ((c.tc : Thread Cert.MOutIdeal.nD Cert.MOutIdeal.τ).loc Cert.MOutIdeal.main_arg1) = m ((c.tc : Thread Cert.MOutIdeal.nD Cert.MOutIdeal.τ).loc Cert.MOutIdeal.main_arg1)
          ∧ r.2.mem ((c.tc : Thread Cert.MOutIdeal.nD Cert.MOutIdeal.τ).loc Cert.MOutIdeal.main_arg2) = m ((c.tc : Thread Cert.MOutIdeal.nD Cert.MOutIdeal.τ).loc Cert.MOutIdeal.main_arg2))
      ∧ θ_run (Cert.MOutRefIdeal.defs (F := Ideal)) (onTc (τ := Cert.MOutRefIdeal.τ) (Cert.MOutRefIdeal.main (F := Ideal))) ⟨m', fun _ => 0, g'⟩ (fun r => ∀ c : Dev Cert.MOutRefIdeal.nD,
          r.2.mem ((c.tc : Thread Cert.MOutRefIdeal.nD Cert.MOutRefIdeal.τ).loc Cert.MOutRefIdeal.main_v3) = v0 c
          ∧ r.2.mem ((c.tc : Thread Cert.MOutRefIdeal.nD Cert.MOutRefIdeal.τ).loc Cert.MOutRefIdeal.main_arg0) = m' ((c.tc : Thread Cert.MOutRefIdeal.nD Cert.MOutRefIdeal.τ).loc Cert.MOutRefIdeal.main_arg0)
          ∧ r.2.mem ((c.tc : Thread Cert.MOutRefIdeal.nD Cert.MOutRefIdeal.τ).loc Cert.MOutRefIdeal.main_arg1) = m' ((c.tc : Thread Cert.MOutRefIdeal.nD Cert.MOutRefIdeal.τ).loc Cert.MOutRefIdeal.main_arg1)
          ∧ r.2.mem ((c.tc : Thread Cert.MOutRefIdeal.nD Cert.MOutRefIdeal.τ).loc Cert.MOutRefIdeal.main_arg2) = m' ((c.tc : Thread Cert.MOutRefIdeal.nD Cert.MOutRefIdeal.τ).loc Cert.MOutRefIdeal.main_arg2))

def preserves_AWIn_AWInIdeal : Prop :=
  True

def algebraic_AWInIdeal_AWInRefIdeal [hAWInIdeal : Cert.AWInIdeal.Facts] [hAWInRefIdeal : Cert.AWInRefIdeal.Facts] : Prop :=
  ∀ (m : (ℓ : Loc Cert.AWInIdeal.nD Cert.AWInIdeal.τ Cert.AWInIdeal.sig) → Buf (Elt Ideal) ℓ) (g : Dev Cert.AWInIdeal.nD → PrngReg)
    (m' : (ℓ : Loc Cert.AWInRefIdeal.nD Cert.AWInRefIdeal.τ Cert.AWInRefIdeal.sig) → Buf (Elt Ideal) ℓ) (g' : Dev Cert.AWInRefIdeal.nD → PrngReg), Pre_AWInIdeal m →
    (∀ c : Dev Cert.AWInIdeal.nD,
      m' ((c.tc : Thread Cert.AWInRefIdeal.nD Cert.AWInRefIdeal.τ).loc Cert.AWInRefIdeal.main_arg0) = m ((c.tc : Thread Cert.AWInIdeal.nD Cert.AWInIdeal.τ).loc Cert.AWInIdeal.main_arg0)
      ∧ m' ((c.tc : Thread Cert.AWInRefIdeal.nD Cert.AWInRefIdeal.τ).loc Cert.AWInRefIdeal.main_arg1) = m ((c.tc : Thread Cert.AWInIdeal.nD Cert.AWInIdeal.τ).loc Cert.AWInIdeal.main_arg1)
      ∧ m' ((c.tc : Thread Cert.AWInRefIdeal.nD Cert.AWInRefIdeal.τ).loc Cert.AWInRefIdeal.main_arg2) = m ((c.tc : Thread Cert.AWInIdeal.nD Cert.AWInIdeal.τ).loc Cert.AWInIdeal.main_arg2)
      ∧ m' ((c.tc : Thread Cert.AWInRefIdeal.nD Cert.AWInRefIdeal.τ).loc Cert.AWInRefIdeal.main_arg3) = m ((c.tc : Thread Cert.AWInIdeal.nD Cert.AWInIdeal.τ).loc Cert.AWInIdeal.main_arg3)) →
    ∃ (v0 : (c : Dev Cert.AWInIdeal.nD) → Buf (Elt Ideal) ((c.tc : Thread Cert.AWInIdeal.nD Cert.AWInIdeal.τ).loc Cert.AWInIdeal.main_v0_0)) (v1 : (c : Dev Cert.AWInIdeal.nD) → Buf (Elt Ideal) ((c.tc : Thread Cert.AWInIdeal.nD Cert.AWInIdeal.τ).loc Cert.AWInIdeal.main_v0_1)) (v2 : (c : Dev Cert.AWInIdeal.nD) → Buf (Elt Ideal) ((c.tc : Thread Cert.AWInIdeal.nD Cert.AWInIdeal.τ).loc Cert.AWInIdeal.main_v0_2)),
      θ_run (Cert.AWInIdeal.defs (F := Ideal)) (onTc (τ := Cert.AWInIdeal.τ) (Cert.AWInIdeal.main (F := Ideal))) ⟨m, fun _ => 0, g⟩ (fun r => ∀ c : Dev Cert.AWInIdeal.nD,
          r.2.mem ((c.tc : Thread Cert.AWInIdeal.nD Cert.AWInIdeal.τ).loc Cert.AWInIdeal.main_v0_0) = v0 c
          ∧ r.2.mem ((c.tc : Thread Cert.AWInIdeal.nD Cert.AWInIdeal.τ).loc Cert.AWInIdeal.main_v0_1) = v1 c
          ∧ r.2.mem ((c.tc : Thread Cert.AWInIdeal.nD Cert.AWInIdeal.τ).loc Cert.AWInIdeal.main_v0_2) = v2 c
          ∧ r.2.mem ((c.tc : Thread Cert.AWInIdeal.nD Cert.AWInIdeal.τ).loc Cert.AWInIdeal.main_arg0) = m ((c.tc : Thread Cert.AWInIdeal.nD Cert.AWInIdeal.τ).loc Cert.AWInIdeal.main_arg0)
          ∧ r.2.mem ((c.tc : Thread Cert.AWInIdeal.nD Cert.AWInIdeal.τ).loc Cert.AWInIdeal.main_arg1) = m ((c.tc : Thread Cert.AWInIdeal.nD Cert.AWInIdeal.τ).loc Cert.AWInIdeal.main_arg1)
          ∧ r.2.mem ((c.tc : Thread Cert.AWInIdeal.nD Cert.AWInIdeal.τ).loc Cert.AWInIdeal.main_arg2) = m ((c.tc : Thread Cert.AWInIdeal.nD Cert.AWInIdeal.τ).loc Cert.AWInIdeal.main_arg2)
          ∧ r.2.mem ((c.tc : Thread Cert.AWInIdeal.nD Cert.AWInIdeal.τ).loc Cert.AWInIdeal.main_arg3) = m ((c.tc : Thread Cert.AWInIdeal.nD Cert.AWInIdeal.τ).loc Cert.AWInIdeal.main_arg3))
      ∧ θ_run (Cert.AWInRefIdeal.defs (F := Ideal)) (onTc (τ := Cert.AWInRefIdeal.τ) (Cert.AWInRefIdeal.main (F := Ideal))) ⟨m', fun _ => 0, g'⟩ (fun r => ∀ c : Dev Cert.AWInRefIdeal.nD,
          r.2.mem ((c.tc : Thread Cert.AWInRefIdeal.nD Cert.AWInRefIdeal.τ).loc Cert.AWInRefIdeal.main_v23) = v0 c
          ∧ r.2.mem ((c.tc : Thread Cert.AWInRefIdeal.nD Cert.AWInRefIdeal.τ).loc Cert.AWInRefIdeal.main_v4) = v1 c
          ∧ r.2.mem ((c.tc : Thread Cert.AWInRefIdeal.nD Cert.AWInRefIdeal.τ).loc Cert.AWInRefIdeal.main_v10) = v2 c
          ∧ r.2.mem ((c.tc : Thread Cert.AWInRefIdeal.nD Cert.AWInRefIdeal.τ).loc Cert.AWInRefIdeal.main_arg0) = m' ((c.tc : Thread Cert.AWInRefIdeal.nD Cert.AWInRefIdeal.τ).loc Cert.AWInRefIdeal.main_arg0)
          ∧ r.2.mem ((c.tc : Thread Cert.AWInRefIdeal.nD Cert.AWInRefIdeal.τ).loc Cert.AWInRefIdeal.main_arg1) = m' ((c.tc : Thread Cert.AWInRefIdeal.nD Cert.AWInRefIdeal.τ).loc Cert.AWInRefIdeal.main_arg1)
          ∧ r.2.mem ((c.tc : Thread Cert.AWInRefIdeal.nD Cert.AWInRefIdeal.τ).loc Cert.AWInRefIdeal.main_arg2) = m' ((c.tc : Thread Cert.AWInRefIdeal.nD Cert.AWInRefIdeal.τ).loc Cert.AWInRefIdeal.main_arg2)
          ∧ r.2.mem ((c.tc : Thread Cert.AWInRefIdeal.nD Cert.AWInRefIdeal.τ).loc Cert.AWInRefIdeal.main_arg3) = m' ((c.tc : Thread Cert.AWInRefIdeal.nD Cert.AWInRefIdeal.τ).loc Cert.AWInRefIdeal.main_arg3))

def preserves_AWOut_AWOutIdeal : Prop :=
  True

def algebraic_AWOutIdeal_AWOutRefIdeal [hAWOutIdeal : Cert.AWOutIdeal.Facts] [hAWOutRefIdeal : Cert.AWOutRefIdeal.Facts] : Prop :=
  ∀ (m : (ℓ : Loc Cert.AWOutIdeal.nD Cert.AWOutIdeal.τ Cert.AWOutIdeal.sig) → Buf (Elt Ideal) ℓ) (g : Dev Cert.AWOutIdeal.nD → PrngReg)
    (m' : (ℓ : Loc Cert.AWOutRefIdeal.nD Cert.AWOutRefIdeal.τ Cert.AWOutRefIdeal.sig) → Buf (Elt Ideal) ℓ) (g' : Dev Cert.AWOutRefIdeal.nD → PrngReg), Pre_AWOutIdeal m →
    (∀ c : Dev Cert.AWOutIdeal.nD,
      m' ((c.tc : Thread Cert.AWOutRefIdeal.nD Cert.AWOutRefIdeal.τ).loc Cert.AWOutRefIdeal.main_arg0) = m ((c.tc : Thread Cert.AWOutIdeal.nD Cert.AWOutIdeal.τ).loc Cert.AWOutIdeal.main_arg0)
      ∧ m' ((c.tc : Thread Cert.AWOutRefIdeal.nD Cert.AWOutRefIdeal.τ).loc Cert.AWOutRefIdeal.main_arg1) = m ((c.tc : Thread Cert.AWOutIdeal.nD Cert.AWOutIdeal.τ).loc Cert.AWOutIdeal.main_arg1)
      ∧ m' ((c.tc : Thread Cert.AWOutRefIdeal.nD Cert.AWOutRefIdeal.τ).loc Cert.AWOutRefIdeal.main_arg2) = m ((c.tc : Thread Cert.AWOutIdeal.nD Cert.AWOutIdeal.τ).loc Cert.AWOutIdeal.main_arg2)
      ∧ m' ((c.tc : Thread Cert.AWOutRefIdeal.nD Cert.AWOutRefIdeal.τ).loc Cert.AWOutRefIdeal.main_arg3) = m ((c.tc : Thread Cert.AWOutIdeal.nD Cert.AWOutIdeal.τ).loc Cert.AWOutIdeal.main_arg3)) →
    ∃ (v0 : (c : Dev Cert.AWOutIdeal.nD) → Buf (Elt Ideal) ((c.tc : Thread Cert.AWOutIdeal.nD Cert.AWOutIdeal.τ).loc Cert.AWOutIdeal.main_v0_0)) (v1 : (c : Dev Cert.AWOutIdeal.nD) → Buf (Elt Ideal) ((c.tc : Thread Cert.AWOutIdeal.nD Cert.AWOutIdeal.τ).loc Cert.AWOutIdeal.main_v0_1)) (v2 : (c : Dev Cert.AWOutIdeal.nD) → Buf (Elt Ideal) ((c.tc : Thread Cert.AWOutIdeal.nD Cert.AWOutIdeal.τ).loc Cert.AWOutIdeal.main_v0_2)),
      θ_run (Cert.AWOutIdeal.defs (F := Ideal)) (onTc (τ := Cert.AWOutIdeal.τ) (Cert.AWOutIdeal.main (F := Ideal))) ⟨m, fun _ => 0, g⟩ (fun r => ∀ c : Dev Cert.AWOutIdeal.nD,
          r.2.mem ((c.tc : Thread Cert.AWOutIdeal.nD Cert.AWOutIdeal.τ).loc Cert.AWOutIdeal.main_v0_0) = v0 c
          ∧ r.2.mem ((c.tc : Thread Cert.AWOutIdeal.nD Cert.AWOutIdeal.τ).loc Cert.AWOutIdeal.main_v0_1) = v1 c
          ∧ r.2.mem ((c.tc : Thread Cert.AWOutIdeal.nD Cert.AWOutIdeal.τ).loc Cert.AWOutIdeal.main_v0_2) = v2 c
          ∧ r.2.mem ((c.tc : Thread Cert.AWOutIdeal.nD Cert.AWOutIdeal.τ).loc Cert.AWOutIdeal.main_arg0) = m ((c.tc : Thread Cert.AWOutIdeal.nD Cert.AWOutIdeal.τ).loc Cert.AWOutIdeal.main_arg0)
          ∧ r.2.mem ((c.tc : Thread Cert.AWOutIdeal.nD Cert.AWOutIdeal.τ).loc Cert.AWOutIdeal.main_arg1) = m ((c.tc : Thread Cert.AWOutIdeal.nD Cert.AWOutIdeal.τ).loc Cert.AWOutIdeal.main_arg1)
          ∧ r.2.mem ((c.tc : Thread Cert.AWOutIdeal.nD Cert.AWOutIdeal.τ).loc Cert.AWOutIdeal.main_arg2) = m ((c.tc : Thread Cert.AWOutIdeal.nD Cert.AWOutIdeal.τ).loc Cert.AWOutIdeal.main_arg2)
          ∧ r.2.mem ((c.tc : Thread Cert.AWOutIdeal.nD Cert.AWOutIdeal.τ).loc Cert.AWOutIdeal.main_arg3) = m ((c.tc : Thread Cert.AWOutIdeal.nD Cert.AWOutIdeal.τ).loc Cert.AWOutIdeal.main_arg3))
      ∧ θ_run (Cert.AWOutRefIdeal.defs (F := Ideal)) (onTc (τ := Cert.AWOutRefIdeal.τ) (Cert.AWOutRefIdeal.main (F := Ideal))) ⟨m', fun _ => 0, g'⟩ (fun r => ∀ c : Dev Cert.AWOutRefIdeal.nD,
          r.2.mem ((c.tc : Thread Cert.AWOutRefIdeal.nD Cert.AWOutRefIdeal.τ).loc Cert.AWOutRefIdeal.main_v23) = v0 c
          ∧ r.2.mem ((c.tc : Thread Cert.AWOutRefIdeal.nD Cert.AWOutRefIdeal.τ).loc Cert.AWOutRefIdeal.main_v4) = v1 c
          ∧ r.2.mem ((c.tc : Thread Cert.AWOutRefIdeal.nD Cert.AWOutRefIdeal.τ).loc Cert.AWOutRefIdeal.main_v10) = v2 c
          ∧ r.2.mem ((c.tc : Thread Cert.AWOutRefIdeal.nD Cert.AWOutRefIdeal.τ).loc Cert.AWOutRefIdeal.main_arg0) = m' ((c.tc : Thread Cert.AWOutRefIdeal.nD Cert.AWOutRefIdeal.τ).loc Cert.AWOutRefIdeal.main_arg0)
          ∧ r.2.mem ((c.tc : Thread Cert.AWOutRefIdeal.nD Cert.AWOutRefIdeal.τ).loc Cert.AWOutRefIdeal.main_arg1) = m' ((c.tc : Thread Cert.AWOutRefIdeal.nD Cert.AWOutRefIdeal.τ).loc Cert.AWOutRefIdeal.main_arg1)
          ∧ r.2.mem ((c.tc : Thread Cert.AWOutRefIdeal.nD Cert.AWOutRefIdeal.τ).loc Cert.AWOutRefIdeal.main_arg2) = m' ((c.tc : Thread Cert.AWOutRefIdeal.nD Cert.AWOutRefIdeal.τ).loc Cert.AWOutRefIdeal.main_arg2)
          ∧ r.2.mem ((c.tc : Thread Cert.AWOutRefIdeal.nD Cert.AWOutRefIdeal.τ).loc Cert.AWOutRefIdeal.main_arg3) = m' ((c.tc : Thread Cert.AWOutRefIdeal.nD Cert.AWOutRefIdeal.τ).loc Cert.AWOutRefIdeal.main_arg3))

def preserves_ANorm_ANormIdeal : Prop :=
  True

def algebraic_ANormIdeal_ANormRefIdeal [hANormIdeal : Cert.ANormIdeal.Facts] [hANormRefIdeal : Cert.ANormRefIdeal.Facts] : Prop :=
  ∀ (m : (ℓ : Loc Cert.ANormIdeal.nD Cert.ANormIdeal.τ Cert.ANormIdeal.sig) → Buf (Elt Ideal) ℓ) (g : Dev Cert.ANormIdeal.nD → PrngReg)
    (m' : (ℓ : Loc Cert.ANormRefIdeal.nD Cert.ANormRefIdeal.τ Cert.ANormRefIdeal.sig) → Buf (Elt Ideal) ℓ) (g' : Dev Cert.ANormRefIdeal.nD → PrngReg), Pre_ANormIdeal m →
    (∀ c : Dev Cert.ANormIdeal.nD,
      m' ((c.tc : Thread Cert.ANormRefIdeal.nD Cert.ANormRefIdeal.τ).loc Cert.ANormRefIdeal.main_arg0) = m ((c.tc : Thread Cert.ANormIdeal.nD Cert.ANormIdeal.τ).loc Cert.ANormIdeal.main_arg0)
      ∧ m' ((c.tc : Thread Cert.ANormRefIdeal.nD Cert.ANormRefIdeal.τ).loc Cert.ANormRefIdeal.main_arg1) = m ((c.tc : Thread Cert.ANormIdeal.nD Cert.ANormIdeal.τ).loc Cert.ANormIdeal.main_arg1)
      ∧ m' ((c.tc : Thread Cert.ANormRefIdeal.nD Cert.ANormRefIdeal.τ).loc Cert.ANormRefIdeal.main_arg2) = m ((c.tc : Thread Cert.ANormIdeal.nD Cert.ANormIdeal.τ).loc Cert.ANormIdeal.main_arg2)
      ∧ m' ((c.tc : Thread Cert.ANormRefIdeal.nD Cert.ANormRefIdeal.τ).loc Cert.ANormRefIdeal.main_arg3) = m ((c.tc : Thread Cert.ANormIdeal.nD Cert.ANormIdeal.τ).loc Cert.ANormIdeal.main_arg3)) →
    ∃ (v0 : (c : Dev Cert.ANormIdeal.nD) → Buf (Elt Ideal) ((c.tc : Thread Cert.ANormIdeal.nD Cert.ANormIdeal.τ).loc Cert.ANormIdeal.main_v0_0)) (v1 : (c : Dev Cert.ANormIdeal.nD) → Buf (Elt Ideal) ((c.tc : Thread Cert.ANormIdeal.nD Cert.ANormIdeal.τ).loc Cert.ANormIdeal.main_v0_1)) (v2 : (c : Dev Cert.ANormIdeal.nD) → Buf (Elt Ideal) ((c.tc : Thread Cert.ANormIdeal.nD Cert.ANormIdeal.τ).loc Cert.ANormIdeal.main_v0_2)),
      θ_run (Cert.ANormIdeal.defs (F := Ideal)) (onTc (τ := Cert.ANormIdeal.τ) (Cert.ANormIdeal.main (F := Ideal))) ⟨m, fun _ => 0, g⟩ (fun r => ∀ c : Dev Cert.ANormIdeal.nD,
          r.2.mem ((c.tc : Thread Cert.ANormIdeal.nD Cert.ANormIdeal.τ).loc Cert.ANormIdeal.main_v0_0) = v0 c
          ∧ r.2.mem ((c.tc : Thread Cert.ANormIdeal.nD Cert.ANormIdeal.τ).loc Cert.ANormIdeal.main_v0_1) = v1 c
          ∧ r.2.mem ((c.tc : Thread Cert.ANormIdeal.nD Cert.ANormIdeal.τ).loc Cert.ANormIdeal.main_v0_2) = v2 c
          ∧ r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
          ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
          ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
          ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3))
      ∧ θ_run (Cert.ANormRefIdeal.defs (F := Ideal)) (onTc (τ := Cert.ANormRefIdeal.τ) (Cert.ANormRefIdeal.main (F := Ideal))) ⟨m', fun _ => 0, g'⟩ (fun r => ∀ c : Dev Cert.ANormRefIdeal.nD,
          r.2.mem ((c.tc : Thread Cert.ANormRefIdeal.nD Cert.ANormRefIdeal.τ).loc Cert.ANormRefIdeal.main_v23) = v0 c
          ∧ r.2.mem ((c.tc : Thread Cert.ANormRefIdeal.nD Cert.ANormRefIdeal.τ).loc Cert.ANormRefIdeal.main_v4) = v1 c
          ∧ r.2.mem ((c.tc : Thread Cert.ANormRefIdeal.nD Cert.ANormRefIdeal.τ).loc Cert.ANormRefIdeal.main_v10) = v2 c
          ∧ r.2.mem ((c.tc : Thread Cert.ANormRefIdeal.nD Cert.ANormRefIdeal.τ).loc Cert.ANormRefIdeal.main_arg0) = m' ((c.tc : Thread Cert.ANormRefIdeal.nD Cert.ANormRefIdeal.τ).loc Cert.ANormRefIdeal.main_arg0)
          ∧ r.2.mem ((c.tc : Thread Cert.ANormRefIdeal.nD Cert.ANormRefIdeal.τ).loc Cert.ANormRefIdeal.main_arg1) = m' ((c.tc : Thread Cert.ANormRefIdeal.nD Cert.ANormRefIdeal.τ).loc Cert.ANormRefIdeal.main_arg1)
          ∧ r.2.mem ((c.tc : Thread Cert.ANormRefIdeal.nD Cert.ANormRefIdeal.τ).loc Cert.ANormRefIdeal.main_arg2) = m' ((c.tc : Thread Cert.ANormRefIdeal.nD Cert.ANormRefIdeal.τ).loc Cert.ANormRefIdeal.main_arg2)
          ∧ r.2.mem ((c.tc : Thread Cert.ANormRefIdeal.nD Cert.ANormRefIdeal.τ).loc Cert.ANormRefIdeal.main_arg3) = m' ((c.tc : Thread Cert.ANormRefIdeal.nD Cert.ANormRefIdeal.τ).loc Cert.ANormRefIdeal.main_arg3))

def preserves_AShort_AShortIdeal : Prop :=
  True

def algebraic_AShortIdeal_AShortRefIdeal [hAShortIdeal : Cert.AShortIdeal.Facts] [hAShortRefIdeal : Cert.AShortRefIdeal.Facts] : Prop :=
  ∀ (m : (ℓ : Loc Cert.AShortIdeal.nD Cert.AShortIdeal.τ Cert.AShortIdeal.sig) → Buf (Elt Ideal) ℓ) (g : Dev Cert.AShortIdeal.nD → PrngReg)
    (m' : (ℓ : Loc Cert.AShortRefIdeal.nD Cert.AShortRefIdeal.τ Cert.AShortRefIdeal.sig) → Buf (Elt Ideal) ℓ) (g' : Dev Cert.AShortRefIdeal.nD → PrngReg), Pre_AShortIdeal m →
    (∀ c : Dev Cert.AShortIdeal.nD,
      m' ((c.tc : Thread Cert.AShortRefIdeal.nD Cert.AShortRefIdeal.τ).loc Cert.AShortRefIdeal.main_arg0) = m ((c.tc : Thread Cert.AShortIdeal.nD Cert.AShortIdeal.τ).loc Cert.AShortIdeal.main_arg0)
      ∧ m' ((c.tc : Thread Cert.AShortRefIdeal.nD Cert.AShortRefIdeal.τ).loc Cert.AShortRefIdeal.main_arg1) = m ((c.tc : Thread Cert.AShortIdeal.nD Cert.AShortIdeal.τ).loc Cert.AShortIdeal.main_arg1)
      ∧ m' ((c.tc : Thread Cert.AShortRefIdeal.nD Cert.AShortRefIdeal.τ).loc Cert.AShortRefIdeal.main_arg2) = m ((c.tc : Thread Cert.AShortIdeal.nD Cert.AShortIdeal.τ).loc Cert.AShortIdeal.main_arg2)
      ∧ m' ((c.tc : Thread Cert.AShortRefIdeal.nD Cert.AShortRefIdeal.τ).loc Cert.AShortRefIdeal.main_arg3) = m ((c.tc : Thread Cert.AShortIdeal.nD Cert.AShortIdeal.τ).loc Cert.AShortIdeal.main_arg3)) →
    ∃ (v0 : (c : Dev Cert.AShortIdeal.nD) → Buf (Elt Ideal) ((c.tc : Thread Cert.AShortIdeal.nD Cert.AShortIdeal.τ).loc Cert.AShortIdeal.main_v0_0)) (v1 : (c : Dev Cert.AShortIdeal.nD) → Buf (Elt Ideal) ((c.tc : Thread Cert.AShortIdeal.nD Cert.AShortIdeal.τ).loc Cert.AShortIdeal.main_v0_1)) (v2 : (c : Dev Cert.AShortIdeal.nD) → Buf (Elt Ideal) ((c.tc : Thread Cert.AShortIdeal.nD Cert.AShortIdeal.τ).loc Cert.AShortIdeal.main_v0_2)),
      θ_run (Cert.AShortIdeal.defs (F := Ideal)) (onTc (τ := Cert.AShortIdeal.τ) (Cert.AShortIdeal.main (F := Ideal))) ⟨m, fun _ => 0, g⟩ (fun r => ∀ c : Dev Cert.AShortIdeal.nD,
          r.2.mem ((c.tc : Thread Cert.AShortIdeal.nD Cert.AShortIdeal.τ).loc Cert.AShortIdeal.main_v0_0) = v0 c
          ∧ r.2.mem ((c.tc : Thread Cert.AShortIdeal.nD Cert.AShortIdeal.τ).loc Cert.AShortIdeal.main_v0_1) = v1 c
          ∧ r.2.mem ((c.tc : Thread Cert.AShortIdeal.nD Cert.AShortIdeal.τ).loc Cert.AShortIdeal.main_v0_2) = v2 c
          ∧ r.2.mem ((c.tc : Thread Cert.AShortIdeal.nD Cert.AShortIdeal.τ).loc Cert.AShortIdeal.main_arg0) = m ((c.tc : Thread Cert.AShortIdeal.nD Cert.AShortIdeal.τ).loc Cert.AShortIdeal.main_arg0)
          ∧ r.2.mem ((c.tc : Thread Cert.AShortIdeal.nD Cert.AShortIdeal.τ).loc Cert.AShortIdeal.main_arg1) = m ((c.tc : Thread Cert.AShortIdeal.nD Cert.AShortIdeal.τ).loc Cert.AShortIdeal.main_arg1)
          ∧ r.2.mem ((c.tc : Thread Cert.AShortIdeal.nD Cert.AShortIdeal.τ).loc Cert.AShortIdeal.main_arg2) = m ((c.tc : Thread Cert.AShortIdeal.nD Cert.AShortIdeal.τ).loc Cert.AShortIdeal.main_arg2)
          ∧ r.2.mem ((c.tc : Thread Cert.AShortIdeal.nD Cert.AShortIdeal.τ).loc Cert.AShortIdeal.main_arg3) = m ((c.tc : Thread Cert.AShortIdeal.nD Cert.AShortIdeal.τ).loc Cert.AShortIdeal.main_arg3))
      ∧ θ_run (Cert.AShortRefIdeal.defs (F := Ideal)) (onTc (τ := Cert.AShortRefIdeal.τ) (Cert.AShortRefIdeal.main (F := Ideal))) ⟨m', fun _ => 0, g'⟩ (fun r => ∀ c : Dev Cert.AShortRefIdeal.nD,
          r.2.mem ((c.tc : Thread Cert.AShortRefIdeal.nD Cert.AShortRefIdeal.τ).loc Cert.AShortRefIdeal.main_v23) = v0 c
          ∧ r.2.mem ((c.tc : Thread Cert.AShortRefIdeal.nD Cert.AShortRefIdeal.τ).loc Cert.AShortRefIdeal.main_v4) = v1 c
          ∧ r.2.mem ((c.tc : Thread Cert.AShortRefIdeal.nD Cert.AShortRefIdeal.τ).loc Cert.AShortRefIdeal.main_v10) = v2 c
          ∧ r.2.mem ((c.tc : Thread Cert.AShortRefIdeal.nD Cert.AShortRefIdeal.τ).loc Cert.AShortRefIdeal.main_arg0) = m' ((c.tc : Thread Cert.AShortRefIdeal.nD Cert.AShortRefIdeal.τ).loc Cert.AShortRefIdeal.main_arg0)
          ∧ r.2.mem ((c.tc : Thread Cert.AShortRefIdeal.nD Cert.AShortRefIdeal.τ).loc Cert.AShortRefIdeal.main_arg1) = m' ((c.tc : Thread Cert.AShortRefIdeal.nD Cert.AShortRefIdeal.τ).loc Cert.AShortRefIdeal.main_arg1)
          ∧ r.2.mem ((c.tc : Thread Cert.AShortRefIdeal.nD Cert.AShortRefIdeal.τ).loc Cert.AShortRefIdeal.main_arg2) = m' ((c.tc : Thread Cert.AShortRefIdeal.nD Cert.AShortRefIdeal.τ).loc Cert.AShortRefIdeal.main_arg2)
          ∧ r.2.mem ((c.tc : Thread Cert.AShortRefIdeal.nD Cert.AShortRefIdeal.τ).loc Cert.AShortRefIdeal.main_arg3) = m' ((c.tc : Thread Cert.AShortRefIdeal.nD Cert.AShortRefIdeal.τ).loc Cert.AShortRefIdeal.main_arg3))

def preserves_AHead_AHeadIdeal : Prop :=
  True

def algebraic_AHeadIdeal_AHeadRefIdeal [hAHeadIdeal : Cert.AHeadIdeal.Facts] [hAHeadRefIdeal : Cert.AHeadRefIdeal.Facts] : Prop :=
  ∀ (m : (ℓ : Loc Cert.AHeadIdeal.nD Cert.AHeadIdeal.τ Cert.AHeadIdeal.sig) → Buf (Elt Ideal) ℓ) (g : Dev Cert.AHeadIdeal.nD → PrngReg)
    (m' : (ℓ : Loc Cert.AHeadRefIdeal.nD Cert.AHeadRefIdeal.τ Cert.AHeadRefIdeal.sig) → Buf (Elt Ideal) ℓ) (g' : Dev Cert.AHeadRefIdeal.nD → PrngReg), Pre_AHeadIdeal m →
    (∀ c : Dev Cert.AHeadIdeal.nD,
      m' ((c.tc : Thread Cert.AHeadRefIdeal.nD Cert.AHeadRefIdeal.τ).loc Cert.AHeadRefIdeal.main_arg0) = m ((c.tc : Thread Cert.AHeadIdeal.nD Cert.AHeadIdeal.τ).loc Cert.AHeadIdeal.main_arg0)
      ∧ m' ((c.tc : Thread Cert.AHeadRefIdeal.nD Cert.AHeadRefIdeal.τ).loc Cert.AHeadRefIdeal.main_arg1) = m ((c.tc : Thread Cert.AHeadIdeal.nD Cert.AHeadIdeal.τ).loc Cert.AHeadIdeal.main_arg1)
      ∧ m' ((c.tc : Thread Cert.AHeadRefIdeal.nD Cert.AHeadRefIdeal.τ).loc Cert.AHeadRefIdeal.main_arg2) = m ((c.tc : Thread Cert.AHeadIdeal.nD Cert.AHeadIdeal.τ).loc Cert.AHeadIdeal.main_arg2)
      ∧ m' ((c.tc : Thread Cert.AHeadRefIdeal.nD Cert.AHeadRefIdeal.τ).loc Cert.AHeadRefIdeal.main_arg3) = m ((c.tc : Thread Cert.AHeadIdeal.nD Cert.AHeadIdeal.τ).loc Cert.AHeadIdeal.main_arg3)) →
    ∃ (v0 : (c : Dev Cert.AHeadIdeal.nD) → Buf (Elt Ideal) ((c.tc : Thread Cert.AHeadIdeal.nD Cert.AHeadIdeal.τ).loc Cert.AHeadIdeal.main_v0_0)) (v1 : (c : Dev Cert.AHeadIdeal.nD) → Buf (Elt Ideal) ((c.tc : Thread Cert.AHeadIdeal.nD Cert.AHeadIdeal.τ).loc Cert.AHeadIdeal.main_v0_1)) (v2 : (c : Dev Cert.AHeadIdeal.nD) → Buf (Elt Ideal) ((c.tc : Thread Cert.AHeadIdeal.nD Cert.AHeadIdeal.τ).loc Cert.AHeadIdeal.main_v0_2)),
      θ_run (Cert.AHeadIdeal.defs (F := Ideal)) (onTc (τ := Cert.AHeadIdeal.τ) (Cert.AHeadIdeal.main (F := Ideal))) ⟨m, fun _ => 0, g⟩ (fun r => ∀ c : Dev Cert.AHeadIdeal.nD,
          r.2.mem ((c.tc : Thread Cert.AHeadIdeal.nD Cert.AHeadIdeal.τ).loc Cert.AHeadIdeal.main_v0_0) = v0 c
          ∧ r.2.mem ((c.tc : Thread Cert.AHeadIdeal.nD Cert.AHeadIdeal.τ).loc Cert.AHeadIdeal.main_v0_1) = v1 c
          ∧ r.2.mem ((c.tc : Thread Cert.AHeadIdeal.nD Cert.AHeadIdeal.τ).loc Cert.AHeadIdeal.main_v0_2) = v2 c
          ∧ r.2.mem ((c.tc : Thread Cert.AHeadIdeal.nD Cert.AHeadIdeal.τ).loc Cert.AHeadIdeal.main_arg0) = m ((c.tc : Thread Cert.AHeadIdeal.nD Cert.AHeadIdeal.τ).loc Cert.AHeadIdeal.main_arg0)
          ∧ r.2.mem ((c.tc : Thread Cert.AHeadIdeal.nD Cert.AHeadIdeal.τ).loc Cert.AHeadIdeal.main_arg1) = m ((c.tc : Thread Cert.AHeadIdeal.nD Cert.AHeadIdeal.τ).loc Cert.AHeadIdeal.main_arg1)
          ∧ r.2.mem ((c.tc : Thread Cert.AHeadIdeal.nD Cert.AHeadIdeal.τ).loc Cert.AHeadIdeal.main_arg2) = m ((c.tc : Thread Cert.AHeadIdeal.nD Cert.AHeadIdeal.τ).loc Cert.AHeadIdeal.main_arg2)
          ∧ r.2.mem ((c.tc : Thread Cert.AHeadIdeal.nD Cert.AHeadIdeal.τ).loc Cert.AHeadIdeal.main_arg3) = m ((c.tc : Thread Cert.AHeadIdeal.nD Cert.AHeadIdeal.τ).loc Cert.AHeadIdeal.main_arg3))
      ∧ θ_run (Cert.AHeadRefIdeal.defs (F := Ideal)) (onTc (τ := Cert.AHeadRefIdeal.τ) (Cert.AHeadRefIdeal.main (F := Ideal))) ⟨m', fun _ => 0, g'⟩ (fun r => ∀ c : Dev Cert.AHeadRefIdeal.nD,
          r.2.mem ((c.tc : Thread Cert.AHeadRefIdeal.nD Cert.AHeadRefIdeal.τ).loc Cert.AHeadRefIdeal.main_v23) = v0 c
          ∧ r.2.mem ((c.tc : Thread Cert.AHeadRefIdeal.nD Cert.AHeadRefIdeal.τ).loc Cert.AHeadRefIdeal.main_v4) = v1 c
          ∧ r.2.mem ((c.tc : Thread Cert.AHeadRefIdeal.nD Cert.AHeadRefIdeal.τ).loc Cert.AHeadRefIdeal.main_v10) = v2 c
          ∧ r.2.mem ((c.tc : Thread Cert.AHeadRefIdeal.nD Cert.AHeadRefIdeal.τ).loc Cert.AHeadRefIdeal.main_arg0) = m' ((c.tc : Thread Cert.AHeadRefIdeal.nD Cert.AHeadRefIdeal.τ).loc Cert.AHeadRefIdeal.main_arg0)
          ∧ r.2.mem ((c.tc : Thread Cert.AHeadRefIdeal.nD Cert.AHeadRefIdeal.τ).loc Cert.AHeadRefIdeal.main_arg1) = m' ((c.tc : Thread Cert.AHeadRefIdeal.nD Cert.AHeadRefIdeal.τ).loc Cert.AHeadRefIdeal.main_arg1)
          ∧ r.2.mem ((c.tc : Thread Cert.AHeadRefIdeal.nD Cert.AHeadRefIdeal.τ).loc Cert.AHeadRefIdeal.main_arg2) = m' ((c.tc : Thread Cert.AHeadRefIdeal.nD Cert.AHeadRefIdeal.τ).loc Cert.AHeadRefIdeal.main_arg2)
          ∧ r.2.mem ((c.tc : Thread Cert.AHeadRefIdeal.nD Cert.AHeadRefIdeal.τ).loc Cert.AHeadRefIdeal.main_arg3) = m' ((c.tc : Thread Cert.AHeadRefIdeal.nD Cert.AHeadRefIdeal.τ).loc Cert.AHeadRefIdeal.main_arg3))

def preserves_AGdn_AGdnIdeal : Prop :=
  True

def algebraic_AGdnIdeal_AGdnRefIdeal [hAGdnIdeal : Cert.AGdnIdeal.Facts] [hAGdnRefIdeal : Cert.AGdnRefIdeal.Facts] : Prop :=
  ∀ (m : (ℓ : Loc Cert.AGdnIdeal.nD Cert.AGdnIdeal.τ Cert.AGdnIdeal.sig) → Buf (Elt Ideal) ℓ) (g : Dev Cert.AGdnIdeal.nD → PrngReg)
    (m' : (ℓ : Loc Cert.AGdnRefIdeal.nD Cert.AGdnRefIdeal.τ Cert.AGdnRefIdeal.sig) → Buf (Elt Ideal) ℓ) (g' : Dev Cert.AGdnRefIdeal.nD → PrngReg), Pre_AGdnIdeal m →
    (∀ c : Dev Cert.AGdnIdeal.nD,
      m' ((c.tc : Thread Cert.AGdnRefIdeal.nD Cert.AGdnRefIdeal.τ).loc Cert.AGdnRefIdeal.main_arg0) = m ((c.tc : Thread Cert.AGdnIdeal.nD Cert.AGdnIdeal.τ).loc Cert.AGdnIdeal.main_arg0)
      ∧ m' ((c.tc : Thread Cert.AGdnRefIdeal.nD Cert.AGdnRefIdeal.τ).loc Cert.AGdnRefIdeal.main_arg1) = m ((c.tc : Thread Cert.AGdnIdeal.nD Cert.AGdnIdeal.τ).loc Cert.AGdnIdeal.main_arg1)
      ∧ m' ((c.tc : Thread Cert.AGdnRefIdeal.nD Cert.AGdnRefIdeal.τ).loc Cert.AGdnRefIdeal.main_arg2) = m ((c.tc : Thread Cert.AGdnIdeal.nD Cert.AGdnIdeal.τ).loc Cert.AGdnIdeal.main_arg2)
      ∧ m' ((c.tc : Thread Cert.AGdnRefIdeal.nD Cert.AGdnRefIdeal.τ).loc Cert.AGdnRefIdeal.main_arg3) = m ((c.tc : Thread Cert.AGdnIdeal.nD Cert.AGdnIdeal.τ).loc Cert.AGdnIdeal.main_arg3)) →
    ∃ (v0 : (c : Dev Cert.AGdnIdeal.nD) → Buf (Elt Ideal) ((c.tc : Thread Cert.AGdnIdeal.nD Cert.AGdnIdeal.τ).loc Cert.AGdnIdeal.main_v0_0)) (v1 : (c : Dev Cert.AGdnIdeal.nD) → Buf (Elt Ideal) ((c.tc : Thread Cert.AGdnIdeal.nD Cert.AGdnIdeal.τ).loc Cert.AGdnIdeal.main_v0_1)) (v2 : (c : Dev Cert.AGdnIdeal.nD) → Buf (Elt Ideal) ((c.tc : Thread Cert.AGdnIdeal.nD Cert.AGdnIdeal.τ).loc Cert.AGdnIdeal.main_v0_2)),
      θ_run (Cert.AGdnIdeal.defs (F := Ideal)) (onTc (τ := Cert.AGdnIdeal.τ) (Cert.AGdnIdeal.main (F := Ideal))) ⟨m, fun _ => 0, g⟩ (fun r => ∀ c : Dev Cert.AGdnIdeal.nD,
          r.2.mem ((c.tc : Thread Cert.AGdnIdeal.nD Cert.AGdnIdeal.τ).loc Cert.AGdnIdeal.main_v0_0) = v0 c
          ∧ r.2.mem ((c.tc : Thread Cert.AGdnIdeal.nD Cert.AGdnIdeal.τ).loc Cert.AGdnIdeal.main_v0_1) = v1 c
          ∧ r.2.mem ((c.tc : Thread Cert.AGdnIdeal.nD Cert.AGdnIdeal.τ).loc Cert.AGdnIdeal.main_v0_2) = v2 c
          ∧ r.2.mem ((c.tc : Thread Cert.AGdnIdeal.nD Cert.AGdnIdeal.τ).loc Cert.AGdnIdeal.main_arg0) = m ((c.tc : Thread Cert.AGdnIdeal.nD Cert.AGdnIdeal.τ).loc Cert.AGdnIdeal.main_arg0)
          ∧ r.2.mem ((c.tc : Thread Cert.AGdnIdeal.nD Cert.AGdnIdeal.τ).loc Cert.AGdnIdeal.main_arg1) = m ((c.tc : Thread Cert.AGdnIdeal.nD Cert.AGdnIdeal.τ).loc Cert.AGdnIdeal.main_arg1)
          ∧ r.2.mem ((c.tc : Thread Cert.AGdnIdeal.nD Cert.AGdnIdeal.τ).loc Cert.AGdnIdeal.main_arg2) = m ((c.tc : Thread Cert.AGdnIdeal.nD Cert.AGdnIdeal.τ).loc Cert.AGdnIdeal.main_arg2)
          ∧ r.2.mem ((c.tc : Thread Cert.AGdnIdeal.nD Cert.AGdnIdeal.τ).loc Cert.AGdnIdeal.main_arg3) = m ((c.tc : Thread Cert.AGdnIdeal.nD Cert.AGdnIdeal.τ).loc Cert.AGdnIdeal.main_arg3))
      ∧ θ_run (Cert.AGdnRefIdeal.defs (F := Ideal)) (onTc (τ := Cert.AGdnRefIdeal.τ) (Cert.AGdnRefIdeal.main (F := Ideal))) ⟨m', fun _ => 0, g'⟩ (fun r => ∀ c : Dev Cert.AGdnRefIdeal.nD,
          r.2.mem ((c.tc : Thread Cert.AGdnRefIdeal.nD Cert.AGdnRefIdeal.τ).loc Cert.AGdnRefIdeal.main_v23) = v0 c
          ∧ r.2.mem ((c.tc : Thread Cert.AGdnRefIdeal.nD Cert.AGdnRefIdeal.τ).loc Cert.AGdnRefIdeal.main_v4) = v1 c
          ∧ r.2.mem ((c.tc : Thread Cert.AGdnRefIdeal.nD Cert.AGdnRefIdeal.τ).loc Cert.AGdnRefIdeal.main_v10) = v2 c
          ∧ r.2.mem ((c.tc : Thread Cert.AGdnRefIdeal.nD Cert.AGdnRefIdeal.τ).loc Cert.AGdnRefIdeal.main_arg0) = m' ((c.tc : Thread Cert.AGdnRefIdeal.nD Cert.AGdnRefIdeal.τ).loc Cert.AGdnRefIdeal.main_arg0)
          ∧ r.2.mem ((c.tc : Thread Cert.AGdnRefIdeal.nD Cert.AGdnRefIdeal.τ).loc Cert.AGdnRefIdeal.main_arg1) = m' ((c.tc : Thread Cert.AGdnRefIdeal.nD Cert.AGdnRefIdeal.τ).loc Cert.AGdnRefIdeal.main_arg1)
          ∧ r.2.mem ((c.tc : Thread Cert.AGdnRefIdeal.nD Cert.AGdnRefIdeal.τ).loc Cert.AGdnRefIdeal.main_arg2) = m' ((c.tc : Thread Cert.AGdnRefIdeal.nD Cert.AGdnRefIdeal.τ).loc Cert.AGdnRefIdeal.main_arg2)
          ∧ r.2.mem ((c.tc : Thread Cert.AGdnRefIdeal.nD Cert.AGdnRefIdeal.τ).loc Cert.AGdnRefIdeal.main_arg3) = m' ((c.tc : Thread Cert.AGdnRefIdeal.nD Cert.AGdnRefIdeal.τ).loc Cert.AGdnRefIdeal.main_arg3))

def preserves_ADw_ADwIdeal : Prop :=
  True

def algebraic_ADwIdeal_ADwRefIdeal [hADwIdeal : Cert.ADwIdeal.Facts] [hADwRefIdeal : Cert.ADwRefIdeal.Facts] : Prop :=
  ∀ (m : (ℓ : Loc Cert.ADwIdeal.nD Cert.ADwIdeal.τ Cert.ADwIdeal.sig) → Buf (Elt Ideal) ℓ) (g : Dev Cert.ADwIdeal.nD → PrngReg)
    (m' : (ℓ : Loc Cert.ADwRefIdeal.nD Cert.ADwRefIdeal.τ Cert.ADwRefIdeal.sig) → Buf (Elt Ideal) ℓ) (g' : Dev Cert.ADwRefIdeal.nD → PrngReg), Pre_ADwIdeal m →
    (∀ c : Dev Cert.ADwIdeal.nD,
      m' ((c.tc : Thread Cert.ADwRefIdeal.nD Cert.ADwRefIdeal.τ).loc Cert.ADwRefIdeal.main_arg0) = m ((c.tc : Thread Cert.ADwIdeal.nD Cert.ADwIdeal.τ).loc Cert.ADwIdeal.main_arg0)
      ∧ m' ((c.tc : Thread Cert.ADwRefIdeal.nD Cert.ADwRefIdeal.τ).loc Cert.ADwRefIdeal.main_arg1) = m ((c.tc : Thread Cert.ADwIdeal.nD Cert.ADwIdeal.τ).loc Cert.ADwIdeal.main_arg1)
      ∧ m' ((c.tc : Thread Cert.ADwRefIdeal.nD Cert.ADwRefIdeal.τ).loc Cert.ADwRefIdeal.main_arg2) = m ((c.tc : Thread Cert.ADwIdeal.nD Cert.ADwIdeal.τ).loc Cert.ADwIdeal.main_arg2)
      ∧ m' ((c.tc : Thread Cert.ADwRefIdeal.nD Cert.ADwRefIdeal.τ).loc Cert.ADwRefIdeal.main_arg3) = m ((c.tc : Thread Cert.ADwIdeal.nD Cert.ADwIdeal.τ).loc Cert.ADwIdeal.main_arg3)) →
    ∃ (v0 : (c : Dev Cert.ADwIdeal.nD) → Buf (Elt Ideal) ((c.tc : Thread Cert.ADwIdeal.nD Cert.ADwIdeal.τ).loc Cert.ADwIdeal.main_v0_0)) (v1 : (c : Dev Cert.ADwIdeal.nD) → Buf (Elt Ideal) ((c.tc : Thread Cert.ADwIdeal.nD Cert.ADwIdeal.τ).loc Cert.ADwIdeal.main_v0_1)) (v2 : (c : Dev Cert.ADwIdeal.nD) → Buf (Elt Ideal) ((c.tc : Thread Cert.ADwIdeal.nD Cert.ADwIdeal.τ).loc Cert.ADwIdeal.main_v0_2)),
      θ_run (Cert.ADwIdeal.defs (F := Ideal)) (onTc (τ := Cert.ADwIdeal.τ) (Cert.ADwIdeal.main (F := Ideal))) ⟨m, fun _ => 0, g⟩ (fun r => ∀ c : Dev Cert.ADwIdeal.nD,
          r.2.mem ((c.tc : Thread Cert.ADwIdeal.nD Cert.ADwIdeal.τ).loc Cert.ADwIdeal.main_v0_0) = v0 c
          ∧ r.2.mem ((c.tc : Thread Cert.ADwIdeal.nD Cert.ADwIdeal.τ).loc Cert.ADwIdeal.main_v0_1) = v1 c
          ∧ r.2.mem ((c.tc : Thread Cert.ADwIdeal.nD Cert.ADwIdeal.τ).loc Cert.ADwIdeal.main_v0_2) = v2 c
          ∧ r.2.mem ((c.tc : Thread Cert.ADwIdeal.nD Cert.ADwIdeal.τ).loc Cert.ADwIdeal.main_arg0) = m ((c.tc : Thread Cert.ADwIdeal.nD Cert.ADwIdeal.τ).loc Cert.ADwIdeal.main_arg0)
          ∧ r.2.mem ((c.tc : Thread Cert.ADwIdeal.nD Cert.ADwIdeal.τ).loc Cert.ADwIdeal.main_arg1) = m ((c.tc : Thread Cert.ADwIdeal.nD Cert.ADwIdeal.τ).loc Cert.ADwIdeal.main_arg1)
          ∧ r.2.mem ((c.tc : Thread Cert.ADwIdeal.nD Cert.ADwIdeal.τ).loc Cert.ADwIdeal.main_arg2) = m ((c.tc : Thread Cert.ADwIdeal.nD Cert.ADwIdeal.τ).loc Cert.ADwIdeal.main_arg2)
          ∧ r.2.mem ((c.tc : Thread Cert.ADwIdeal.nD Cert.ADwIdeal.τ).loc Cert.ADwIdeal.main_arg3) = m ((c.tc : Thread Cert.ADwIdeal.nD Cert.ADwIdeal.τ).loc Cert.ADwIdeal.main_arg3))
      ∧ θ_run (Cert.ADwRefIdeal.defs (F := Ideal)) (onTc (τ := Cert.ADwRefIdeal.τ) (Cert.ADwRefIdeal.main (F := Ideal))) ⟨m', fun _ => 0, g'⟩ (fun r => ∀ c : Dev Cert.ADwRefIdeal.nD,
          r.2.mem ((c.tc : Thread Cert.ADwRefIdeal.nD Cert.ADwRefIdeal.τ).loc Cert.ADwRefIdeal.main_v23) = v0 c
          ∧ r.2.mem ((c.tc : Thread Cert.ADwRefIdeal.nD Cert.ADwRefIdeal.τ).loc Cert.ADwRefIdeal.main_v4) = v1 c
          ∧ r.2.mem ((c.tc : Thread Cert.ADwRefIdeal.nD Cert.ADwRefIdeal.τ).loc Cert.ADwRefIdeal.main_v10) = v2 c
          ∧ r.2.mem ((c.tc : Thread Cert.ADwRefIdeal.nD Cert.ADwRefIdeal.τ).loc Cert.ADwRefIdeal.main_arg0) = m' ((c.tc : Thread Cert.ADwRefIdeal.nD Cert.ADwRefIdeal.τ).loc Cert.ADwRefIdeal.main_arg0)
          ∧ r.2.mem ((c.tc : Thread Cert.ADwRefIdeal.nD Cert.ADwRefIdeal.τ).loc Cert.ADwRefIdeal.main_arg1) = m' ((c.tc : Thread Cert.ADwRefIdeal.nD Cert.ADwRefIdeal.τ).loc Cert.ADwRefIdeal.main_arg1)
          ∧ r.2.mem ((c.tc : Thread Cert.ADwRefIdeal.nD Cert.ADwRefIdeal.τ).loc Cert.ADwRefIdeal.main_arg2) = m' ((c.tc : Thread Cert.ADwRefIdeal.nD Cert.ADwRefIdeal.τ).loc Cert.ADwRefIdeal.main_arg2)
          ∧ r.2.mem ((c.tc : Thread Cert.ADwRefIdeal.nD Cert.ADwRefIdeal.τ).loc Cert.ADwRefIdeal.main_arg3) = m' ((c.tc : Thread Cert.ADwRefIdeal.nD Cert.ADwRefIdeal.τ).loc Cert.ADwRefIdeal.main_arg3))

def preserves_ALn_ALnIdeal : Prop :=
  True

def algebraic_ALnIdeal_ALnRefIdeal [hALnIdeal : Cert.ALnIdeal.Facts] [hALnRefIdeal : Cert.ALnRefIdeal.Facts] : Prop :=
  ∀ (m : (ℓ : Loc Cert.ALnIdeal.nD Cert.ALnIdeal.τ Cert.ALnIdeal.sig) → Buf (Elt Ideal) ℓ) (g : Dev Cert.ALnIdeal.nD → PrngReg)
    (m' : (ℓ : Loc Cert.ALnRefIdeal.nD Cert.ALnRefIdeal.τ Cert.ALnRefIdeal.sig) → Buf (Elt Ideal) ℓ) (g' : Dev Cert.ALnRefIdeal.nD → PrngReg), Pre_ALnIdeal m →
    (∀ c : Dev Cert.ALnIdeal.nD,
      m' ((c.tc : Thread Cert.ALnRefIdeal.nD Cert.ALnRefIdeal.τ).loc Cert.ALnRefIdeal.main_arg0) = m ((c.tc : Thread Cert.ALnIdeal.nD Cert.ALnIdeal.τ).loc Cert.ALnIdeal.main_arg0)
      ∧ m' ((c.tc : Thread Cert.ALnRefIdeal.nD Cert.ALnRefIdeal.τ).loc Cert.ALnRefIdeal.main_arg1) = m ((c.tc : Thread Cert.ALnIdeal.nD Cert.ALnIdeal.τ).loc Cert.ALnIdeal.main_arg1)
      ∧ m' ((c.tc : Thread Cert.ALnRefIdeal.nD Cert.ALnRefIdeal.τ).loc Cert.ALnRefIdeal.main_arg2) = m ((c.tc : Thread Cert.ALnIdeal.nD Cert.ALnIdeal.τ).loc Cert.ALnIdeal.main_arg2)
      ∧ m' ((c.tc : Thread Cert.ALnRefIdeal.nD Cert.ALnRefIdeal.τ).loc Cert.ALnRefIdeal.main_arg3) = m ((c.tc : Thread Cert.ALnIdeal.nD Cert.ALnIdeal.τ).loc Cert.ALnIdeal.main_arg3)) →
    ∃ (v0 : (c : Dev Cert.ALnIdeal.nD) → Buf (Elt Ideal) ((c.tc : Thread Cert.ALnIdeal.nD Cert.ALnIdeal.τ).loc Cert.ALnIdeal.main_v0_0)) (v1 : (c : Dev Cert.ALnIdeal.nD) → Buf (Elt Ideal) ((c.tc : Thread Cert.ALnIdeal.nD Cert.ALnIdeal.τ).loc Cert.ALnIdeal.main_v0_1)) (v2 : (c : Dev Cert.ALnIdeal.nD) → Buf (Elt Ideal) ((c.tc : Thread Cert.ALnIdeal.nD Cert.ALnIdeal.τ).loc Cert.ALnIdeal.main_v0_2)),
      θ_run (Cert.ALnIdeal.defs (F := Ideal)) (onTc (τ := Cert.ALnIdeal.τ) (Cert.ALnIdeal.main (F := Ideal))) ⟨m, fun _ => 0, g⟩ (fun r => ∀ c : Dev Cert.ALnIdeal.nD,
          r.2.mem ((c.tc : Thread Cert.ALnIdeal.nD Cert.ALnIdeal.τ).loc Cert.ALnIdeal.main_v0_0) = v0 c
          ∧ r.2.mem ((c.tc : Thread Cert.ALnIdeal.nD Cert.ALnIdeal.τ).loc Cert.ALnIdeal.main_v0_1) = v1 c
          ∧ r.2.mem ((c.tc : Thread Cert.ALnIdeal.nD Cert.ALnIdeal.τ).loc Cert.ALnIdeal.main_v0_2) = v2 c
          ∧ r.2.mem ((c.tc : Thread Cert.ALnIdeal.nD Cert.ALnIdeal.τ).loc Cert.ALnIdeal.main_arg0) = m ((c.tc : Thread Cert.ALnIdeal.nD Cert.ALnIdeal.τ).loc Cert.ALnIdeal.main_arg0)
          ∧ r.2.mem ((c.tc : Thread Cert.ALnIdeal.nD Cert.ALnIdeal.τ).loc Cert.ALnIdeal.main_arg1) = m ((c.tc : Thread Cert.ALnIdeal.nD Cert.ALnIdeal.τ).loc Cert.ALnIdeal.main_arg1)
          ∧ r.2.mem ((c.tc : Thread Cert.ALnIdeal.nD Cert.ALnIdeal.τ).loc Cert.ALnIdeal.main_arg2) = m ((c.tc : Thread Cert.ALnIdeal.nD Cert.ALnIdeal.τ).loc Cert.ALnIdeal.main_arg2)
          ∧ r.2.mem ((c.tc : Thread Cert.ALnIdeal.nD Cert.ALnIdeal.τ).loc Cert.ALnIdeal.main_arg3) = m ((c.tc : Thread Cert.ALnIdeal.nD Cert.ALnIdeal.τ).loc Cert.ALnIdeal.main_arg3))
      ∧ θ_run (Cert.ALnRefIdeal.defs (F := Ideal)) (onTc (τ := Cert.ALnRefIdeal.τ) (Cert.ALnRefIdeal.main (F := Ideal))) ⟨m', fun _ => 0, g'⟩ (fun r => ∀ c : Dev Cert.ALnRefIdeal.nD,
          r.2.mem ((c.tc : Thread Cert.ALnRefIdeal.nD Cert.ALnRefIdeal.τ).loc Cert.ALnRefIdeal.main_v23) = v0 c
          ∧ r.2.mem ((c.tc : Thread Cert.ALnRefIdeal.nD Cert.ALnRefIdeal.τ).loc Cert.ALnRefIdeal.main_v4) = v1 c
          ∧ r.2.mem ((c.tc : Thread Cert.ALnRefIdeal.nD Cert.ALnRefIdeal.τ).loc Cert.ALnRefIdeal.main_v10) = v2 c
          ∧ r.2.mem ((c.tc : Thread Cert.ALnRefIdeal.nD Cert.ALnRefIdeal.τ).loc Cert.ALnRefIdeal.main_arg0) = m' ((c.tc : Thread Cert.ALnRefIdeal.nD Cert.ALnRefIdeal.τ).loc Cert.ALnRefIdeal.main_arg0)
          ∧ r.2.mem ((c.tc : Thread Cert.ALnRefIdeal.nD Cert.ALnRefIdeal.τ).loc Cert.ALnRefIdeal.main_arg1) = m' ((c.tc : Thread Cert.ALnRefIdeal.nD Cert.ALnRefIdeal.τ).loc Cert.ALnRefIdeal.main_arg1)
          ∧ r.2.mem ((c.tc : Thread Cert.ALnRefIdeal.nD Cert.ALnRefIdeal.τ).loc Cert.ALnRefIdeal.main_arg2) = m' ((c.tc : Thread Cert.ALnRefIdeal.nD Cert.ALnRefIdeal.τ).loc Cert.ALnRefIdeal.main_arg2)
          ∧ r.2.mem ((c.tc : Thread Cert.ALnRefIdeal.nD Cert.ALnRefIdeal.τ).loc Cert.ALnRefIdeal.main_arg3) = m' ((c.tc : Thread Cert.ALnRefIdeal.nD Cert.ALnRefIdeal.τ).loc Cert.ALnRefIdeal.main_arg3))

def preserves_APw_APwIdeal : Prop :=
  True

def algebraic_APwIdeal_APwRefIdeal [hAPwIdeal : Cert.APwIdeal.Facts] [hAPwRefIdeal : Cert.APwRefIdeal.Facts] : Prop :=
  ∀ (m : (ℓ : Loc Cert.APwIdeal.nD Cert.APwIdeal.τ Cert.APwIdeal.sig) → Buf (Elt Ideal) ℓ) (g : Dev Cert.APwIdeal.nD → PrngReg)
    (m' : (ℓ : Loc Cert.APwRefIdeal.nD Cert.APwRefIdeal.τ Cert.APwRefIdeal.sig) → Buf (Elt Ideal) ℓ) (g' : Dev Cert.APwRefIdeal.nD → PrngReg), Pre_APwIdeal m →
    (∀ c : Dev Cert.APwIdeal.nD,
      m' ((c.tc : Thread Cert.APwRefIdeal.nD Cert.APwRefIdeal.τ).loc Cert.APwRefIdeal.main_arg0) = m ((c.tc : Thread Cert.APwIdeal.nD Cert.APwIdeal.τ).loc Cert.APwIdeal.main_arg0)
      ∧ m' ((c.tc : Thread Cert.APwRefIdeal.nD Cert.APwRefIdeal.τ).loc Cert.APwRefIdeal.main_arg1) = m ((c.tc : Thread Cert.APwIdeal.nD Cert.APwIdeal.τ).loc Cert.APwIdeal.main_arg1)
      ∧ m' ((c.tc : Thread Cert.APwRefIdeal.nD Cert.APwRefIdeal.τ).loc Cert.APwRefIdeal.main_arg2) = m ((c.tc : Thread Cert.APwIdeal.nD Cert.APwIdeal.τ).loc Cert.APwIdeal.main_arg2)
      ∧ m' ((c.tc : Thread Cert.APwRefIdeal.nD Cert.APwRefIdeal.τ).loc Cert.APwRefIdeal.main_arg3) = m ((c.tc : Thread Cert.APwIdeal.nD Cert.APwIdeal.τ).loc Cert.APwIdeal.main_arg3)) →
    ∃ (v0 : (c : Dev Cert.APwIdeal.nD) → Buf (Elt Ideal) ((c.tc : Thread Cert.APwIdeal.nD Cert.APwIdeal.τ).loc Cert.APwIdeal.main_v0_0)) (v1 : (c : Dev Cert.APwIdeal.nD) → Buf (Elt Ideal) ((c.tc : Thread Cert.APwIdeal.nD Cert.APwIdeal.τ).loc Cert.APwIdeal.main_v0_1)) (v2 : (c : Dev Cert.APwIdeal.nD) → Buf (Elt Ideal) ((c.tc : Thread Cert.APwIdeal.nD Cert.APwIdeal.τ).loc Cert.APwIdeal.main_v0_2)),
      θ_run (Cert.APwIdeal.defs (F := Ideal)) (onTc (τ := Cert.APwIdeal.τ) (Cert.APwIdeal.main (F := Ideal))) ⟨m, fun _ => 0, g⟩ (fun r => ∀ c : Dev Cert.APwIdeal.nD,
          r.2.mem ((c.tc : Thread Cert.APwIdeal.nD Cert.APwIdeal.τ).loc Cert.APwIdeal.main_v0_0) = v0 c
          ∧ r.2.mem ((c.tc : Thread Cert.APwIdeal.nD Cert.APwIdeal.τ).loc Cert.APwIdeal.main_v0_1) = v1 c
          ∧ r.2.mem ((c.tc : Thread Cert.APwIdeal.nD Cert.APwIdeal.τ).loc Cert.APwIdeal.main_v0_2) = v2 c
          ∧ r.2.mem ((c.tc : Thread Cert.APwIdeal.nD Cert.APwIdeal.τ).loc Cert.APwIdeal.main_arg0) = m ((c.tc : Thread Cert.APwIdeal.nD Cert.APwIdeal.τ).loc Cert.APwIdeal.main_arg0)
          ∧ r.2.mem ((c.tc : Thread Cert.APwIdeal.nD Cert.APwIdeal.τ).loc Cert.APwIdeal.main_arg1) = m ((c.tc : Thread Cert.APwIdeal.nD Cert.APwIdeal.τ).loc Cert.APwIdeal.main_arg1)
          ∧ r.2.mem ((c.tc : Thread Cert.APwIdeal.nD Cert.APwIdeal.τ).loc Cert.APwIdeal.main_arg2) = m ((c.tc : Thread Cert.APwIdeal.nD Cert.APwIdeal.τ).loc Cert.APwIdeal.main_arg2)
          ∧ r.2.mem ((c.tc : Thread Cert.APwIdeal.nD Cert.APwIdeal.τ).loc Cert.APwIdeal.main_arg3) = m ((c.tc : Thread Cert.APwIdeal.nD Cert.APwIdeal.τ).loc Cert.APwIdeal.main_arg3))
      ∧ θ_run (Cert.APwRefIdeal.defs (F := Ideal)) (onTc (τ := Cert.APwRefIdeal.τ) (Cert.APwRefIdeal.main (F := Ideal))) ⟨m', fun _ => 0, g'⟩ (fun r => ∀ c : Dev Cert.APwRefIdeal.nD,
          r.2.mem ((c.tc : Thread Cert.APwRefIdeal.nD Cert.APwRefIdeal.τ).loc Cert.APwRefIdeal.main_v23) = v0 c
          ∧ r.2.mem ((c.tc : Thread Cert.APwRefIdeal.nD Cert.APwRefIdeal.τ).loc Cert.APwRefIdeal.main_v4) = v1 c
          ∧ r.2.mem ((c.tc : Thread Cert.APwRefIdeal.nD Cert.APwRefIdeal.τ).loc Cert.APwRefIdeal.main_v10) = v2 c
          ∧ r.2.mem ((c.tc : Thread Cert.APwRefIdeal.nD Cert.APwRefIdeal.τ).loc Cert.APwRefIdeal.main_arg0) = m' ((c.tc : Thread Cert.APwRefIdeal.nD Cert.APwRefIdeal.τ).loc Cert.APwRefIdeal.main_arg0)
          ∧ r.2.mem ((c.tc : Thread Cert.APwRefIdeal.nD Cert.APwRefIdeal.τ).loc Cert.APwRefIdeal.main_arg1) = m' ((c.tc : Thread Cert.APwRefIdeal.nD Cert.APwRefIdeal.τ).loc Cert.APwRefIdeal.main_arg1)
          ∧ r.2.mem ((c.tc : Thread Cert.APwRefIdeal.nD Cert.APwRefIdeal.τ).loc Cert.APwRefIdeal.main_arg2) = m' ((c.tc : Thread Cert.APwRefIdeal.nD Cert.APwRefIdeal.τ).loc Cert.APwRefIdeal.main_arg2)
          ∧ r.2.mem ((c.tc : Thread Cert.APwRefIdeal.nD Cert.APwRefIdeal.τ).loc Cert.APwRefIdeal.main_arg3) = m' ((c.tc : Thread Cert.APwRefIdeal.nD Cert.APwRefIdeal.τ).loc Cert.APwRefIdeal.main_arg3))

def preserves_AFinal_AFinalIdeal : Prop :=
  True

def algebraic_AFinalIdeal_AFinalRefIdeal [hAFinalIdeal : Cert.AFinalIdeal.Facts] [hAFinalRefIdeal : Cert.AFinalRefIdeal.Facts] : Prop :=
  ∀ (m : (ℓ : Loc Cert.AFinalIdeal.nD Cert.AFinalIdeal.τ Cert.AFinalIdeal.sig) → Buf (Elt Ideal) ℓ) (g : Dev Cert.AFinalIdeal.nD → PrngReg)
    (m' : (ℓ : Loc Cert.AFinalRefIdeal.nD Cert.AFinalRefIdeal.τ Cert.AFinalRefIdeal.sig) → Buf (Elt Ideal) ℓ) (g' : Dev Cert.AFinalRefIdeal.nD → PrngReg), Pre_AFinalIdeal m →
    (∀ c : Dev Cert.AFinalIdeal.nD,
      m' ((c.tc : Thread Cert.AFinalRefIdeal.nD Cert.AFinalRefIdeal.τ).loc Cert.AFinalRefIdeal.main_arg0) = m ((c.tc : Thread Cert.AFinalIdeal.nD Cert.AFinalIdeal.τ).loc Cert.AFinalIdeal.main_arg0)
      ∧ m' ((c.tc : Thread Cert.AFinalRefIdeal.nD Cert.AFinalRefIdeal.τ).loc Cert.AFinalRefIdeal.main_arg1) = m ((c.tc : Thread Cert.AFinalIdeal.nD Cert.AFinalIdeal.τ).loc Cert.AFinalIdeal.main_arg1)
      ∧ m' ((c.tc : Thread Cert.AFinalRefIdeal.nD Cert.AFinalRefIdeal.τ).loc Cert.AFinalRefIdeal.main_arg2) = m ((c.tc : Thread Cert.AFinalIdeal.nD Cert.AFinalIdeal.τ).loc Cert.AFinalIdeal.main_arg2)
      ∧ m' ((c.tc : Thread Cert.AFinalRefIdeal.nD Cert.AFinalRefIdeal.τ).loc Cert.AFinalRefIdeal.main_arg3) = m ((c.tc : Thread Cert.AFinalIdeal.nD Cert.AFinalIdeal.τ).loc Cert.AFinalIdeal.main_arg3)) →
    ∃ (v0 : (c : Dev Cert.AFinalIdeal.nD) → Buf (Elt Ideal) ((c.tc : Thread Cert.AFinalIdeal.nD Cert.AFinalIdeal.τ).loc Cert.AFinalIdeal.main_v0_0)) (v1 : (c : Dev Cert.AFinalIdeal.nD) → Buf (Elt Ideal) ((c.tc : Thread Cert.AFinalIdeal.nD Cert.AFinalIdeal.τ).loc Cert.AFinalIdeal.main_v0_1)) (v2 : (c : Dev Cert.AFinalIdeal.nD) → Buf (Elt Ideal) ((c.tc : Thread Cert.AFinalIdeal.nD Cert.AFinalIdeal.τ).loc Cert.AFinalIdeal.main_v0_2)),
      θ_run (Cert.AFinalIdeal.defs (F := Ideal)) (onTc (τ := Cert.AFinalIdeal.τ) (Cert.AFinalIdeal.main (F := Ideal))) ⟨m, fun _ => 0, g⟩ (fun r => ∀ c : Dev Cert.AFinalIdeal.nD,
          r.2.mem ((c.tc : Thread Cert.AFinalIdeal.nD Cert.AFinalIdeal.τ).loc Cert.AFinalIdeal.main_v0_0) = v0 c
          ∧ r.2.mem ((c.tc : Thread Cert.AFinalIdeal.nD Cert.AFinalIdeal.τ).loc Cert.AFinalIdeal.main_v0_1) = v1 c
          ∧ r.2.mem ((c.tc : Thread Cert.AFinalIdeal.nD Cert.AFinalIdeal.τ).loc Cert.AFinalIdeal.main_v0_2) = v2 c
          ∧ r.2.mem ((c.tc : Thread Cert.AFinalIdeal.nD Cert.AFinalIdeal.τ).loc Cert.AFinalIdeal.main_arg0) = m ((c.tc : Thread Cert.AFinalIdeal.nD Cert.AFinalIdeal.τ).loc Cert.AFinalIdeal.main_arg0)
          ∧ r.2.mem ((c.tc : Thread Cert.AFinalIdeal.nD Cert.AFinalIdeal.τ).loc Cert.AFinalIdeal.main_arg1) = m ((c.tc : Thread Cert.AFinalIdeal.nD Cert.AFinalIdeal.τ).loc Cert.AFinalIdeal.main_arg1)
          ∧ r.2.mem ((c.tc : Thread Cert.AFinalIdeal.nD Cert.AFinalIdeal.τ).loc Cert.AFinalIdeal.main_arg2) = m ((c.tc : Thread Cert.AFinalIdeal.nD Cert.AFinalIdeal.τ).loc Cert.AFinalIdeal.main_arg2)
          ∧ r.2.mem ((c.tc : Thread Cert.AFinalIdeal.nD Cert.AFinalIdeal.τ).loc Cert.AFinalIdeal.main_arg3) = m ((c.tc : Thread Cert.AFinalIdeal.nD Cert.AFinalIdeal.τ).loc Cert.AFinalIdeal.main_arg3))
      ∧ θ_run (Cert.AFinalRefIdeal.defs (F := Ideal)) (onTc (τ := Cert.AFinalRefIdeal.τ) (Cert.AFinalRefIdeal.main (F := Ideal))) ⟨m', fun _ => 0, g'⟩ (fun r => ∀ c : Dev Cert.AFinalRefIdeal.nD,
          r.2.mem ((c.tc : Thread Cert.AFinalRefIdeal.nD Cert.AFinalRefIdeal.τ).loc Cert.AFinalRefIdeal.main_v23) = v0 c
          ∧ r.2.mem ((c.tc : Thread Cert.AFinalRefIdeal.nD Cert.AFinalRefIdeal.τ).loc Cert.AFinalRefIdeal.main_v4) = v1 c
          ∧ r.2.mem ((c.tc : Thread Cert.AFinalRefIdeal.nD Cert.AFinalRefIdeal.τ).loc Cert.AFinalRefIdeal.main_v10) = v2 c
          ∧ r.2.mem ((c.tc : Thread Cert.AFinalRefIdeal.nD Cert.AFinalRefIdeal.τ).loc Cert.AFinalRefIdeal.main_arg0) = m' ((c.tc : Thread Cert.AFinalRefIdeal.nD Cert.AFinalRefIdeal.τ).loc Cert.AFinalRefIdeal.main_arg0)
          ∧ r.2.mem ((c.tc : Thread Cert.AFinalRefIdeal.nD Cert.AFinalRefIdeal.τ).loc Cert.AFinalRefIdeal.main_arg1) = m' ((c.tc : Thread Cert.AFinalRefIdeal.nD Cert.AFinalRefIdeal.τ).loc Cert.AFinalRefIdeal.main_arg1)
          ∧ r.2.mem ((c.tc : Thread Cert.AFinalRefIdeal.nD Cert.AFinalRefIdeal.τ).loc Cert.AFinalRefIdeal.main_arg2) = m' ((c.tc : Thread Cert.AFinalRefIdeal.nD Cert.AFinalRefIdeal.τ).loc Cert.AFinalRefIdeal.main_arg2)
          ∧ r.2.mem ((c.tc : Thread Cert.AFinalRefIdeal.nD Cert.AFinalRefIdeal.τ).loc Cert.AFinalRefIdeal.main_arg3) = m' ((c.tc : Thread Cert.AFinalRefIdeal.nD Cert.AFinalRefIdeal.τ).loc Cert.AFinalRefIdeal.main_arg3))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v0_0)) (v1 : (c : Dev Cert.RmsBIdeal.nD) → Buf (Elt Ideal) ((c.tc : Thread Cert.RmsBIdeal.nD Cert.RmsBIdeal.τ).loc Cert.RmsBIdeal.main_v0_1)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v0_0) = v0 c
          ∧ r.2.mem ((c.tc : Thread Cert.RmsBIdeal.nD Cert.RmsBIdeal.τ).loc Cert.RmsBIdeal.main_v0_1) = v1 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v34) = v0 c
          ∧ r.2.mem ((c.tc : Thread Cert.RmsBRefIdeal.nD Cert.RmsBRefIdeal.τ).loc Cert.RmsBRefIdeal.main_v17) = v1 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_SSmall_SSmallIdeal : Prop :=
  True

def algebraic_SSmallIdeal_SSmallRefIdeal [hSSmallIdeal : Cert.SSmallIdeal.Facts] [hSSmallRefIdeal : Cert.SSmallRefIdeal.Facts] : Prop :=
  ∀ (m : (ℓ : Loc Cert.SSmallIdeal.nD Cert.SSmallIdeal.τ Cert.SSmallIdeal.sig) → Buf (Elt Ideal) ℓ) (g : Dev Cert.SSmallIdeal.nD → PrngReg)
    (m' : (ℓ : Loc Cert.SSmallRefIdeal.nD Cert.SSmallRefIdeal.τ Cert.SSmallRefIdeal.sig) → Buf (Elt Ideal) ℓ) (g' : Dev Cert.SSmallRefIdeal.nD → PrngReg), Pre_SSmallIdeal m →
    (∀ c : Dev Cert.SSmallIdeal.nD,
      m' ((c.tc : Thread Cert.SSmallRefIdeal.nD Cert.SSmallRefIdeal.τ).loc Cert.SSmallRefIdeal.main_arg0) = m ((c.tc : Thread Cert.SSmallIdeal.nD Cert.SSmallIdeal.τ).loc Cert.SSmallIdeal.main_arg0)) →
    ∃ (v0 : (c : Dev Cert.SSmallIdeal.nD) → Buf (Elt Ideal) ((c.tc : Thread Cert.SSmallIdeal.nD Cert.SSmallIdeal.τ).loc Cert.SSmallIdeal.main_v0)),
      θ_run (Cert.SSmallIdeal.defs (F := Ideal)) (onTc (τ := Cert.SSmallIdeal.τ) (Cert.SSmallIdeal.main (F := Ideal))) ⟨m, fun _ => 0, g⟩ (fun r => ∀ c : Dev Cert.SSmallIdeal.nD,
          r.2.mem ((c.tc : Thread Cert.SSmallIdeal.nD Cert.SSmallIdeal.τ).loc Cert.SSmallIdeal.main_v0) = v0 c
          ∧ r.2.mem ((c.tc : Thread Cert.SSmallIdeal.nD Cert.SSmallIdeal.τ).loc Cert.SSmallIdeal.main_arg0) = m ((c.tc : Thread Cert.SSmallIdeal.nD Cert.SSmallIdeal.τ).loc Cert.SSmallIdeal.main_arg0))
      ∧ θ_run (Cert.SSmallRefIdeal.defs (F := Ideal)) (onTc (τ := Cert.SSmallRefIdeal.τ) (Cert.SSmallRefIdeal.main (F := Ideal))) ⟨m', fun _ => 0, g'⟩ (fun r => ∀ c : Dev Cert.SSmallRefIdeal.nD,
          r.2.mem ((c.tc : Thread Cert.SSmallRefIdeal.nD Cert.SSmallRefIdeal.τ).loc Cert.SSmallRefIdeal.main_v0) = v0 c
          ∧ r.2.mem ((c.tc : Thread Cert.SSmallRefIdeal.nD Cert.SSmallRefIdeal.τ).loc Cert.SSmallRefIdeal.main_arg0) = m' ((c.tc : Thread Cert.SSmallRefIdeal.nD Cert.SSmallRefIdeal.τ).loc Cert.SSmallRefIdeal.main_arg0))

def preserves_SPw_SPwIdeal : Prop :=
  True

def algebraic_SPwIdeal_SPwRefIdeal [hSPwIdeal : Cert.SPwIdeal.Facts] [hSPwRefIdeal : Cert.SPwRefIdeal.Facts] : Prop :=
  ∀ (m : (ℓ : Loc Cert.SPwIdeal.nD Cert.SPwIdeal.τ Cert.SPwIdeal.sig) → Buf (Elt Ideal) ℓ) (g : Dev Cert.SPwIdeal.nD → PrngReg)
    (m' : (ℓ : Loc Cert.SPwRefIdeal.nD Cert.SPwRefIdeal.τ Cert.SPwRefIdeal.sig) → Buf (Elt Ideal) ℓ) (g' : Dev Cert.SPwRefIdeal.nD → PrngReg), Pre_SPwIdeal m →
    (∀ c : Dev Cert.SPwIdeal.nD,
      m' ((c.tc : Thread Cert.SPwRefIdeal.nD Cert.SPwRefIdeal.τ).loc Cert.SPwRefIdeal.main_arg0) = m ((c.tc : Thread Cert.SPwIdeal.nD Cert.SPwIdeal.τ).loc Cert.SPwIdeal.main_arg0)) →
    ∃ (v0 : (c : Dev Cert.SPwIdeal.nD) → Buf (Elt Ideal) ((c.tc : Thread Cert.SPwIdeal.nD Cert.SPwIdeal.τ).loc Cert.SPwIdeal.main_v0)),
      θ_run (Cert.SPwIdeal.defs (F := Ideal)) (onTc (τ := Cert.SPwIdeal.τ) (Cert.SPwIdeal.main (F := Ideal))) ⟨m, fun _ => 0, g⟩ (fun r => ∀ c : Dev Cert.SPwIdeal.nD,
          r.2.mem ((c.tc : Thread Cert.SPwIdeal.nD Cert.SPwIdeal.τ).loc Cert.SPwIdeal.main_v0) = v0 c
          ∧ r.2.mem ((c.tc : Thread Cert.SPwIdeal.nD Cert.SPwIdeal.τ).loc Cert.SPwIdeal.main_arg0) = m ((c.tc : Thread Cert.SPwIdeal.nD Cert.SPwIdeal.τ).loc Cert.SPwIdeal.main_arg0))
      ∧ θ_run (Cert.SPwRefIdeal.defs (F := Ideal)) (onTc (τ := Cert.SPwRefIdeal.τ) (Cert.SPwRefIdeal.main (F := Ideal))) ⟨m', fun _ => 0, g'⟩ (fun r => ∀ c : Dev Cert.SPwRefIdeal.nD,
          r.2.mem ((c.tc : Thread Cert.SPwRefIdeal.nD Cert.SPwRefIdeal.τ).loc Cert.SPwRefIdeal.main_v0) = v0 c
          ∧ r.2.mem ((c.tc : Thread Cert.SPwRefIdeal.nD Cert.SPwRefIdeal.τ).loc Cert.SPwRefIdeal.main_arg0) = m' ((c.tc : Thread Cert.SPwRefIdeal.nD Cert.SPwRefIdeal.τ).loc Cert.SPwRefIdeal.main_arg0))

def preserves_SIn_SInIdeal : Prop :=
  True

def algebraic_SInIdeal_SInRefIdeal [hSInIdeal : Cert.SInIdeal.Facts] [hSInRefIdeal : Cert.SInRefIdeal.Facts] : Prop :=
  ∀ (m : (ℓ : Loc Cert.SInIdeal.nD Cert.SInIdeal.τ Cert.SInIdeal.sig) → Buf (Elt Ideal) ℓ) (g : Dev Cert.SInIdeal.nD → PrngReg)
    (m' : (ℓ : Loc Cert.SInRefIdeal.nD Cert.SInRefIdeal.τ Cert.SInRefIdeal.sig) → Buf (Elt Ideal) ℓ) (g' : Dev Cert.SInRefIdeal.nD → PrngReg), Pre_SInIdeal m →
    (∀ c : Dev Cert.SInIdeal.nD,
      m' ((c.tc : Thread Cert.SInRefIdeal.nD Cert.SInRefIdeal.τ).loc Cert.SInRefIdeal.main_arg0) = m ((c.tc : Thread Cert.SInIdeal.nD Cert.SInIdeal.τ).loc Cert.SInIdeal.main_arg0)) →
    ∃ (v0 : (c : Dev Cert.SInIdeal.nD) → Buf (Elt Ideal) ((c.tc : Thread Cert.SInIdeal.nD Cert.SInIdeal.τ).loc Cert.SInIdeal.main_v0)),
      θ_run (Cert.SInIdeal.defs (F := Ideal)) (onTc (τ := Cert.SInIdeal.τ) (Cert.SInIdeal.main (F := Ideal))) ⟨m, fun _ => 0, g⟩ (fun r => ∀ c : Dev Cert.SInIdeal.nD,
          r.2.mem ((c.tc : Thread Cert.SInIdeal.nD Cert.SInIdeal.τ).loc Cert.SInIdeal.main_v0) = v0 c
          ∧ r.2.mem ((c.tc : Thread Cert.SInIdeal.nD Cert.SInIdeal.τ).loc Cert.SInIdeal.main_arg0) = m ((c.tc : Thread Cert.SInIdeal.nD Cert.SInIdeal.τ).loc Cert.SInIdeal.main_arg0))
      ∧ θ_run (Cert.SInRefIdeal.defs (F := Ideal)) (onTc (τ := Cert.SInRefIdeal.τ) (Cert.SInRefIdeal.main (F := Ideal))) ⟨m', fun _ => 0, g'⟩ (fun r => ∀ c : Dev Cert.SInRefIdeal.nD,
          r.2.mem ((c.tc : Thread Cert.SInRefIdeal.nD Cert.SInRefIdeal.τ).loc Cert.SInRefIdeal.main_v1) = v0 c
          ∧ r.2.mem ((c.tc : Thread Cert.SInRefIdeal.nD Cert.SInRefIdeal.τ).loc Cert.SInRefIdeal.main_arg0) = m' ((c.tc : Thread Cert.SInRefIdeal.nD Cert.SInRefIdeal.τ).loc Cert.SInRefIdeal.main_arg0))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)) →
    ∃ (v0 : (c : Dev Cert.SOutIdeal.nD) → Buf (Elt Ideal) ((c.tc : Thread Cert.SOutIdeal.nD Cert.SOutIdeal.τ).loc Cert.SOutIdeal.main_v0)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v0) = v0 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v1) = v0 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0))

def preserves_APrep_APrepIdeal : Prop :=
  True

def algebraic_APrepIdeal_APrepRefIdeal [hAPrepIdeal : Cert.APrepIdeal.Facts] [hAPrepRefIdeal : Cert.APrepRefIdeal.Facts] : Prop :=
  ∀ (m : (ℓ : Loc Cert.APrepIdeal.nD Cert.APrepIdeal.τ Cert.APrepIdeal.sig) → Buf (Elt Ideal) ℓ) (g : Dev Cert.APrepIdeal.nD → PrngReg)
    (m' : (ℓ : Loc Cert.APrepRefIdeal.nD Cert.APrepRefIdeal.τ Cert.APrepRefIdeal.sig) → Buf (Elt Ideal) ℓ) (g' : Dev Cert.APrepRefIdeal.nD → PrngReg), Pre_APrepIdeal m →
    (∀ c : Dev Cert.APrepIdeal.nD,
      m' ((c.tc : Thread Cert.APrepRefIdeal.nD Cert.APrepRefIdeal.τ).loc Cert.APrepRefIdeal.main_arg0) = m ((c.tc : Thread Cert.APrepIdeal.nD Cert.APrepIdeal.τ).loc Cert.APrepIdeal.main_arg0)
      ∧ m' ((c.tc : Thread Cert.APrepRefIdeal.nD Cert.APrepRefIdeal.τ).loc Cert.APrepRefIdeal.main_arg1) = m ((c.tc : Thread Cert.APrepIdeal.nD Cert.APrepIdeal.τ).loc Cert.APrepIdeal.main_arg1)
      ∧ m' ((c.tc : Thread Cert.APrepRefIdeal.nD Cert.APrepRefIdeal.τ).loc Cert.APrepRefIdeal.main_arg2) = m ((c.tc : Thread Cert.APrepIdeal.nD Cert.APrepIdeal.τ).loc Cert.APrepIdeal.main_arg2)
      ∧ m' ((c.tc : Thread Cert.APrepRefIdeal.nD Cert.APrepRefIdeal.τ).loc Cert.APrepRefIdeal.main_arg3) = m ((c.tc : Thread Cert.APrepIdeal.nD Cert.APrepIdeal.τ).loc Cert.APrepIdeal.main_arg3)
      ∧ m' ((c.tc : Thread Cert.APrepRefIdeal.nD Cert.APrepRefIdeal.τ).loc Cert.APrepRefIdeal.main_arg4) = m ((c.tc : Thread Cert.APrepIdeal.nD Cert.APrepIdeal.τ).loc Cert.APrepIdeal.main_arg4)
      ∧ m' ((c.tc : Thread Cert.APrepRefIdeal.nD Cert.APrepRefIdeal.τ).loc Cert.APrepRefIdeal.main_arg5) = m ((c.tc : Thread Cert.APrepIdeal.nD Cert.APrepIdeal.τ).loc Cert.APrepIdeal.main_arg5)
      ∧ m' ((c.tc : Thread Cert.APrepRefIdeal.nD Cert.APrepRefIdeal.τ).loc Cert.APrepRefIdeal.main_arg6) = m ((c.tc : Thread Cert.APrepIdeal.nD Cert.APrepIdeal.τ).loc Cert.APrepIdeal.main_arg6)
      ∧ m' ((c.tc : Thread Cert.APrepRefIdeal.nD Cert.APrepRefIdeal.τ).loc Cert.APrepRefIdeal.main_arg7) = m ((c.tc : Thread Cert.APrepIdeal.nD Cert.APrepIdeal.τ).loc Cert.APrepIdeal.main_arg7)
      ∧ m' ((c.tc : Thread Cert.APrepRefIdeal.nD Cert.APrepRefIdeal.τ).loc Cert.APrepRefIdeal.main_arg8) = m ((c.tc : Thread Cert.APrepIdeal.nD Cert.APrepIdeal.τ).loc Cert.APrepIdeal.main_arg8)
      ∧ m' ((c.tc : Thread Cert.APrepRefIdeal.nD Cert.APrepRefIdeal.τ).loc Cert.APrepRefIdeal.main_arg9) = m ((c.tc : Thread Cert.APrepIdeal.nD Cert.APrepIdeal.τ).loc Cert.APrepIdeal.main_arg9)
      ∧ m' ((c.tc : Thread Cert.APrepRefIdeal.nD Cert.APrepRefIdeal.τ).loc Cert.APrepRefIdeal.main_arg10) = m ((c.tc : Thread Cert.APrepIdeal.nD Cert.APrepIdeal.τ).loc Cert.APrepIdeal.main_arg10)
      ∧ m' ((c.tc : Thread Cert.APrepRefIdeal.nD Cert.APrepRefIdeal.τ).loc Cert.APrepRefIdeal.main_arg11) = m ((c.tc : Thread Cert.APrepIdeal.nD Cert.APrepIdeal.τ).loc Cert.APrepIdeal.main_arg11)) →
    ∃ (v0 : (c : Dev Cert.APrepIdeal.nD) → Buf (Elt Ideal) ((c.tc : Thread Cert.APrepIdeal.nD Cert.APrepIdeal.τ).loc Cert.APrepIdeal.main_v17)),
      θ_run (Cert.APrepIdeal.defs (F := Ideal)) (onTc (τ := Cert.APrepIdeal.τ) (Cert.APrepIdeal.main (F := Ideal))) ⟨m, fun _ => 0, g⟩ (fun r => ∀ c : Dev Cert.APrepIdeal.nD,
          r.2.mem ((c.tc : Thread Cert.APrepIdeal.nD Cert.APrepIdeal.τ).loc Cert.APrepIdeal.main_v17) = v0 c
          ∧ r.2.mem ((c.tc : Thread Cert.APrepIdeal.nD Cert.APrepIdeal.τ).loc Cert.APrepIdeal.main_arg0) = m ((c.tc : Thread Cert.APrepIdeal.nD Cert.APrepIdeal.τ).loc Cert.APrepIdeal.main_arg0)
          ∧ r.2.mem ((c.tc : Thread Cert.APrepIdeal.nD Cert.APrepIdeal.τ).loc Cert.APrepIdeal.main_arg1) = m ((c.tc : Thread Cert.APrepIdeal.nD Cert.APrepIdeal.τ).loc Cert.APrepIdeal.main_arg1)
          ∧ r.2.mem ((c.tc : Thread Cert.APrepIdeal.nD Cert.APrepIdeal.τ).loc Cert.APrepIdeal.main_arg2) = m ((c.tc : Thread Cert.APrepIdeal.nD Cert.APrepIdeal.τ).loc Cert.APrepIdeal.main_arg2)
          ∧ r.2.mem ((c.tc : Thread Cert.APrepIdeal.nD Cert.APrepIdeal.τ).loc Cert.APrepIdeal.main_arg3) = m ((c.tc : Thread Cert.APrepIdeal.nD Cert.APrepIdeal.τ).loc Cert.APrepIdeal.main_arg3)
          ∧ r.2.mem ((c.tc : Thread Cert.APrepIdeal.nD Cert.APrepIdeal.τ).loc Cert.APrepIdeal.main_arg4) = m ((c.tc : Thread Cert.APrepIdeal.nD Cert.APrepIdeal.τ).loc Cert.APrepIdeal.main_arg4)
          ∧ r.2.mem ((c.tc : Thread Cert.APrepIdeal.nD Cert.APrepIdeal.τ).loc Cert.APrepIdeal.main_arg5) = m ((c.tc : Thread Cert.APrepIdeal.nD Cert.APrepIdeal.τ).loc Cert.APrepIdeal.main_arg5)
          ∧ r.2.mem ((c.tc : Thread Cert.APrepIdeal.nD Cert.APrepIdeal.τ).loc Cert.APrepIdeal.main_arg6) = m ((c.tc : Thread Cert.APrepIdeal.nD Cert.APrepIdeal.τ).loc Cert.APrepIdeal.main_arg6)
          ∧ r.2.mem ((c.tc : Thread Cert.APrepIdeal.nD Cert.APrepIdeal.τ).loc Cert.APrepIdeal.main_arg7) = m ((c.tc : Thread Cert.APrepIdeal.nD Cert.APrepIdeal.τ).loc Cert.APrepIdeal.main_arg7)
          ∧ r.2.mem ((c.tc : Thread Cert.APrepIdeal.nD Cert.APrepIdeal.τ).loc Cert.APrepIdeal.main_arg8) = m ((c.tc : Thread Cert.APrepIdeal.nD Cert.APrepIdeal.τ).loc Cert.APrepIdeal.main_arg8)
          ∧ r.2.mem ((c.tc : Thread Cert.APrepIdeal.nD Cert.APrepIdeal.τ).loc Cert.APrepIdeal.main_arg9) = m ((c.tc : Thread Cert.APrepIdeal.nD Cert.APrepIdeal.τ).loc Cert.APrepIdeal.main_arg9)
          ∧ r.2.mem ((c.tc : Thread Cert.APrepIdeal.nD Cert.APrepIdeal.τ).loc Cert.APrepIdeal.main_arg10) = m ((c.tc : Thread Cert.APrepIdeal.nD Cert.APrepIdeal.τ).loc Cert.APrepIdeal.main_arg10)
          ∧ r.2.mem ((c.tc : Thread Cert.APrepIdeal.nD Cert.APrepIdeal.τ).loc Cert.APrepIdeal.main_arg11) = m ((c.tc : Thread Cert.APrepIdeal.nD Cert.APrepIdeal.τ).loc Cert.APrepIdeal.main_arg11))
      ∧ θ_run (Cert.APrepRefIdeal.defs (F := Ideal)) (onTc (τ := Cert.APrepRefIdeal.τ) (Cert.APrepRefIdeal.main (F := Ideal))) ⟨m', fun _ => 0, g'⟩ (fun r => ∀ c : Dev Cert.APrepRefIdeal.nD,
          r.2.mem ((c.tc : Thread Cert.APrepRefIdeal.nD Cert.APrepRefIdeal.τ).loc Cert.APrepRefIdeal.main_v103) = v0 c
          ∧ r.2.mem ((c.tc : Thread Cert.APrepRefIdeal.nD Cert.APrepRefIdeal.τ).loc Cert.APrepRefIdeal.main_arg0) = m' ((c.tc : Thread Cert.APrepRefIdeal.nD Cert.APrepRefIdeal.τ).loc Cert.APrepRefIdeal.main_arg0)
          ∧ r.2.mem ((c.tc : Thread Cert.APrepRefIdeal.nD Cert.APrepRefIdeal.τ).loc Cert.APrepRefIdeal.main_arg1) = m' ((c.tc : Thread Cert.APrepRefIdeal.nD Cert.APrepRefIdeal.τ).loc Cert.APrepRefIdeal.main_arg1)
          ∧ r.2.mem ((c.tc : Thread Cert.APrepRefIdeal.nD Cert.APrepRefIdeal.τ).loc Cert.APrepRefIdeal.main_arg2) = m' ((c.tc : Thread Cert.APrepRefIdeal.nD Cert.APrepRefIdeal.τ).loc Cert.APrepRefIdeal.main_arg2)
          ∧ r.2.mem ((c.tc : Thread Cert.APrepRefIdeal.nD Cert.APrepRefIdeal.τ).loc Cert.APrepRefIdeal.main_arg3) = m' ((c.tc : Thread Cert.APrepRefIdeal.nD Cert.APrepRefIdeal.τ).loc Cert.APrepRefIdeal.main_arg3)
          ∧ r.2.mem ((c.tc : Thread Cert.APrepRefIdeal.nD Cert.APrepRefIdeal.τ).loc Cert.APrepRefIdeal.main_arg4) = m' ((c.tc : Thread Cert.APrepRefIdeal.nD Cert.APrepRefIdeal.τ).loc Cert.APrepRefIdeal.main_arg4)
          ∧ r.2.mem ((c.tc : Thread Cert.APrepRefIdeal.nD Cert.APrepRefIdeal.τ).loc Cert.APrepRefIdeal.main_arg5) = m' ((c.tc : Thread Cert.APrepRefIdeal.nD Cert.APrepRefIdeal.τ).loc Cert.APrepRefIdeal.main_arg5)
          ∧ r.2.mem ((c.tc : Thread Cert.APrepRefIdeal.nD Cert.APrepRefIdeal.τ).loc Cert.APrepRefIdeal.main_arg6) = m' ((c.tc : Thread Cert.APrepRefIdeal.nD Cert.APrepRefIdeal.τ).loc Cert.APrepRefIdeal.main_arg6)
          ∧ r.2.mem ((c.tc : Thread Cert.APrepRefIdeal.nD Cert.APrepRefIdeal.τ).loc Cert.APrepRefIdeal.main_arg7) = m' ((c.tc : Thread Cert.APrepRefIdeal.nD Cert.APrepRefIdeal.τ).loc Cert.APrepRefIdeal.main_arg7)
          ∧ r.2.mem ((c.tc : Thread Cert.APrepRefIdeal.nD Cert.APrepRefIdeal.τ).loc Cert.APrepRefIdeal.main_arg8) = m' ((c.tc : Thread Cert.APrepRefIdeal.nD Cert.APrepRefIdeal.τ).loc Cert.APrepRefIdeal.main_arg8)
          ∧ r.2.mem ((c.tc : Thread Cert.APrepRefIdeal.nD Cert.APrepRefIdeal.τ).loc Cert.APrepRefIdeal.main_arg9) = m' ((c.tc : Thread Cert.APrepRefIdeal.nD Cert.APrepRefIdeal.τ).loc Cert.APrepRefIdeal.main_arg9)
          ∧ r.2.mem ((c.tc : Thread Cert.APrepRefIdeal.nD Cert.APrepRefIdeal.τ).loc Cert.APrepRefIdeal.main_arg10) = m' ((c.tc : Thread Cert.APrepRefIdeal.nD Cert.APrepRefIdeal.τ).loc Cert.APrepRefIdeal.main_arg10)
          ∧ r.2.mem ((c.tc : Thread Cert.APrepRefIdeal.nD Cert.APrepRefIdeal.τ).loc Cert.APrepRefIdeal.main_arg11) = m' ((c.tc : Thread Cert.APrepRefIdeal.nD Cert.APrepRefIdeal.τ).loc Cert.APrepRefIdeal.main_arg11))

def preserves_APrepF_APrepFIdeal : Prop :=
  True

def algebraic_APrepFIdeal_APrepFRefIdeal [hAPrepFIdeal : Cert.APrepFIdeal.Facts] [hAPrepFRefIdeal : Cert.APrepFRefIdeal.Facts] : Prop :=
  ∀ (m : (ℓ : Loc Cert.APrepFIdeal.nD Cert.APrepFIdeal.τ Cert.APrepFIdeal.sig) → Buf (Elt Ideal) ℓ) (g : Dev Cert.APrepFIdeal.nD → PrngReg)
    (m' : (ℓ : Loc Cert.APrepFRefIdeal.nD Cert.APrepFRefIdeal.τ Cert.APrepFRefIdeal.sig) → Buf (Elt Ideal) ℓ) (g' : Dev Cert.APrepFRefIdeal.nD → PrngReg), Pre_APrepFIdeal m →
    (∀ c : Dev Cert.APrepFIdeal.nD,
      m' ((c.tc : Thread Cert.APrepFRefIdeal.nD Cert.APrepFRefIdeal.τ).loc Cert.APrepFRefIdeal.main_arg0) = m ((c.tc : Thread Cert.APrepFIdeal.nD Cert.APrepFIdeal.τ).loc Cert.APrepFIdeal.main_arg0)
      ∧ m' ((c.tc : Thread Cert.APrepFRefIdeal.nD Cert.APrepFRefIdeal.τ).loc Cert.APrepFRefIdeal.main_arg1) = m ((c.tc : Thread Cert.APrepFIdeal.nD Cert.APrepFIdeal.τ).loc Cert.APrepFIdeal.main_arg1)
      ∧ m' ((c.tc : Thread Cert.APrepFRefIdeal.nD Cert.APrepFRefIdeal.τ).loc Cert.APrepFRefIdeal.main_arg2) = m ((c.tc : Thread Cert.APrepFIdeal.nD Cert.APrepFIdeal.τ).loc Cert.APrepFIdeal.main_arg2)) →
    ∃ (v0 : (c : Dev Cert.APrepFIdeal.nD) → Buf (Elt Ideal) ((c.tc : Thread Cert.APrepFIdeal.nD Cert.APrepFIdeal.τ).loc Cert.APrepFIdeal.main_v17_0)) (v1 : (c : Dev Cert.APrepFIdeal.nD) → Buf (Elt Ideal) ((c.tc : Thread Cert.APrepFIdeal.nD Cert.APrepFIdeal.τ).loc Cert.APrepFIdeal.main_v17_1)) (v2 : (c : Dev Cert.APrepFIdeal.nD) → Buf (Elt Ideal) ((c.tc : Thread Cert.APrepFIdeal.nD Cert.APrepFIdeal.τ).loc Cert.APrepFIdeal.main_v17_2)),
      θ_run (Cert.APrepFIdeal.defs (F := Ideal)) (onTc (τ := Cert.APrepFIdeal.τ) (Cert.APrepFIdeal.main (F := Ideal))) ⟨m, fun _ => 0, g⟩ (fun r => ∀ c : Dev Cert.APrepFIdeal.nD,
          r.2.mem ((c.tc : Thread Cert.APrepFIdeal.nD Cert.APrepFIdeal.τ).loc Cert.APrepFIdeal.main_v17_0) = v0 c
          ∧ r.2.mem ((c.tc : Thread Cert.APrepFIdeal.nD Cert.APrepFIdeal.τ).loc Cert.APrepFIdeal.main_v17_1) = v1 c
          ∧ r.2.mem ((c.tc : Thread Cert.APrepFIdeal.nD Cert.APrepFIdeal.τ).loc Cert.APrepFIdeal.main_v17_2) = v2 c
          ∧ r.2.mem ((c.tc : Thread Cert.APrepFIdeal.nD Cert.APrepFIdeal.τ).loc Cert.APrepFIdeal.main_arg0) = m ((c.tc : Thread Cert.APrepFIdeal.nD Cert.APrepFIdeal.τ).loc Cert.APrepFIdeal.main_arg0)
          ∧ r.2.mem ((c.tc : Thread Cert.APrepFIdeal.nD Cert.APrepFIdeal.τ).loc Cert.APrepFIdeal.main_arg1) = m ((c.tc : Thread Cert.APrepFIdeal.nD Cert.APrepFIdeal.τ).loc Cert.APrepFIdeal.main_arg1)
          ∧ r.2.mem ((c.tc : Thread Cert.APrepFIdeal.nD Cert.APrepFIdeal.τ).loc Cert.APrepFIdeal.main_arg2) = m ((c.tc : Thread Cert.APrepFIdeal.nD Cert.APrepFIdeal.τ).loc Cert.APrepFIdeal.main_arg2))
      ∧ θ_run (Cert.APrepFRefIdeal.defs (F := Ideal)) (onTc (τ := Cert.APrepFRefIdeal.τ) (Cert.APrepFRefIdeal.main (F := Ideal))) ⟨m', fun _ => 0, g'⟩ (fun r => ∀ c : Dev Cert.APrepFRefIdeal.nD,
          r.2.mem ((c.tc : Thread Cert.APrepFRefIdeal.nD Cert.APrepFRefIdeal.τ).loc Cert.APrepFRefIdeal.main_v41) = v0 c
          ∧ r.2.mem ((c.tc : Thread Cert.APrepFRefIdeal.nD Cert.APrepFRefIdeal.τ).loc Cert.APrepFRefIdeal.main_v42) = v1 c
          ∧ r.2.mem ((c.tc : Thread Cert.APrepFRefIdeal.nD Cert.APrepFRefIdeal.τ).loc Cert.APrepFRefIdeal.main_v43) = v2 c
          ∧ r.2.mem ((c.tc : Thread Cert.APrepFRefIdeal.nD Cert.APrepFRefIdeal.τ).loc Cert.APrepFRefIdeal.main_arg0) = m' ((c.tc : Thread Cert.APrepFRefIdeal.nD Cert.APrepFRefIdeal.τ).loc Cert.APrepFRefIdeal.main_arg0)
          ∧ r.2.mem ((c.tc : Thread Cert.APrepFRefIdeal.nD Cert.APrepFRefIdeal.τ).loc Cert.APrepFRefIdeal.main_arg1) = m' ((c.tc : Thread Cert.APrepFRefIdeal.nD Cert.APrepFRefIdeal.τ).loc Cert.APrepFRefIdeal.main_arg1)
          ∧ r.2.mem ((c.tc : Thread Cert.APrepFRefIdeal.nD Cert.APrepFRefIdeal.τ).loc Cert.APrepFRefIdeal.main_arg2) = m' ((c.tc : Thread Cert.APrepFRefIdeal.nD Cert.APrepFRefIdeal.τ).loc Cert.APrepFRefIdeal.main_arg2))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDhIn : Cert.DhIn.Facts) (hDhInIdeal : Cert.DhInIdeal.Facts) (hDhInRefIdeal : Cert.DhInRefIdeal.Facts) (hDwOut : Cert.DwOut.Facts) (hDwOutIdeal : Cert.DwOutIdeal.Facts) (hDwOutRefIdeal : Cert.DwOutRefIdeal.Facts) (hDyOut : Cert.DyOut.Facts) (hDyOutIdeal : Cert.DyOutIdeal.Facts) (hDyOutRefIdeal : Cert.DyOutRefIdeal.Facts) (hMIn : Cert.MIn.Facts) (hMInIdeal : Cert.MInIdeal.Facts) (hMInRefIdeal : Cert.MInRefIdeal.Facts) (hMOut : Cert.MOut.Facts) (hMOutIdeal : Cert.MOutIdeal.Facts) (hMOutRefIdeal : Cert.MOutRefIdeal.Facts) (hAWIn : Cert.AWIn.Facts) (hAWInIdeal : Cert.AWInIdeal.Facts) (hAWInRefIdeal : Cert.AWInRefIdeal.Facts) (hAWOut : Cert.AWOut.Facts) (hAWOutIdeal : Cert.AWOutIdeal.Facts) (hAWOutRefIdeal : Cert.AWOutRefIdeal.Facts) (hANorm : Cert.ANorm.Facts) (hANormIdeal : Cert.ANormIdeal.Facts) (hANormRefIdeal : Cert.ANormRefIdeal.Facts) (hAShort : Cert.AShort.Facts) (hAShortIdeal : Cert.AShortIdeal.Facts) (hAShortRefIdeal : Cert.AShortRefIdeal.Facts) (hAHead : Cert.AHead.Facts) (hAHeadIdeal : Cert.AHeadIdeal.Facts) (hAHeadRefIdeal : Cert.AHeadRefIdeal.Facts) (hAGdn : Cert.AGdn.Facts) (hAGdnIdeal : Cert.AGdnIdeal.Facts) (hAGdnRefIdeal : Cert.AGdnRefIdeal.Facts) (hADw : Cert.ADw.Facts) (hADwIdeal : Cert.ADwIdeal.Facts) (hADwRefIdeal : Cert.ADwRefIdeal.Facts) (hALn : Cert.ALn.Facts) (hALnIdeal : Cert.ALnIdeal.Facts) (hALnRefIdeal : Cert.ALnRefIdeal.Facts) (hAPw : Cert.APw.Facts) (hAPwIdeal : Cert.APwIdeal.Facts) (hAPwRefIdeal : Cert.APwRefIdeal.Facts) (hAFinal : Cert.AFinal.Facts) (hAFinalIdeal : Cert.AFinalIdeal.Facts) (hAFinalRefIdeal : Cert.AFinalRefIdeal.Facts) (hRmsB : Cert.RmsB.Facts) (hRmsBIdeal : Cert.RmsBIdeal.Facts) (hRmsBRefIdeal : Cert.RmsBRefIdeal.Facts) (hLoss : Cert.Loss.Facts) (hLossIdeal : Cert.LossIdeal.Facts) (hLossRefIdeal : Cert.LossRefIdeal.Facts) (hRmsF : Cert.RmsF.Facts) (hRmsFIdeal : Cert.RmsFIdeal.Facts) (hRmsFRefIdeal : Cert.RmsFRefIdeal.Facts) (hSSmall : Cert.SSmall.Facts) (hSSmallIdeal : Cert.SSmallIdeal.Facts) (hSSmallRefIdeal : Cert.SSmallRefIdeal.Facts) (hSPw : Cert.SPw.Facts) (hSPwIdeal : Cert.SPwIdeal.Facts) (hSPwRefIdeal : Cert.SPwRefIdeal.Facts) (hSIn : Cert.SIn.Facts) (hSInIdeal : Cert.SInIdeal.Facts) (hSInRefIdeal : Cert.SInRefIdeal.Facts) (hSOut : Cert.SOut.Facts) (hSOutIdeal : Cert.SOutIdeal.Facts) (hSOutRefIdeal : Cert.SOutRefIdeal.Facts) (hAPrep : Cert.APrep.Facts) (hAPrepIdeal : Cert.APrepIdeal.Facts) (hAPrepRefIdeal : Cert.APrepRefIdeal.Facts) (hAPrepF : Cert.APrepF.Facts) (hAPrepFIdeal : Cert.APrepFIdeal.Facts) (hAPrepFRefIdeal : Cert.APrepFRefIdeal.Facts),
    quiescent_Kernel (hKernel := hKernel)
    ∧ quiescent_KernelIdeal (hKernelIdeal := hKernelIdeal)
    ∧ quiescent_ReferenceIdeal (hReferenceIdeal := hReferenceIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DhIn (hDhIn := hDhIn)
    ∧ quiescent_DhInIdeal (hDhInIdeal := hDhInIdeal)
    ∧ quiescent_DhInRefIdeal (hDhInRefIdeal := hDhInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DyOut (hDyOut := hDyOut)
    ∧ quiescent_DyOutIdeal (hDyOutIdeal := hDyOutIdeal)
    ∧ quiescent_DyOutRefIdeal (hDyOutRefIdeal := hDyOutRefIdeal)
    ∧ quiescent_MIn (hMIn := hMIn)
    ∧ quiescent_MInIdeal (hMInIdeal := hMInIdeal)
    ∧ quiescent_MInRefIdeal (hMInRefIdeal := hMInRefIdeal)
    ∧ quiescent_MOut (hMOut := hMOut)
    ∧ quiescent_MOutIdeal (hMOutIdeal := hMOutIdeal)
    ∧ quiescent_MOutRefIdeal (hMOutRefIdeal := hMOutRefIdeal)
    ∧ quiescent_AWIn (hAWIn := hAWIn)
    ∧ quiescent_AWInIdeal (hAWInIdeal := hAWInIdeal)
    ∧ quiescent_AWInRefIdeal (hAWInRefIdeal := hAWInRefIdeal)
    ∧ quiescent_AWOut (hAWOut := hAWOut)
    ∧ quiescent_AWOutIdeal (hAWOutIdeal := hAWOutIdeal)
    ∧ quiescent_AWOutRefIdeal (hAWOutRefIdeal := hAWOutRefIdeal)
    ∧ quiescent_ANorm (hANorm := hANorm)
    ∧ quiescent_ANormIdeal (hANormIdeal := hANormIdeal)
    ∧ quiescent_ANormRefIdeal (hANormRefIdeal := hANormRefIdeal)
    ∧ quiescent_AShort (hAShort := hAShort)
    ∧ quiescent_AShortIdeal (hAShortIdeal := hAShortIdeal)
    ∧ quiescent_AShortRefIdeal (hAShortRefIdeal := hAShortRefIdeal)
    ∧ quiescent_AHead (hAHead := hAHead)
    ∧ quiescent_AHeadIdeal (hAHeadIdeal := hAHeadIdeal)
    ∧ quiescent_AHeadRefIdeal (hAHeadRefIdeal := hAHeadRefIdeal)
    ∧ quiescent_AGdn (hAGdn := hAGdn)
    ∧ quiescent_AGdnIdeal (hAGdnIdeal := hAGdnIdeal)
    ∧ quiescent_AGdnRefIdeal (hAGdnRefIdeal := hAGdnRefIdeal)
    ∧ quiescent_ADw (hADw := hADw)
    ∧ quiescent_ADwIdeal (hADwIdeal := hADwIdeal)
    ∧ quiescent_ADwRefIdeal (hADwRefIdeal := hADwRefIdeal)
    ∧ quiescent_ALn (hALn := hALn)
    ∧ quiescent_ALnIdeal (hALnIdeal := hALnIdeal)
    ∧ quiescent_ALnRefIdeal (hALnRefIdeal := hALnRefIdeal)
    ∧ quiescent_APw (hAPw := hAPw)
    ∧ quiescent_APwIdeal (hAPwIdeal := hAPwIdeal)
    ∧ quiescent_APwRefIdeal (hAPwRefIdeal := hAPwRefIdeal)
    ∧ quiescent_AFinal (hAFinal := hAFinal)
    ∧ quiescent_AFinalIdeal (hAFinalIdeal := hAFinalIdeal)
    ∧ quiescent_AFinalRefIdeal (hAFinalRefIdeal := hAFinalRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_Loss (hLoss := hLoss)
    ∧ quiescent_LossIdeal (hLossIdeal := hLossIdeal)
    ∧ quiescent_LossRefIdeal (hLossRefIdeal := hLossRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_SSmall (hSSmall := hSSmall)
    ∧ quiescent_SSmallIdeal (hSSmallIdeal := hSSmallIdeal)
    ∧ quiescent_SSmallRefIdeal (hSSmallRefIdeal := hSSmallRefIdeal)
    ∧ quiescent_SPw (hSPw := hSPw)
    ∧ quiescent_SPwIdeal (hSPwIdeal := hSPwIdeal)
    ∧ quiescent_SPwRefIdeal (hSPwRefIdeal := hSPwRefIdeal)
    ∧ quiescent_SIn (hSIn := hSIn)
    ∧ quiescent_SInIdeal (hSInIdeal := hSInIdeal)
    ∧ quiescent_SInRefIdeal (hSInRefIdeal := hSInRefIdeal)
    ∧ quiescent_SOut (hSOut := hSOut)
    ∧ quiescent_SOutIdeal (hSOutIdeal := hSOutIdeal)
    ∧ quiescent_SOutRefIdeal (hSOutRefIdeal := hSOutRefIdeal)
    ∧ quiescent_APrep (hAPrep := hAPrep)
    ∧ quiescent_APrepIdeal (hAPrepIdeal := hAPrepIdeal)
    ∧ quiescent_APrepRefIdeal (hAPrepRefIdeal := hAPrepRefIdeal)
    ∧ quiescent_APrepF (hAPrepF := hAPrepF)
    ∧ quiescent_APrepFIdeal (hAPrepFIdeal := hAPrepFIdeal)
    ∧ quiescent_APrepFRefIdeal (hAPrepFRefIdeal := hAPrepFRefIdeal)
    ∧ preserves_Kernel_KernelIdeal
    ∧ algebraic_KernelIdeal_ReferenceIdeal (hKernelIdeal := hKernelIdeal) (hReferenceIdeal := hReferenceIdeal)
    ∧ preserves_DwIn_DwInIdeal
    ∧ algebraic_DwInIdeal_DwInRefIdeal (hDwInIdeal := hDwInIdeal) (hDwInRefIdeal := hDwInRefIdeal)
    ∧ preserves_DhIn_DhInIdeal
    ∧ algebraic_DhInIdeal_DhInRefIdeal (hDhInIdeal := hDhInIdeal) (hDhInRefIdeal := hDhInRefIdeal)
    ∧ preserves_DwOut_DwOutIdeal
    ∧ algebraic_DwOutIdeal_DwOutRefIdeal (hDwOutIdeal := hDwOutIdeal) (hDwOutRefIdeal := hDwOutRefIdeal)
    ∧ preserves_DyOut_DyOutIdeal
    ∧ algebraic_DyOutIdeal_DyOutRefIdeal (hDyOutIdeal := hDyOutIdeal) (hDyOutRefIdeal := hDyOutRefIdeal)
    ∧ preserves_MIn_MInIdeal
    ∧ algebraic_MInIdeal_MInRefIdeal (hMInIdeal := hMInIdeal) (hMInRefIdeal := hMInRefIdeal)
    ∧ preserves_MOut_MOutIdeal
    ∧ algebraic_MOutIdeal_MOutRefIdeal (hMOutIdeal := hMOutIdeal) (hMOutRefIdeal := hMOutRefIdeal)
    ∧ preserves_AWIn_AWInIdeal
    ∧ algebraic_AWInIdeal_AWInRefIdeal (hAWInIdeal := hAWInIdeal) (hAWInRefIdeal := hAWInRefIdeal)
    ∧ preserves_AWOut_AWOutIdeal
    ∧ algebraic_AWOutIdeal_AWOutRefIdeal (hAWOutIdeal := hAWOutIdeal) (hAWOutRefIdeal := hAWOutRefIdeal)
    ∧ preserves_ANorm_ANormIdeal
    ∧ algebraic_ANormIdeal_ANormRefIdeal (hANormIdeal := hANormIdeal) (hANormRefIdeal := hANormRefIdeal)
    ∧ preserves_AShort_AShortIdeal
    ∧ algebraic_AShortIdeal_AShortRefIdeal (hAShortIdeal := hAShortIdeal) (hAShortRefIdeal := hAShortRefIdeal)
    ∧ preserves_AHead_AHeadIdeal
    ∧ algebraic_AHeadIdeal_AHeadRefIdeal (hAHeadIdeal := hAHeadIdeal) (hAHeadRefIdeal := hAHeadRefIdeal)
    ∧ preserves_AGdn_AGdnIdeal
    ∧ algebraic_AGdnIdeal_AGdnRefIdeal (hAGdnIdeal := hAGdnIdeal) (hAGdnRefIdeal := hAGdnRefIdeal)
    ∧ preserves_ADw_ADwIdeal
    ∧ algebraic_ADwIdeal_ADwRefIdeal (hADwIdeal := hADwIdeal) (hADwRefIdeal := hADwRefIdeal)
    ∧ preserves_ALn_ALnIdeal
    ∧ algebraic_ALnIdeal_ALnRefIdeal (hALnIdeal := hALnIdeal) (hALnRefIdeal := hALnRefIdeal)
    ∧ preserves_APw_APwIdeal
    ∧ algebraic_APwIdeal_APwRefIdeal (hAPwIdeal := hAPwIdeal) (hAPwRefIdeal := hAPwRefIdeal)
    ∧ preserves_AFinal_AFinalIdeal
    ∧ algebraic_AFinalIdeal_AFinalRefIdeal (hAFinalIdeal := hAFinalIdeal) (hAFinalRefIdeal := hAFinalRefIdeal)
    ∧ preserves_RmsB_RmsBIdeal
    ∧ algebraic_RmsBIdeal_RmsBRefIdeal (hRmsBIdeal := hRmsBIdeal) (hRmsBRefIdeal := hRmsBRefIdeal)
    ∧ preserves_Loss_LossIdeal
    ∧ algebraic_LossIdeal_LossRefIdeal (hLossIdeal := hLossIdeal) (hLossRefIdeal := hLossRefIdeal)
    ∧ preserves_RmsF_RmsFIdeal
    ∧ algebraic_RmsFIdeal_RmsFRefIdeal (hRmsFIdeal := hRmsFIdeal) (hRmsFRefIdeal := hRmsFRefIdeal)
    ∧ preserves_SSmall_SSmallIdeal
    ∧ algebraic_SSmallIdeal_SSmallRefIdeal (hSSmallIdeal := hSSmallIdeal) (hSSmallRefIdeal := hSSmallRefIdeal)
    ∧ preserves_SPw_SPwIdeal
    ∧ algebraic_SPwIdeal_SPwRefIdeal (hSPwIdeal := hSPwIdeal) (hSPwRefIdeal := hSPwRefIdeal)
    ∧ preserves_SIn_SInIdeal
    ∧ algebraic_SInIdeal_SInRefIdeal (hSInIdeal := hSInIdeal) (hSInRefIdeal := hSInRefIdeal)
    ∧ preserves_SOut_SOutIdeal
    ∧ algebraic_SOutIdeal_SOutRefIdeal (hSOutIdeal := hSOutIdeal) (hSOutRefIdeal := hSOutRefIdeal)
    ∧ preserves_APrep_APrepIdeal
    ∧ algebraic_APrepIdeal_APrepRefIdeal (hAPrepIdeal := hAPrepIdeal) (hAPrepRefIdeal := hAPrepRefIdeal)
    ∧ preserves_APrepF_APrepFIdeal
    ∧ algebraic_APrepFIdeal_APrepFRefIdeal (hAPrepFIdeal := hAPrepFIdeal) (hAPrepFRefIdeal := hAPrepFRefIdeal)
-- ==== Kernel.lean ====
abbrev S8192x8192 : Shape := ⟨2, ![8192, 8192]⟩
abbrev S8192x512 : Shape := ⟨2, ![8192, 512]⟩
abbrev S1x512 : Shape := ⟨2, ![1, 512]⟩
abbrev S512x512 : Shape := ⟨2, ![512, 512]⟩
abbrev S8192x2048 : Shape := ⟨2, ![8192, 2048]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512x512, .f32⟩
  | .hbm, ⟨6, _⟩ => ⟨S8192x2048, .f32⟩
  | .hbm, ⟨7, _⟩ => ⟨S8192x8192, .bf16⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x8192, .bf16⟩
  | .hbm, ⟨12, _⟩ => ⟨S1x512, .f32⟩
  | .hbm, ⟨13, _⟩ => ⟨S1x512, .f32⟩
  | .hbm, ⟨14, _⟩ => ⟨S512x512, .f32⟩
  | .hbm, ⟨15, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x8192 : Shape := ⟨2, ![8192, 8192]⟩
abbrev S8192x512 : Shape := ⟨2, ![8192, 512]⟩
abbrev S1x512 : Shape := ⟨2, ![1, 512]⟩
abbrev S512x512 : Shape := ⟨2, ![512, 512]⟩
abbrev S8192x2048 : Shape := ⟨2, ![8192, 2048]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S8192x6656 : Shape := ⟨2, ![8192, 6656]⟩

abbrev nBuf : Space → Nat
  | .hbm => 131
  | .vmem => 0
  | .smem => 0
  | _ => 0

abbrev hbmTy0_0 (i : Nat) : BufTy := match i % 128 with
  | 0 => ⟨S8192x8192, .f32⟩
  | 1 => ⟨S8192x512, .f32⟩
  | 2 => ⟨S1x512, .f32⟩
  | 3 => ⟨S1x512, .f32⟩
  | 4 => ⟨S1x512, .f32⟩
  | 5 => ⟨S512x512, .f32⟩
  | 6 => ⟨S8192x2048, .f32⟩
  | 7 => ⟨S8192x8192, .bf16⟩
  | 8 => ⟨S8192x512, .f32⟩
  | 9 => ⟨S512, .f32⟩
  | 10 => ⟨S1x512, .f32⟩
  | 11 => ⟨S8192x512, .f32⟩
  | 12 => ⟨S8192x512, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x512, .f32⟩
  | 20 => ⟨S8192x512, .f32⟩
  | 21 => ⟨S8192x512, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S512x512, .f32⟩
  | 78 => ⟨S512x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S_, .f32⟩
  | 85 => ⟨S512, .f32⟩
  | 86 => ⟨S1x512, .f32⟩
  | 87 => ⟨S8192x512, .f32⟩
  | 88 => ⟨S_, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S_, .f32⟩
  | 95 => ⟨S8192, .f32⟩
  | 96 => ⟨S8192x1, .f32⟩
  | 97 => ⟨S8192x512, .f32⟩
  | 98 => ⟨S8192x512, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192, .f32⟩
  | 119 => ⟨S8192x512, .f32⟩
  | 120 => ⟨S8192x512, .f32⟩
  | 121 => ⟨S_, .f32⟩
  | 122 => ⟨S512, .f32⟩
  | 123 => ⟨S1x512, .f32⟩
  | 124 => ⟨S_, .f32⟩
  | 125 => ⟨S512, .f32⟩
  | 126 => ⟨S1x512, .f32⟩
  | 127 => ⟨S8192x1024, .bf16⟩
  | _ => ⟨S8192x8192, .f32⟩

abbrev hbmTy0_1 (i : Nat) : BufTy := match i % 128 with
  | 0 => ⟨S8192x512, .bf16⟩
  | 1 => ⟨S8192x6656, .bf16⟩
  | 2 => ⟨S8192x8192, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v28_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v28_1 : Ref sig .tc := ⟨.hbm, 53, rfl⟩
abbrev main_v28_0 : Ref sig .tc := ⟨.hbm, 54, rfl⟩
abbrev main_v29 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_v30_2 : Ref sig .tc := ⟨.hbm, 63, rfl⟩
abbrev main_call1_cst_1 : Ref sig .tc := ⟨.hbm, 64, rfl⟩
abbrev main_call1_v6 : Ref sig .tc := ⟨.hbm, 65, rfl⟩
abbrev main_call1_v7 : Ref sig .tc := ⟨.hbm, 66, rfl⟩
abbrev main_v30_1 : Ref sig .tc := ⟨.hbm, 67, rfl⟩
abbrev main_v30_0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v39 : Ref sig .tc := ⟨.hbm, 83, rfl⟩
abbrev main_cst_5 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_6 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_7 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_8 : Ref sig .tc := ⟨.hbm, 100, rfl⟩
abbrev main_v53 : Ref sig .tc := ⟨.hbm, 101, rfl⟩
abbrev main_v54 : Ref sig .tc := ⟨.hbm, 102, rfl⟩
abbrev main_cst_9 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_10 : Ref sig .tc := ⟨.hbm, 111, rfl⟩
abbrev main_v62 : Ref sig .tc := ⟨.hbm, 112, rfl⟩
abbrev main_v63 : Ref sig .tc := ⟨.hbm, 113, rfl⟩
abbrev main_cst_11 : Ref sig .tc := ⟨.hbm, 114, rfl⟩
abbrev main_v64 : Ref sig .tc := ⟨.hbm, 115, rfl⟩
abbrev main_v65 : Ref sig .tc := ⟨.hbm, 116, rfl⟩
abbrev main_cst_12 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_13 : Ref sig .tc := ⟨.hbm, 121, rfl⟩
abbrev main_v69 : Ref sig .tc := ⟨.hbm, 122, rfl⟩
abbrev main_v70 : Ref sig .tc := ⟨.hbm, 123, rfl⟩
abbrev main_cst_14 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩

abbrev nD : Nat := 1
abbrev τ : Topo := Topo.v7x

variable {F : FTy → Type} [FloatOps F]
-- ==== DwIn.lean ====
abbrev S8192x2048 : Shape := ⟨2, ![8192, 2048]⟩
abbrev S8192x8192 : Shape := ⟨2, ![8192, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhIn.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhInRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DyOut.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyOutRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MIn.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MInRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MOut.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MOutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AWIn.lean ====
abbrev S1024x7692 : Shape := ⟨2, ![1024, 7692]⟩
abbrev S64x7692 : Shape := ⟨2, ![64, 7692]⟩

abbrev nBuf : Space → Nat
  | .hbm => 7
  | .vmem => 14
  | .smem => 0
  | _ => 0

abbrev bufTy : (tb : Table) → Fin (tcTables nBuf tb) → BufTy
  | .hbm, ⟨0, _⟩ => ⟨S1024x7692, .f32⟩
  | .hbm, ⟨1, _⟩ => ⟨S1024x7692, .f32⟩
  | .hbm, ⟨2, _⟩ => ⟨S1024x7692, .f32⟩
  | .hbm, ⟨3, _⟩ => ⟨S1024x7692, .f32⟩
  | .hbm, ⟨4, _⟩ => ⟨S1024x7692, .f32⟩
  | .hbm, ⟨5, _⟩ => ⟨S1024x7692, .f32⟩
  | .hbm, ⟨6, _⟩ => ⟨S1024x7692, .f32⟩
  | .local _ .vmem, ⟨0, _⟩ => ⟨S64x7692, .f32⟩
  | .local _ .vmem, ⟨1, _⟩ => ⟨S64x7692, .f32⟩
  | .local _ .vmem, ⟨2, _⟩ => ⟨S64x7692, .f32⟩
  | .local _ .vmem, ⟨3, _⟩ => ⟨S64x7692, .f32⟩
  | .local _ .vmem, ⟨4, _⟩ => ⟨S64x7692, .f32⟩
  | .local _ .vmem, ⟨5, _⟩ => ⟨S64x7692, .f32⟩
  | .local _ .vmem, ⟨6, _⟩ => ⟨S64x7692, .f32⟩
  | .local _ .vmem, ⟨7, _⟩ => ⟨S64x7692, .f32⟩
  | .local _ .vmem, ⟨8, _⟩ => ⟨S64x7692, .f32⟩
  | .local _ .vmem, ⟨9, _⟩ => ⟨S64x7692, .f32⟩
  | .local _ .vmem, ⟨10, _⟩ => ⟨S64x7692, .f32⟩
  | .local _ .vmem, ⟨11, _⟩ => ⟨S64x7692, .f32⟩
  | .local _ .vmem, ⟨12, _⟩ => ⟨S64x7692, .f32⟩
  | .local _ .vmem, ⟨13, _⟩ => ⟨S64x7692, .f32⟩
  | _, _ => ⟨S1024x7692, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x7692 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7692 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7692 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x7692 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7692 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x7692 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x7692 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWInRefIdeal.lean ====
abbrev S1024x7692 : Shape := ⟨2, ![1024, 7692]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x7692, .f32⟩
  | .hbm, ⟨1, _⟩ => ⟨S1024x7692, .f32⟩
  | .hbm, ⟨2, _⟩ => ⟨S1024x7692, .f32⟩
  | .hbm, ⟨3, _⟩ => ⟨S1024x7692, .f32⟩
  | .hbm, ⟨4, _⟩ => ⟨S_, .f32⟩
  | .hbm, ⟨5, _⟩ => ⟨S1024x7692, .f32⟩
  | .hbm, ⟨6, _⟩ => ⟨S1024x7692, .f32⟩
  | .hbm, ⟨7, _⟩ => ⟨S_, .f32⟩
  | .hbm, ⟨8, _⟩ => ⟨S1024x7692, .f32⟩
  | .hbm, ⟨9, _⟩ => ⟨S1024x7692, .f32⟩
  | .hbm, ⟨10, _⟩ => ⟨S1024x7692, .f32⟩
  | .hbm, ⟨11, _⟩ => ⟨S_, .f32⟩
  | .hbm, ⟨12, _⟩ => ⟨S1024x7692, .f32⟩
  | .hbm, ⟨13, _⟩ => ⟨S1024x7692, .f32⟩
  | .hbm, ⟨14, _⟩ => ⟨S1024x7692, .f32⟩
  | .hbm, ⟨15, _⟩ => ⟨S_, .f32⟩
  | .hbm, ⟨16, _⟩ => ⟨S1024x7692, .f32⟩
  | .hbm, ⟨17, _⟩ => ⟨S1024x7692, .f32⟩
  | .hbm, ⟨18, _⟩ => ⟨S1024x7692, .f32⟩
  | .hbm, ⟨19, _⟩ => ⟨S_, .f32⟩
  | .hbm, ⟨20, _⟩ => ⟨S1024x7692, .f32⟩
  | .hbm, ⟨21, _⟩ => ⟨S1024x7692, .f32⟩
  | .hbm, ⟨22, _⟩ => ⟨S_, .f32⟩
  | .hbm, ⟨23, _⟩ => ⟨S1024x7692, .f32⟩
  | .hbm, ⟨24, _⟩ => ⟨S1024x7692, .f32⟩
  | .hbm, ⟨25, _⟩ => ⟨S1024x7692, .f32⟩
  | .hbm, ⟨26, _⟩ => ⟨S_, .f32⟩
  | .hbm, ⟨27, _⟩ => ⟨S1024x7692, .f32⟩
  | .hbm, ⟨28, _⟩ => ⟨S1024x7692, .f32⟩
  | .hbm, ⟨29, _⟩ => ⟨S1024x7692, .f32⟩
  | .hbm, ⟨30, _⟩ => ⟨S_, .f32⟩
  | .hbm, ⟨31, _⟩ => ⟨S1024x7692, .f32⟩
  | .hbm, ⟨32, _⟩ => ⟨S1024x7692, .f32⟩
  | .hbm, ⟨33, _⟩ => ⟨S1024x7692, .f32⟩
  | .hbm, ⟨34, _⟩ => ⟨S_, .f32⟩
  | .hbm, ⟨35, _⟩ => ⟨S1024x7692, .f32⟩
  | .hbm, ⟨36, _⟩ => ⟨S1024x7692, .f32⟩
  | _, _ => ⟨S1024x7692, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AWOut.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWOutRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ANorm.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ANormRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AShort.lean ====
abbrev S16x288 : Shape := ⟨2, ![16, 288]⟩

abbrev nBuf : Space → Nat
  | .hbm => 7
  | .vmem => 7
  | .smem => 0
  | _ => 0

abbrev bufTy : (tb : Table) → Fin (tcTables nBuf tb) → BufTy
  | .hbm, ⟨0, _⟩ => ⟨S16x288, .f32⟩
  | .hbm, ⟨1, _⟩ => ⟨S16x288, .f32⟩
  | .hbm, ⟨2, _⟩ => ⟨S16x288, .f32⟩
  | .hbm, ⟨3, _⟩ => ⟨S16x288, .f32⟩
  | .hbm, ⟨4, _⟩ => ⟨S16x288, .f32⟩
  | .hbm, ⟨5, _⟩ => ⟨S16x288, .f32⟩
  | .hbm, ⟨6, _⟩ => ⟨S16x288, .f32⟩
  | .local _ .vmem, ⟨0, _⟩ => ⟨S16x288, .f32⟩
  | .local _ .vmem, ⟨1, _⟩ => ⟨S16x288, .f32⟩
  | .local _ .vmem, ⟨2, _⟩ => ⟨S16x288, .f32⟩
  | .local _ .vmem, ⟨3, _⟩ => ⟨S16x288, .f32⟩
  | .local _ .vmem, ⟨4, _⟩ => ⟨S16x288, .f32⟩
  | .local _ .vmem, ⟨5, _⟩ => ⟨S16x288, .f32⟩
  | .local _ .vmem, ⟨6, _⟩ => ⟨S16x288, .f32⟩
  | _, _ => ⟨S16x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AShortRefIdeal.lean ====
abbrev S16x288 : Shape := ⟨2, ![16, 288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x288, .f32⟩
  | .hbm, ⟨1, _⟩ => ⟨S16x288, .f32⟩
  | .hbm, ⟨2, _⟩ => ⟨S16x288, .f32⟩
  | .hbm, ⟨3, _⟩ => ⟨S16x288, .f32⟩
  | .hbm, ⟨4, _⟩ => ⟨S_, .f32⟩
  | .hbm, ⟨5, _⟩ => ⟨S16x288, .f32⟩
  | .hbm, ⟨6, _⟩ => ⟨S16x288, .f32⟩
  | .hbm, ⟨7, _⟩ => ⟨S_, .f32⟩
  | .hbm, ⟨8, _⟩ => ⟨S16x288, .f32⟩
  | .hbm, ⟨9, _⟩ => ⟨S16x288, .f32⟩
  | .hbm, ⟨10, _⟩ => ⟨S16x288, .f32⟩
  | .hbm, ⟨11, _⟩ => ⟨S_, .f32⟩
  | .hbm, ⟨12, _⟩ => ⟨S16x288, .f32⟩
  | .hbm, ⟨13, _⟩ => ⟨S16x288, .f32⟩
  | .hbm, ⟨14, _⟩ => ⟨S16x288, .f32⟩
  | .hbm, ⟨15, _⟩ => ⟨S_, .f32⟩
  | .hbm, ⟨16, _⟩ => ⟨S16x288, .f32⟩
  | .hbm, ⟨17, _⟩ => ⟨S16x288, .f32⟩
  | .hbm, ⟨18, _⟩ => ⟨S16x288, .f32⟩
  | .hbm, ⟨19, _⟩ => ⟨S_, .f32⟩
  | .hbm, ⟨20, _⟩ => ⟨S16x288, .f32⟩
  | .hbm, ⟨21, _⟩ => ⟨S16x288, .f32⟩
  | .hbm, ⟨22, _⟩ => ⟨S_, .f32⟩
  | .hbm, ⟨23, _⟩ => ⟨S16x288, .f32⟩
  | .hbm, ⟨24, _⟩ => ⟨S16x288, .f32⟩
  | .hbm, ⟨25, _⟩ => ⟨S16x288, .f32⟩
  | .hbm, ⟨26, _⟩ => ⟨S_, .f32⟩
  | .hbm, ⟨27, _⟩ => ⟨S16x288, .f32⟩
  | .hbm, ⟨28, _⟩ => ⟨S16x288, .f32⟩
  | .hbm, ⟨29, _⟩ => ⟨S16x288, .f32⟩
  | .hbm, ⟨30, _⟩ => ⟨S_, .f32⟩
  | .hbm, ⟨31, _⟩ => ⟨S16x288, .f32⟩
  | .hbm, ⟨32, _⟩ => ⟨S16x288, .f32⟩
  | .hbm, ⟨33, _⟩ => ⟨S16x288, .f32⟩
  | .hbm, ⟨34, _⟩ => ⟨S_, .f32⟩
  | .hbm, ⟨35, _⟩ => ⟨S16x288, .f32⟩
  | .hbm, ⟨36, _⟩ => ⟨S16x288, .f32⟩
  | _, _ => ⟨S16x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AHead.lean ====
abbrev S4x6 : Shape := ⟨2, ![4, 6]⟩

abbrev nBuf : Space → Nat
  | .hbm => 7
  | .vmem => 7
  | .smem => 0
  | _ => 0

abbrev bufTy : (tb : Table) → Fin (tcTables nBuf tb) → BufTy
  | .hbm, ⟨0, _⟩ => ⟨S4x6, .f32⟩
  | .hbm, ⟨1, _⟩ => ⟨S4x6, .f32⟩
  | .hbm, ⟨2, _⟩ => ⟨S4x6, .f32⟩
  | .hbm, ⟨3, _⟩ => ⟨S4x6, .f32⟩
  | .hbm, ⟨4, _⟩ => ⟨S4x6, .f32⟩
  | .hbm, ⟨5, _⟩ => ⟨S4x6, .f32⟩
  | .hbm, ⟨6, _⟩ => ⟨S4x6, .f32⟩
  | .local _ .vmem, ⟨0, _⟩ => ⟨S4x6, .f32⟩
  | .local _ .vmem, ⟨1, _⟩ => ⟨S4x6, .f32⟩
  | .local _ .vmem, ⟨2, _⟩ => ⟨S4x6, .f32⟩
  | .local _ .vmem, ⟨3, _⟩ => ⟨S4x6, .f32⟩
  | .local _ .vmem, ⟨4, _⟩ => ⟨S4x6, .f32⟩
  | .local _ .vmem, ⟨5, _⟩ => ⟨S4x6, .f32⟩
  | .local _ .vmem, ⟨6, _⟩ => ⟨S4x6, .f32⟩
  | _, _ => ⟨S4x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AHeadRefIdeal.lean ====
abbrev S4x6 : Shape := ⟨2, ![4, 6]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6, .f32⟩
  | .hbm, ⟨1, _⟩ => ⟨S4x6, .f32⟩
  | .hbm, ⟨2, _⟩ => ⟨S4x6, .f32⟩
  | .hbm, ⟨3, _⟩ => ⟨S4x6, .f32⟩
  | .hbm, ⟨4, _⟩ => ⟨S_, .f32⟩
  | .hbm, ⟨5, _⟩ => ⟨S4x6, .f32⟩
  | .hbm, ⟨6, _⟩ => ⟨S4x6, .f32⟩
  | .hbm, ⟨7, _⟩ => ⟨S_, .f32⟩
  | .hbm, ⟨8, _⟩ => ⟨S4x6, .f32⟩
  | .hbm, ⟨9, _⟩ => ⟨S4x6, .f32⟩
  | .hbm, ⟨10, _⟩ => ⟨S4x6, .f32⟩
  | .hbm, ⟨11, _⟩ => ⟨S_, .f32⟩
  | .hbm, ⟨12, _⟩ => ⟨S4x6, .f32⟩
  | .hbm, ⟨13, _⟩ => ⟨S4x6, .f32⟩
  | .hbm, ⟨14, _⟩ => ⟨S4x6, .f32⟩
  | .hbm, ⟨15, _⟩ => ⟨S_, .f32⟩
  | .hbm, ⟨16, _⟩ => ⟨S4x6, .f32⟩
  | .hbm, ⟨17, _⟩ => ⟨S4x6, .f32⟩
  | .hbm, ⟨18, _⟩ => ⟨S4x6, .f32⟩
  | .hbm, ⟨19, _⟩ => ⟨S_, .f32⟩
  | .hbm, ⟨20, _⟩ => ⟨S4x6, .f32⟩
  | .hbm, ⟨21, _⟩ => ⟨S4x6, .f32⟩
  | .hbm, ⟨22, _⟩ => ⟨S_, .f32⟩
  | .hbm, ⟨23, _⟩ => ⟨S4x6, .f32⟩
  | .hbm, ⟨24, _⟩ => ⟨S4x6, .f32⟩
  | .hbm, ⟨25, _⟩ => ⟨S4x6, .f32⟩
  | .hbm, ⟨26, _⟩ => ⟨S_, .f32⟩
  | .hbm, ⟨27, _⟩ => ⟨S4x6, .f32⟩
  | .hbm, ⟨28, _⟩ => ⟨S4x6, .f32⟩
  | .hbm, ⟨29, _⟩ => ⟨S4x6, .f32⟩
  | .hbm, ⟨30, _⟩ => ⟨S_, .f32⟩
  | .hbm, ⟨31, _⟩ => ⟨S4x6, .f32⟩
  | .hbm, ⟨32, _⟩ => ⟨S4x6, .f32⟩
  | .hbm, ⟨33, _⟩ => ⟨S4x6, .f32⟩
  | .hbm, ⟨34, _⟩ => ⟨S_, .f32⟩
  | .hbm, ⟨35, _⟩ => ⟨S4x6, .f32⟩
  | .hbm, ⟨36, _⟩ => ⟨S4x6, .f32⟩
  | _, _ => ⟨S4x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AGdn.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AGdnRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ADw.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ADwRefIdeal.lean ====
abbrev S124x64 : Shape := ⟨2, ![124, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S_, .f32⟩
  | .hbm, ⟨5, _⟩ => ⟨S124x64, .f32⟩
  | .hbm, ⟨6, _⟩ => ⟨S124x64, .f32⟩
  | .hbm, ⟨7, _⟩ => ⟨S_, .f32⟩
  | .hbm, ⟨8, _⟩ => ⟨S124x64, .f32⟩
  | .hbm, ⟨9, _⟩ => ⟨S124x64, .f32⟩
  | .hbm, ⟨10, _⟩ => ⟨S124x64, .f32⟩
  | .hbm, ⟨11, _⟩ => ⟨S_, .f32⟩
  | .hbm, ⟨12, _⟩ => ⟨S124x64, .f32⟩
  | .hbm, ⟨13, _⟩ => ⟨S124x64, .f32⟩
  | .hbm, ⟨14, _⟩ => ⟨S124x64, .f32⟩
  | .hbm, ⟨15, _⟩ => ⟨S_, .f32⟩
  | .hbm, ⟨16, _⟩ => ⟨S124x64, .f32⟩
  | .hbm, ⟨17, _⟩ => ⟨S124x64, .f32⟩
  | .hbm, ⟨18, _⟩ => ⟨S124x64, .f32⟩
  | .hbm, ⟨19, _⟩ => ⟨S_, .f32⟩
  | .hbm, ⟨20, _⟩ => ⟨S124x64, .f32⟩
  | .hbm, ⟨21, _⟩ => ⟨S124x64, .f32⟩
  | .hbm, ⟨22, _⟩ => ⟨S_, .f32⟩
  | .hbm, ⟨23, _⟩ => ⟨S124x64, .f32⟩
  | .hbm, ⟨24, _⟩ => ⟨S124x64, .f32⟩
  | .hbm, ⟨25, _⟩ => ⟨S124x64, .f32⟩
  | .hbm, ⟨26, _⟩ => ⟨S_, .f32⟩
  | .hbm, ⟨27, _⟩ => ⟨S124x64, .f32⟩
  | .hbm, ⟨28, _⟩ => ⟨S124x64, .f32⟩
  | .hbm, ⟨29, _⟩ => ⟨S124x64, .f32⟩
  | .hbm, ⟨30, _⟩ => ⟨S_, .f32⟩
  | .hbm, ⟨31, _⟩ => ⟨S124x64, .f32⟩
  | .hbm, ⟨32, _⟩ => ⟨S124x64, .f32⟩
  | .hbm, ⟨33, _⟩ => ⟨S124x64, .f32⟩
  | .hbm, ⟨34, _⟩ => ⟨S_, .f32⟩
  | .hbm, ⟨35, _⟩ => ⟨S124x64, .f32⟩
  | .hbm, ⟨36, _⟩ => ⟨S124x64, .f32⟩
  | _, _ => ⟨S124x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ALn.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ALnRefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== APw.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== APwRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AFinal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AFinalRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsB.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x1, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== RmsF.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SSmall.lean ====
abbrev S8x1x920x128 : Shape := ⟨4, ![8, 1, 920, 128]⟩
abbrev S1x920x128 : Shape := ⟨3, ![1, 920, 128]⟩
abbrev S1x1x920x128 : Shape := ⟨4, ![1, 1, 920, 128]⟩
abbrev S920x128 : Shape := ⟨2, ![920, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1x920x128, .f32⟩
  | .hbm, ⟨1, _⟩ => ⟨S1x920x128, .f32⟩
  | .local _ .vmem, ⟨0, _⟩ => ⟨S8x1x920x128, .f32⟩
  | .local _ .vmem, ⟨1, _⟩ => ⟨S1x920x128, .f32⟩
  | _, _ => ⟨S8x1x920x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x920x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== SSmallRefIdeal.lean ====
abbrev S8x1x920x128 : Shape := ⟨4, ![8, 1, 920, 128]⟩
abbrev S_ : Shape := ⟨0, ![]⟩
abbrev S1x920x128 : Shape := ⟨3, ![1, 920, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1x920x128, .f32⟩
  | .hbm, ⟨1, _⟩ => ⟨S_, .f32⟩
  | .hbm, ⟨2, _⟩ => ⟨S1x920x128, .f32⟩
  | _, _ => ⟨S8x1x920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SPw.lean ====
abbrev S8x4x64x512 : Shape := ⟨4, ![8, 4, 64, 512]⟩
abbrev S4x64x512 : Shape := ⟨3, ![4, 64, 512]⟩
abbrev S8x1x64x512 : Shape := ⟨4, ![8, 1, 64, 512]⟩
abbrev S1x64x512 : Shape := ⟨3, ![1, 64, 512]⟩
abbrev S1x1x64x512 : Shape := ⟨4, ![1, 1, 64, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x4x64x512, .f32⟩
  | .hbm, ⟨1, _⟩ => ⟨S4x64x512, .f32⟩
  | .local _ .vmem, ⟨0, _⟩ => ⟨S8x1x64x512, .f32⟩
  | .local _ .vmem, ⟨1, _⟩ => ⟨S8x1x64x512, .f32⟩
  | .local _ .vmem, ⟨2, _⟩ => ⟨S1x64x512, .f32⟩
  | .local _ .vmem, ⟨3, _⟩ => ⟨S1x64x512, .f32⟩
  | _, _ => ⟨S8x4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SPwRefIdeal.lean ====
abbrev S8x4x64x512 : Shape := ⟨4, ![8, 4, 64, 512]⟩
abbrev S_ : Shape := ⟨0, ![]⟩
abbrev S4x64x512 : Shape := ⟨3, ![4, 64, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x4x64x512, .f32⟩
  | .hbm, ⟨1, _⟩ => ⟨S_, .f32⟩
  | .hbm, ⟨2, _⟩ => ⟨S4x64x512, .f32⟩
  | _, _ => ⟨S8x4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SIn.lean ====
abbrev S8x1x256x8192 : Shape := ⟨4, ![8, 1, 256, 8192]⟩
abbrev S1x256x8192 : Shape := ⟨3, ![1, 256, 8192]⟩
abbrev S8x1x32x8192 : Shape := ⟨4, ![8, 1, 32, 8192]⟩
abbrev S1x32x8192 : Shape := ⟨3, ![1, 32, 8192]⟩
abbrev S1x1x32x8192 : Shape := ⟨4, ![1, 1, 32, 8192]⟩
abbrev S32x8192 : Shape := ⟨2, ![32, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8x1x256x8192, .bf16⟩
  | .hbm, ⟨1, _⟩ => ⟨S1x256x8192, .f32⟩
  | .local _ .vmem, ⟨0, _⟩ => ⟨S8x1x32x8192, .bf16⟩
  | .local _ .vmem, ⟨1, _⟩ => ⟨S8x1x32x8192, .bf16⟩
  | .local _ .vmem, ⟨2, _⟩ => ⟨S1x32x8192, .f32⟩
  | .local _ .vmem, ⟨3, _⟩ => ⟨S1x32x8192, .f32⟩
  | _, _ => ⟨S8x1x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x32x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SInRefIdeal.lean ====
abbrev S8x1x256x8192 : Shape := ⟨4, ![8, 1, 256, 8192]⟩
abbrev S_ : Shape := ⟨0, ![]⟩
abbrev S1x256x8192 : Shape := ⟨3, ![1, 256, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8x1x256x8192, .bf16⟩
  | .hbm, ⟨1, _⟩ => ⟨S8x1x256x8192, .f32⟩
  | .hbm, ⟨2, _⟩ => ⟨S_, .f32⟩
  | .hbm, ⟨3, _⟩ => ⟨S1x256x8192, .f32⟩
  | _, _ => ⟨S8x1x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SOut.lean ====
abbrev S8x1x256x2048 : Shape := ⟨4, ![8, 1, 256, 2048]⟩
abbrev S1x256x2048 : Shape := ⟨3, ![1, 256, 2048]⟩
abbrev S8x1x128x2048 : Shape := ⟨4, ![8, 1, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1x256x2048, .bf16⟩
  | .hbm, ⟨1, _⟩ => ⟨S1x256x2048, .f32⟩
  | .local _ .vmem, ⟨0, _⟩ => ⟨S8x1x128x2048, .bf16⟩
  | .local _ .vmem, ⟨1, _⟩ => ⟨S8x1x128x2048, .bf16⟩
  | .local _ .vmem, ⟨2, _⟩ => ⟨S1x128x2048, .f32⟩
  | .local _ .vmem, ⟨3, _⟩ => ⟨S1x128x2048, .f32⟩
  | _, _ => ⟨S8x1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SOutRefIdeal.lean ====
abbrev S8x1x256x2048 : Shape := ⟨4, ![8, 1, 256, 2048]⟩
abbrev S_ : Shape := ⟨0, ![]⟩
abbrev S1x256x2048 : Shape := ⟨3, ![1, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1x256x2048, .bf16⟩
  | .hbm, ⟨1, _⟩ => ⟨S8x1x256x2048, .f32⟩
  | .hbm, ⟨2, _⟩ => ⟨S_, .f32⟩
  | .hbm, ⟨3, _⟩ => ⟨S1x256x2048, .f32⟩
  | _, _ => ⟨S8x1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== APrep.lean ====
abbrev S8192x768 : Shape := ⟨2, ![8192, 768]⟩
abbrev S8192x8 : Shape := ⟨2, ![8192, 8]⟩
abbrev S8192x8192 : Shape := ⟨2, ![8192, 8192]⟩
abbrev S_ : Shape := ⟨0, ![]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S512x768 : Shape := ⟨2, ![512, 768]⟩
abbrev S512x128 : Shape := ⟨2, ![512, 128]⟩
abbrev S512x2304 : Shape := ⟨2, ![512, 2304]⟩

abbrev nBuf : Space → Nat
  | .hbm => 34
  | .vmem => 26
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S8192x768, .bf16⟩
  | .hbm, ⟨5, _⟩ => ⟨S8192x768, .bf16⟩
  | .hbm, ⟨6, _⟩ => ⟨S8192x768, .bf16⟩
  | .hbm, ⟨7, _⟩ => ⟨S8192x768, .bf16⟩
  | .hbm, ⟨8, _⟩ => ⟨S8192x768, .bf16⟩
  | .hbm, ⟨9, _⟩ => ⟨S8192x8, .f32⟩
  | .hbm, ⟨10, _⟩ => ⟨S8192x8, .f32⟩
  | .hbm, ⟨11, _⟩ => ⟨S8192x8192, .bf16⟩
  | .hbm, ⟨12, _⟩ => ⟨S_, .f32⟩
  | .hbm, ⟨13, _⟩ => ⟨S8192x48, .f32⟩
  | .hbm, ⟨14, _⟩ => ⟨S8192x64, .f32⟩
  | .hbm, ⟨15, _⟩ => ⟨S8192x8, .f32⟩
  | .hbm, ⟨16, _⟩ => ⟨S_, .f32⟩
  | .hbm, ⟨17, _⟩ => ⟨S8192x56, .f32⟩
  | .hbm, ⟨18, _⟩ => ⟨S8192x64, .f32⟩
  | .hbm, ⟨19, _⟩ => ⟨S_, .f32⟩
  | .hbm, ⟨20, _⟩ => ⟨S8192x8, .f32⟩
  | .hbm, ⟨21, _⟩ => ⟨S_, .f32⟩
  | .hbm, ⟨22, _⟩ => ⟨S8192x48, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S8192x8192, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x2304, .bf16⟩
  | .local _ .vmem, ⟨25, _⟩ => ⟨S512x2304, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2304 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== APrepRefIdeal.lean ====
abbrev S8192x768 : Shape := ⟨2, ![8192, 768]⟩
abbrev S8192x8 : Shape := ⟨2, ![8192, 8]⟩
abbrev S8192x8192 : Shape := ⟨2, ![8192, 8192]⟩
abbrev S_ : Shape := ⟨0, ![]⟩
abbrev S1x8192x12x64 : Shape := ⟨4, ![1, 8192, 12, 64]⟩
abbrev S1x8192x1x8 : Shape := ⟨4, ![1, 8192, 1, 8]⟩
abbrev S1x8192x12x8 : Shape := ⟨4, ![1, 8192, 12, 8]⟩
abbrev S1x8192x12x48 : Shape := ⟨4, ![1, 8192, 12, 48]⟩
abbrev S8192x4608 : Shape := ⟨2, ![8192, 4608]⟩
abbrev S8192x1280 : Shape := ⟨2, ![8192, 1280]⟩

abbrev nBuf : Space → Nat
  | .hbm => 125
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S8192x768, .bf16⟩
  | .hbm, ⟨5, _⟩ => ⟨S8192x768, .bf16⟩
  | .hbm, ⟨6, _⟩ => ⟨S8192x768, .bf16⟩
  | .hbm, ⟨7, _⟩ => ⟨S8192x768, .bf16⟩
  | .hbm, ⟨8, _⟩ => ⟨S8192x768, .bf16⟩
  | .hbm, ⟨9, _⟩ => ⟨S8192x8, .f32⟩
  | .hbm, ⟨10, _⟩ => ⟨S8192x8, .f32⟩
  | .hbm, ⟨11, _⟩ => ⟨S8192x8192, .bf16⟩
  | .hbm, ⟨12, _⟩ => ⟨S_, .f32⟩
  | .hbm, ⟨13, _⟩ => ⟨S8192x768, .f32⟩
  | .hbm, ⟨14, _⟩ => ⟨S1x8192x12x64, .f32⟩
  | .hbm, ⟨15, _⟩ => ⟨S1x8192x1x8, .f32⟩
  | .hbm, ⟨16, _⟩ => ⟨S1x8192x1x8, .f32⟩
  | .hbm, ⟨17, _⟩ => ⟨S1x8192x12x8, .f32⟩
  | .hbm, ⟨18, _⟩ => ⟨S1x8192x12x8, .f32⟩
  | .hbm, ⟨19, _⟩ => ⟨S1x8192x12x48, .f32⟩
  | .hbm, ⟨20, _⟩ => ⟨S1x8192x12x8, .f32⟩
  | .hbm, ⟨21, _⟩ => ⟨S1x8192x12x8, .f32⟩
  | .hbm, ⟨22, _⟩ => ⟨S1x8192x12x8, .f32⟩
  | .hbm, ⟨23, _⟩ => ⟨S1x8192x12x8, .f32⟩
  | .hbm, ⟨24, _⟩ => ⟨S1x8192x12x8, .f32⟩
  | .hbm, ⟨25, _⟩ => ⟨S1x8192x12x8, .f32⟩
  | .hbm, ⟨26, _⟩ => ⟨S1x8192x12x8, .f32⟩
  | .hbm, ⟨27, _⟩ => ⟨S1x8192x12x8, .f32⟩
  | .hbm, ⟨28, _⟩ => ⟨S1x8192x12x8, .f32⟩
  | .hbm, ⟨29, _⟩ => ⟨S1x8192x12x8, .f32⟩
  | .hbm, ⟨30, _⟩ => ⟨S1x8192x12x64, .f32⟩
  | .hbm, ⟨31, _⟩ => ⟨S_, .f32⟩
  | .hbm, ⟨32, _⟩ => ⟨S1x8192x12x64, .f32⟩
  | .hbm, ⟨33, _⟩ => ⟨S1x8192x12x64, .f32⟩
  | .hbm, ⟨34, _⟩ => ⟨S1x8192x12x64, .f32⟩
  | .hbm, ⟨35, _⟩ => ⟨S1x8192x1x8, .f32⟩
  | .hbm, ⟨36, _⟩ => ⟨S1x8192x1x8, .f32⟩
  | .hbm, ⟨37, _⟩ => ⟨S1x8192x12x8, .f32⟩
  | .hbm, ⟨38, _⟩ => ⟨S1x8192x12x8, .f32⟩
  | .hbm, ⟨39, _⟩ => ⟨S1x8192x12x48, .f32⟩
  | .hbm, ⟨40, _⟩ => ⟨S1x8192x12x8, .f32⟩
  | .hbm, ⟨41, _⟩ => ⟨S1x8192x12x8, .f32⟩
  | .hbm, ⟨42, _⟩ => ⟨S1x8192x12x8, .f32⟩
  | .hbm, ⟨43, _⟩ => ⟨S1x8192x12x8, .f32⟩
  | .hbm, ⟨44, _⟩ => ⟨S1x8192x12x8, .f32⟩
  | .hbm, ⟨45, _⟩ => ⟨S1x8192x12x8, .f32⟩
  | .hbm, ⟨46, _⟩ => ⟨S1x8192x12x8, .f32⟩
  | .hbm, ⟨47, _⟩ => ⟨S1x8192x12x8, .f32⟩
  | .hbm, ⟨48, _⟩ => ⟨S1x8192x12x8, .f32⟩
  | .hbm, ⟨49, _⟩ => ⟨S1x8192x12x8, .f32⟩
  | .hbm, ⟨50, _⟩ => ⟨S1x8192x12x64, .f32⟩
  | .hbm, ⟨51, _⟩ => ⟨S8192x768, .f32⟩
  | .hbm, ⟨52, _⟩ => ⟨S8192x768, .f32⟩
  | .hbm, ⟨53, _⟩ => ⟨S8192x768, .f32⟩
  | .hbm, ⟨54, _⟩ => ⟨S8192x768, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S8192x768, .f32⟩
  | .hbm, ⟨59, _⟩ => ⟨S8192x768, .f32⟩
  | .hbm, ⟨60, _⟩ => ⟨S8192x768, .f32⟩
  | .hbm, ⟨61, _⟩ => ⟨S8192x768, .f32⟩
  | .hbm, ⟨62, _⟩ => ⟨S8192x768, .f32⟩
  | .hbm, ⟨63, _⟩ => ⟨S8192x768, .f32⟩
  | .hbm, ⟨64, _⟩ => ⟨S8192x768, .f32⟩
  | .hbm, ⟨65, _⟩ => ⟨S8192x768, .f32⟩
  | .hbm, ⟨66, _⟩ => ⟨S8192x768, .f32⟩
  | .hbm, ⟨67, _⟩ => ⟨S8192x768, .f32⟩
  | .hbm, ⟨68, _⟩ => ⟨S1x8192x12x64, .f32⟩
  | .hbm, ⟨69, _⟩ => ⟨S1x8192x12x64, .f32⟩
  | .hbm, ⟨70, _⟩ => ⟨S1x8192x12x8, .f32⟩
  | .hbm, ⟨71, _⟩ => ⟨S1x8192x12x8, .f32⟩
  | .hbm, ⟨72, _⟩ => ⟨S1x8192x12x48, .f32⟩
  | .hbm, ⟨73, _⟩ => ⟨S1x8192x12x8, .f32⟩
  | .hbm, ⟨74, _⟩ => ⟨S1x8192x12x8, .f32⟩
  | .hbm, ⟨75, _⟩ => ⟨S1x8192x12x8, .f32⟩
  | .hbm, ⟨76, _⟩ => ⟨S1x8192x12x8, .f32⟩
  | .hbm, ⟨77, _⟩ => ⟨S1x8192x12x8, .f32⟩
  | .hbm, ⟨78, _⟩ => ⟨S1x8192x12x8, .f32⟩
  | .hbm, ⟨79, _⟩ => ⟨S1x8192x12x8, .f32⟩
  | .hbm, ⟨80, _⟩ => ⟨S1x8192x12x8, .f32⟩
  | .hbm, ⟨81, _⟩ => ⟨S1x8192x12x8, .f32⟩
  | .hbm, ⟨82, _⟩ => ⟨S1x8192x12x8, .f32⟩
  | .hbm, ⟨83, _⟩ => ⟨S1x8192x12x8, .f32⟩
  | .hbm, ⟨84, _⟩ => ⟨S_, .f32⟩
  | .hbm, ⟨85, _⟩ => ⟨S1x8192x12x64, .f32⟩
  | .hbm, ⟨86, _⟩ => ⟨S_, .f32⟩
  | .hbm, ⟨87, _⟩ => ⟨S1x8192x12x64, .f32⟩
  | .hbm, ⟨88, _⟩ => ⟨S1x8192x12x64, .f32⟩
  | .hbm, ⟨89, _⟩ => ⟨S_, .f32⟩
  | .hbm, ⟨90, _⟩ => ⟨S1x8192x12x64, .f32⟩
  | .hbm, ⟨91, _⟩ => ⟨S1x8192x12x64, .f32⟩
  | .hbm, ⟨92, _⟩ => ⟨S8192x768, .f32⟩
  | .hbm, ⟨93, _⟩ => ⟨S_, .f32⟩
  | .hbm, ⟨94, _⟩ => ⟨S1x8192x12x64, .f32⟩
  | .hbm, ⟨95, _⟩ => ⟨S1x8192x12x64, .f32⟩
  | .hbm, ⟨96, _⟩ => ⟨S1x8192x12x8, .f32⟩
  | .hbm, ⟨97, _⟩ => ⟨S1x8192x12x8, .f32⟩
  | .hbm, ⟨98, _⟩ => ⟨S1x8192x12x48, .f32⟩
  | .hbm, ⟨99, _⟩ => ⟨S1x8192x12x8, .f32⟩
  | .hbm, ⟨100, _⟩ => ⟨S1x8192x12x8, .f32⟩
  | .hbm, ⟨101, _⟩ => ⟨S1x8192x12x8, .f32⟩
  | .hbm, ⟨102, _⟩ => ⟨S1x8192x12x8, .f32⟩
  | .hbm, ⟨103, _⟩ => ⟨S1x8192x12x8, .f32⟩
  | .hbm, ⟨104, _⟩ => ⟨S1x8192x12x8, .f32⟩
  | .hbm, ⟨105, _⟩ => ⟨S1x8192x12x8, .f32⟩
  | .hbm, ⟨106, _⟩ => ⟨S1x8192x12x8, .f32⟩
  | .hbm, ⟨107, _⟩ => ⟨S1x8192x12x8, .f32⟩
  | .hbm, ⟨108, _⟩ => ⟨S1x8192x12x8, .f32⟩
  | .hbm, ⟨109, _⟩ => ⟨S1x8192x12x8, .f32⟩
  | .hbm, ⟨110, _⟩ => ⟨S_, .f32⟩
  | .hbm, ⟨111, _⟩ => ⟨S1x8192x12x64, .f32⟩
  | .hbm, ⟨112, _⟩ => ⟨S_, .f32⟩
  | .hbm, ⟨113, _⟩ => ⟨S1x8192x12x64, .f32⟩
  | .hbm, ⟨114, _⟩ => ⟨S1x8192x12x64, .f32⟩
  | .hbm, ⟨115, _⟩ => ⟨S_, .f32⟩
  | .hbm, ⟨116, _⟩ => ⟨S1x8192x12x64, .f32⟩
  | .hbm, ⟨117, _⟩ => ⟨S1x8192x12x64, .f32⟩
  | .hbm, ⟨118, _⟩ => ⟨S8192x768, .f32⟩
  | .hbm, ⟨119, _⟩ => ⟨S8192x4608, .bf16⟩
  | .hbm, ⟨120, _⟩ => ⟨S8192x768, .bf16⟩
  | .hbm, ⟨121, _⟩ => ⟨S8192x768, .bf16⟩
  | .hbm, ⟨122, _⟩ => ⟨S8192x768, .bf16⟩
  | .hbm, ⟨123, _⟩ => ⟨S8192x1280, .bf16⟩
  | .hbm, ⟨124, _⟩ => ⟨S8192x8192, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_1 : Ref sig .tc := ⟨.hbm, 84, rfl⟩
abbrev main_v70 : Ref sig .tc := ⟨.hbm, 85, rfl⟩
abbrev main_cst_2 : Ref sig .tc := ⟨.hbm, 86, rfl⟩
abbrev main_v71 : Ref sig .tc := ⟨.hbm, 87, rfl⟩
abbrev main_v72 : Ref sig .tc := ⟨.hbm, 88, rfl⟩
abbrev main_cst_3 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_5 : Ref sig .tc := ⟨.hbm, 110, rfl⟩
abbrev main_v92 : Ref sig .tc := ⟨.hbm, 111, rfl⟩
abbrev main_cst_6 : Ref sig .tc := ⟨.hbm, 112, rfl⟩
abbrev main_v93 : Ref sig .tc := ⟨.hbm, 113, rfl⟩
abbrev main_v94 : Ref sig .tc := ⟨.hbm, 114, rfl⟩
abbrev main_cst_7 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩

abbrev nD : Nat := 1
abbrev τ : Topo := Topo.v7x

variable {F : FTy → Type} [FloatOps F]
-- ==== APrepF.lean ====
abbrev S8192x8192 : Shape := ⟨2, ![8192, 8192]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x768 : Shape := ⟨2, ![8192, 768]⟩
abbrev S512x768 : Shape := ⟨2, ![512, 768]⟩
abbrev S512x128 : Shape := ⟨2, ![512, 128]⟩

abbrev nBuf : Space → Nat
  | .hbm => 27
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x8, .f32⟩
  | .hbm, ⟨2, _⟩ => ⟨S8192x8, .f32⟩
  | .hbm, ⟨3, _⟩ => ⟨S_, .f32⟩
  | .hbm, ⟨4, _⟩ => ⟨S8192x48, .f32⟩
  | .hbm, ⟨5, _⟩ => ⟨S8192x64, .f32⟩
  | .hbm, ⟨6, _⟩ => ⟨S8192x8, .f32⟩
  | .hbm, ⟨7, _⟩ => ⟨S_, .f32⟩
  | .hbm, ⟨8, _⟩ => ⟨S8192x56, .f32⟩
  | .hbm, ⟨9, _⟩ => ⟨S8192x64, .f32⟩
  | .hbm, ⟨10, _⟩ => ⟨S_, .f32⟩
  | .hbm, ⟨11, _⟩ => ⟨S8192x8, .f32⟩
  | .hbm, ⟨12, _⟩ => ⟨S_, .f32⟩
  | .hbm, ⟨13, _⟩ => ⟨S8192x48, .f32⟩
  | .hbm, ⟨14, _⟩ => ⟨S8192x64, .f32⟩
  | .hbm, ⟨15, _⟩ => ⟨S1x8192x1x64, .f32⟩
  | .hbm, ⟨16, _⟩ => ⟨S1x8192x2x64, .f32⟩
  | .hbm, ⟨17, _⟩ => ⟨S8192x128, .f32⟩
  | .hbm, ⟨18, _⟩ => ⟨S1x8192x1x64, .f32⟩
  | .hbm, ⟨19, _⟩ => ⟨S1x8192x2x64, .f32⟩
  | .hbm, ⟨20, _⟩ => ⟨S8192x128, .f32⟩
  | .hbm, ⟨21, _⟩ => ⟨S1x8192x1x64, .f32⟩
  | .hbm, ⟨22, _⟩ => ⟨S1x8192x2x64, .f32⟩
  | .hbm, ⟨23, _⟩ => ⟨S8192x128, .f32⟩
  | .hbm, ⟨24, _⟩ => ⟨S8192x768, .bf16⟩
  | .hbm, ⟨25, _⟩ => ⟨S8192x768, .bf16⟩
  | .hbm, ⟨26, _⟩ => ⟨S8192x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== APrepFRefIdeal.lean ====
abbrev S8192x8192 : Shape := ⟨2, ![8192, 8192]⟩
abbrev S8192x8 : Shape := ⟨2, ![8192, 8]⟩
abbrev S8192x768 : Shape := ⟨2, ![8192, 768]⟩
abbrev S1x8192x12x64 : Shape := ⟨4, ![1, 8192, 12, 64]⟩
abbrev S1x8192x1x8 : Shape := ⟨4, ![1, 8192, 1, 8]⟩
abbrev S1x8192x12x8 : Shape := ⟨4, ![1, 8192, 12, 8]⟩
abbrev S1x8192x12x48 : Shape := ⟨4, ![1, 8192, 12, 48]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8, .f32⟩
  | .hbm, ⟨2, _⟩ => ⟨S8192x8, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S1x8192x12x64, .f32⟩
  | .hbm, ⟨7, _⟩ => ⟨S1x8192x1x8, .f32⟩
  | .hbm, ⟨8, _⟩ => ⟨S1x8192x1x8, .f32⟩
  | .hbm, ⟨9, _⟩ => ⟨S1x8192x12x8, .f32⟩
  | .hbm, ⟨10, _⟩ => ⟨S1x8192x12x8, .f32⟩
  | .hbm, ⟨11, _⟩ => ⟨S1x8192x12x48, .f32⟩
  | .hbm, ⟨12, _⟩ => ⟨S1x8192x12x8, .f32⟩
  | .hbm, ⟨13, _⟩ => ⟨S1x8192x12x8, .f32⟩
  | .hbm, ⟨14, _⟩ => ⟨S1x8192x12x8, .f32⟩
  | .hbm, ⟨15, _⟩ => ⟨S1x8192x12x8, .f32⟩
  | .hbm, ⟨16, _⟩ => ⟨S1x8192x12x8, .f32⟩
  | .hbm, ⟨17, _⟩ => ⟨S1x8192x12x8, .f32⟩
  | .hbm, ⟨18, _⟩ => ⟨S1x8192x12x8, .f32⟩
  | .hbm, ⟨19, _⟩ => ⟨S1x8192x12x8, .f32⟩
  | .hbm, ⟨20, _⟩ => ⟨S1x8192x12x8, .f32⟩
  | .hbm, ⟨21, _⟩ => ⟨S1x8192x12x8, .f32⟩
  | .hbm, ⟨22, _⟩ => ⟨S1x8192x12x64, .f32⟩
  | .hbm, ⟨23, _⟩ => ⟨S_, .f32⟩
  | .hbm, ⟨24, _⟩ => ⟨S1x8192x12x64, .f32⟩
  | .hbm, ⟨25, _⟩ => ⟨S1x8192x12x64, .f32⟩
  | .hbm, ⟨26, _⟩ => ⟨S1x8192x12x64, .f32⟩
  | .hbm, ⟨27, _⟩ => ⟨S1x8192x1x8, .f32⟩
  | .hbm, ⟨28, _⟩ => ⟨S1x8192x1x8, .f32⟩
  | .hbm, ⟨29, _⟩ => ⟨S1x8192x12x8, .f32⟩
  | .hbm, ⟨30, _⟩ => ⟨S1x8192x12x8, .f32⟩
  | .hbm, ⟨31, _⟩ => ⟨S1x8192x12x48, .f32⟩
  | .hbm, ⟨32, _⟩ => ⟨S1x8192x12x8, .f32⟩
  | .hbm, ⟨33, _⟩ => ⟨S1x8192x12x8, .f32⟩
  | .hbm, ⟨34, _⟩ => ⟨S1x8192x12x8, .f32⟩
  | .hbm, ⟨35, _⟩ => ⟨S1x8192x12x8, .f32⟩
  | .hbm, ⟨36, _⟩ => ⟨S1x8192x12x8, .f32⟩
  | .hbm, ⟨37, _⟩ => ⟨S1x8192x12x8, .f32⟩
  | .hbm, ⟨38, _⟩ => ⟨S1x8192x12x8, .f32⟩
  | .hbm, ⟨39, _⟩ => ⟨S1x8192x12x8, .f32⟩
  | .hbm, ⟨40, _⟩ => ⟨S1x8192x12x8, .f32⟩
  | .hbm, ⟨41, _⟩ => ⟨S1x8192x12x8, .f32⟩
  | .hbm, ⟨42, _⟩ => ⟨S1x8192x12x64, .f32⟩
  | .hbm, ⟨43, _⟩ => ⟨S8192x768, .f32⟩
  | .hbm, ⟨44, _⟩ => ⟨S8192x768, .f32⟩
  | .hbm, ⟨45, _⟩ => ⟨S8192x768, .bf16⟩
  | .hbm, ⟨46, _⟩ => ⟨S8192x768, .bf16⟩
  | .hbm, ⟨47, _⟩ => ⟨S8192x768, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩

abbrev nD : Nat := 1
abbrev τ : Topo := Topo.v7x

variable {F : FTy → Type} [FloatOps F]
-- ==== Proof.SiluLaws.lean ====
/-
  The derivative of `silu` in its two spellings, over the extended reals. The kernel writes the second factor of the
  derivative as the negated product with `exp (-z)` over the squared denominator; the reference writes `s * (1 - s)`.
-/
module

public import Idealize.ShloMosaic.Lib.Pointwise
public import Idealize.ShloMosaic.Lib.IdealHost

@[expose] public section

set_option maxRecDepth 16384

noncomputable section

open Idealize.ShloMosaic

namespace Cert.SiluLaws

/-- An exponential is zero or more. -/
theorem exp_nonneg (z : EReal) : 0 ≤ Ideal.exp z := by
  induction z with
  | bot => exact le_refl (0 : EReal)
  | coe x => exact EReal.coe_nonneg.mpr (Real.exp_pos x).le
  | top => exact le_top

/-- With `e` zero or more, `s = 1 / (1 + e)`: the kernel's `1 / (1 + e)² * e` is `s * (1 - s)`. -/
theorem slope (e : EReal) (he : 0 ≤ e) :
    Ideal.div 1 ((1 + e) * (1 + e)) * e = Ideal.div 1 (1 + e) * (1 - Ideal.div 1 (1 + e)) := by
  induction e with
  | bot => simp at he
  | top =>
    have h : (1 : EReal) + ⊤ = ⊤ := rfl
    rw [h, EReal.top_mul_top]
    unfold Ideal.div
    rw [if_neg EReal.top_ne_zero, EReal.inv_top, mul_zero, zero_mul, zero_mul]
  | coe x =>
    have hx : 0 ≤ x := by exact_mod_cast he
    have h1 : (1 + x : ℝ) ≠ 0 := by positivity
    have e1 : (1 : EReal) + (x : EReal) = ((1 + x : ℝ) : EReal) := by norm_cast
    have e2 : ((1 + x : ℝ) : EReal) * ((1 + x : ℝ) : EReal) = (((1 + x) * (1 + x) : ℝ) : EReal) := by norm_cast
    have n1 : ((1 + x : ℝ) : EReal) ≠ 0 := by exact_mod_cast h1
    have n2 : (((1 + x) * (1 + x) : ℝ) : EReal) ≠ 0 := by exact_mod_cast mul_ne_zero h1 h1
    rw [e1, e2]
    unfold Ideal.div
    rw [if_neg n1, if_neg n2, ← EReal.coe_inv, ← EReal.coe_inv, one_mul, one_mul]
    rw [show (1 : EReal) = ((1 : ℝ) : EReal) from rfl]
    norm_cast
    field_simp
    ring

/-- The second summand of the derivative. -/
theorem second (X e : EReal) (he : 0 ≤ e) :
    0 - (0 - X * Ideal.div 1 ((1 + e) * (1 + e))) * e
      = X * (Ideal.div 1 (1 + e) * (1 - Ideal.div 1 (1 + e))) := by
  rw [zero_sub, zero_sub, neg_mul, neg_neg, mul_assoc, slope e he]

end Cert.SiluLaws
-- ==== Proof.PostStages.lean ====
/-
  The gradient through the norm, the gate and the pointwise product (`conf_bwd_post`), block by block: each value the
  kernel's body computes on a block of 512 rows is the reference's array at the same rows.
-/
module

public import proofs.«01_k».proof.Proof.SiluLaws
public import proofs.«01_k».proof.Proof.Gen.KernelIdeal.Skeleton
public import proofs.«01_k».proof.Proof.Gen.ReferenceIdeal.Read

@[expose] public section

set_option maxRecDepth 16384

noncomputable section

open Idealize.ShloMosaic

namespace Cert.Post

open Cert.KernelIdeal.Gen Cert.ReferenceIdeal.Read Cert.ReferenceIdeal

variable {x0 : Vec Ideal S8192x8192 .f32} {x1 : Vec Ideal S8192x512 .f32} {x2 x3 x4 : Vec Ideal S1x512 .f32}
  {x5 : Vec Ideal S512x512 .f32} {x6 : Vec Ideal S8192x2048 .f32}
  {g : Fin 512 → Fin 8192} {c v d : Vec Ideal S512x512 .f32}

/-- A block of rows `g` of the convolution's output (bias added), of the gate and of the upstream gradient. -/
structure Rows (x0 : Vec Ideal S8192x8192 .f32) (x1 : Vec Ideal S8192x512 .f32) (x2 : Vec Ideal S1x512 .f32)
    (x6 : Vec Ideal S8192x2048 .f32) (g : Fin 512 → Fin 8192) (c v d : Vec Ideal S512x512 .f32) : Prop where
  conv : ∀ r j : Fin 512, c (ix2 r j) = val_main_v4 (F := Ideal) x1 x2 (ix2 (g r) j)
  gate : ∀ r j : Fin 512, v (ix2 r j) = val_main_v0 (F := Ideal) x0 (ix2 (g r) j)
  up : ∀ r j : Fin 512, d (ix2 r j) = val_main_v32 (F := Ideal) x6 (ix2 (g r) j)

theorem centred (h : Rows x0 x1 x2 x6 g c v d) (r j : Fin 512) :
    k0_pay5 c (ix2 r j) = val_main_v10 (F := Ideal) x1 x2 (ix2 (g r) j) := by
  pointwise [k0_pay5, val_main_v10, val_main_v9, val_main_v8, val_main_v7, val_main_v6, val_main_v5, val_main_cst, val_main_cst_0]
  simp only [h.conv]

theorem spread (h : Rows x0 x1 x2 x6 g c v d) (r : Fin 512) :
    k0_pay6 c (ix2 r 0) = val_main_v17 (F := Ideal) x1 x2 (ix2 (g r) 0) := by
  pointwise [k0_pay6, val_main_v17, val_main_v16, val_main_v15, val_main_v14, val_main_v13, val_main_v12, val_main_v11, val_main_cst_1, val_main_cst_2, val_main_cst_3]
  simp only [centred h]

theorem scale (h : Rows x0 x1 x2 x6 g c v d) (r : Fin 512) :
    k0_pay7 c (ix2 r 0) = val_main_v18 (F := Ideal) x1 x2 (ix2 (g r) 0) := by
  pointwise [k0_pay7, val_main_v18]
  rw [spread h]

theorem scale' (h : Rows x0 x1 x2 x6 g c v d) (r : Fin 512) :
    k0_pay8 c (ix2 r 0) = val_main_v21 (F := Ideal) x1 x2 (ix2 (g r) 0) := by
  pointwise [k0_pay8, val_main_v21, val_main_v20, val_main_v19, val_main_cst_4]
  rw [spread h, scale h]

theorem scale'_any (h : Rows x0 x1 x2 x6 g c v d) (r : Fin 512) (q : Fin 1) :
    k0_pay8 c (ix2 r q) = val_main_v21 (F := Ideal) x1 x2 (ix2 (g r) q) := by
  rw [Subsingleton.elim q 0]
  exact scale' h r

theorem normed (h : Rows x0 x1 x2 x6 g c v d) (r j : Fin 512) :
    k0_pay9 c (ix2 r j) = val_main_v23 (F := Ideal) x1 x2 (ix2 (g r) j) := by
  pointwise [k0_pay9, val_main_v23, val_main_v22]
  rw [centred h, scale h]

theorem affine (h : Rows x0 x1 x2 x6 g c v d) (r j : Fin 512) :
    k0_pay10 c x3 x4 (ix2 r j) = val_main_v27 (F := Ideal) x1 x2 x3 x4 (ix2 (g r) j) := by
  pointwise [k0_pay10, val_main_v27, val_main_v26, val_main_v25, val_main_v24]
  rw [normed h]

theorem sigma (h : Rows x0 x1 x2 x6 g c v d) (r j : Fin 512) :
    k0_pay13 c x3 x4 (ix2 r j) = val_main_v28_2 (F := Ideal) x1 x2 x3 x4 (ix2 (g r) j) := by
  pointwise [k0_pay13, k0_pay12, k0_pay11, val_main_v28_2, val_main_call0_v0, val_main_call0_v1, val_main_call0_v2, val_main_call0_v3,
    val_main_call0_v4, val_main_call0_cst, val_main_call0_cst_0]
  rw [affine h, zero_sub]

theorem hidden (h : Rows x0 x1 x2 x6 g c v d) (r j : Fin 512) :
    k0_pay15 (k0_pay10 c x3 x4) (k0_pay13 c x3 x4) (ix2 r j) = val_main_v28_0 (F := Ideal) x1 x2 x3 x4 (ix2 (g r) j) := by
  pointwise [k0_pay15, val_main_v28_0]
  rw [affine h, sigma h]

theorem gateSigma (h : Rows x0 x1 x2 x6 g c v d) (r j : Fin 512) :
    k0_pay18 v (ix2 r j) = val_main_v30_2 (F := Ideal) x0 (ix2 (g r) j) := by
  pointwise [k0_pay18, k0_pay17, k0_pay16, val_main_v30_2, val_main_call1_v0, val_main_call1_v1, val_main_call1_v2, val_main_call1_v3,
    val_main_call1_v4, val_main_call1_cst, val_main_call1_cst_0]
  rw [h.gate, zero_sub]

theorem upGated (h : Rows x0 x1 x2 x6 g c v d) (r j : Fin 512) :
    k0_pay19 v d (ix2 r j) = val_main_v34 (F := Ideal) x0 x6 (ix2 (g r) j) := by
  pointwise [k0_pay19, val_main_v34, val_main_v30_0]
  rw [h.gate, h.up, gateSigma h]

theorem upHidden (h : Rows x0 x1 x2 x6 g c v d) (r j : Fin 512) :
    k0_pay21 v x5 d (ix2 r j) = val_main_v38 (F := Ideal) x0 x5 x6 (ix2 (g r) j) := by
  pointwise [k0_pay21, val_main_v38]
  simp only [upGated h]

theorem upFirst (h : Rows x0 x1 x2 x6 g c v d) (r j : Fin 512) :
    k0_pay23 v x5 (k0_pay13 c x3 x4) d (ix2 r j) = val_main_call3_v1 (F := Ideal) x0 x1 x2 x3 x4 x5 x6 (ix2 (g r) j) := by
  pointwise [k0_pay23, val_main_call3_v1]
  rw [upHidden h, sigma h]

theorem upSecond (h : Rows x0 x1 x2 x6 g c v d) (r j : Fin 512) :
    k0_pay24 v x5 (k0_pay10 c x3 x4) (k0_pay11 c x3 x4) (k0_pay14 c x3 x4) d (ix2 r j)
      = val_main_call3_v2 (F := Ideal) x0 x1 x2 x3 x4 x5 x6 (ix2 (g r) j) := by
  pointwise [k0_pay24, k0_pay14, k0_pay12, k0_pay11, val_main_call3_v2, val_main_call3_v0, val_main_v28_1, val_main_call0_v7, val_main_call0_v6,
    val_main_call0_cst_1]
  rw [upHidden h, ← sigma h, affine h]
  pointwise [k0_pay13, k0_pay12, k0_pay11]
  rw [affine h]
  exact SiluLaws.second _ _ (SiluLaws.exp_nonneg _)

theorem upAffine (h : Rows x0 x1 x2 x6 g c v d) (r j : Fin 512) :
    k0_pay25 (k0_pay23 v x5 (k0_pay13 c x3 x4) d) (k0_pay24 v x5 (k0_pay10 c x3 x4) (k0_pay11 c x3 x4) (k0_pay14 c x3 x4) d) (ix2 r j)
      = val_main_v39 (F := Ideal) x0 x1 x2 x3 x4 x5 x6 (ix2 (g r) j) := by
  pointwise [k0_pay25, val_main_v39]
  rw [upFirst h, upSecond h]

/-- The gradient of the gate. -/
theorem upGate (h : Rows x0 x1 x2 x6 g c v d) (r j : Fin 512) :
    k0_pay20 v x5 (k0_pay10 c x3 x4) (k0_pay13 c x3 x4) d (ix2 r j)
      = val_main_v35 (F := Ideal) x0 x1 x2 x3 x4 x5 x6 (ix2 (g r) j) := by
  pointwise [k0_pay20, k0_pay17, k0_pay16, val_main_v35, val_main_call2_v0, val_main_call2_v1, val_main_call2_v2, val_main_v30_1, val_main_call1_v7, val_main_call1_v6,
    val_main_call1_cst_1, val_main_v33, val_main_v29]
  simp only [hidden h]
  rw [← gateSigma h, h.gate, h.up]
  pointwise [k0_pay18, k0_pay17, k0_pay16]
  rw [h.gate, SiluLaws.second _ _ (SiluLaws.exp_nonneg _)]

/-- The gradient of the convolution's output. -/
theorem upConv (h : Rows x0 x1 x2 x6 g c v d) (r j : Fin 512) :
    k0_pay28 x3 (k0_pay5 c) (k0_pay7 c) (k0_pay8 c) (k0_pay23 v x5 (k0_pay13 c x3 x4) d)
        (k0_pay24 v x5 (k0_pay10 c x3 x4) (k0_pay11 c x3 x4) (k0_pay14 c x3 x4) d) (ix2 r j)
      = val_main_v68 (F := Ideal) x0 x1 x2 x3 x4 x5 x6 (ix2 (g r) j) := by
  pointwise [k0_pay28, val_main_v68, val_main_v67, val_main_v66, val_main_v65, val_main_v64, val_main_v63, val_main_v62, val_main_v61, val_main_v60,
    val_main_v59, val_main_v58, val_main_v57, val_main_v56, val_main_v55, val_main_v54, val_main_v53, val_main_v52, val_main_v51, val_main_v50, val_main_v49, val_main_v48,
    val_main_v47, val_main_v46, val_main_v45, val_main_cst_7, val_main_cst_8, val_main_cst_9, val_main_cst_10, val_main_cst_11, val_main_cst_12]
  simp only [upAffine h, centred h, scale h, scale'_any h, zero_sub]

end Cert.Post
-- ==== Proof.PostSums.lean ====
/-
  The gradient through the norm, the gate and the pointwise product (`conf_bwd_post`): the six result arrays. Two are
  written block by block, four are summed over the 16 blocks of rows.
-/
module

public import proofs.«01_k».proof.Proof.PostStages
public import proofs.«01_k».proof.Defs
public import Idealize.ShloMosaic.Lib.Pipeline.ValueKit
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Post

open Cert.KernelIdeal Cert.KernelIdeal.Gen Cert.KernelIdeal.Value Cert.ReferenceIdeal.Read

variable (m : (ℓ : Loc nD τ sig) → Buf (Elt Ideal) ℓ)

theorem points : cfg0.N = 16 := N_0

/-- The rows of the arrays that grid point `t` works on. -/
def row (t : Fin cfg0.N) (r : Fin 512) : Fin 8192 :=
  ⟨512 * t.val + r.val, by have := r.isLt; have := lt_of_lt_of_eq t.isLt points; omega⟩

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 2 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 2 :=
  (by decide +kernel : ∀ t : Fin grid0.N, _)

/-- The blocks of the norm's weight and bias and of the pointwise weight are the whole arrays. -/
theorem block_2 (c : Dev nD) (t : Fin cfg0.N) : (iblk m c 2 t : Vec Ideal S1x512 .f32) = m ((c : Thread nD τ).loc main_arg3) := by
  funext j
  obtain ⟨e0, e1⟩ := index_2 t
  blk_ext [iblk, V, e0, e1]
theorem block_3 (c : Dev nD) (t : Fin cfg0.N) : (iblk m c 3 t : Vec Ideal S1x512 .f32) = m ((c : Thread nD τ).loc main_arg4) := by
  funext j
  obtain ⟨e0, e1⟩ := index_3 t
  blk_ext [iblk, V, e0, e1]
theorem block_4 (c : Dev nD) (t : Fin cfg0.N) : (iblk m c 4 t : Vec Ideal S512x512 .f32) = m ((c : Thread nD τ).loc main_arg5) := by
  funext j
  obtain ⟨e0, e1⟩ := index_4 t
  blk_ext [iblk, V, e0, e1]

/-- The blocks that move with the grid point are rows `row t` of the reference's arrays. -/
theorem rows (c : Dev nD) (t : Fin cfg0.N) :
    Rows (m ((c : Thread nD τ).loc main_arg0)) (m ((c : Thread nD τ).loc main_arg1)) (m ((c : Thread nD τ).loc main_arg2))
      (m ((c : Thread nD τ).loc main_arg6)) (row t) (iblk m c 0 t) (iblk m c 1 t) (iblk m c 5 t) where
  conv r j := by
    obtain ⟨e0, e1⟩ := index_0 t
    unfold iblk
    rw [View.read_apply]
    show V m c main_v1 _ = _
    entry_read
    pointwise [val_main_v4, val_main_v3, val_main_v2, val_main_v1]
    blk_point [iblk, V, e0, e1, row]
  gate r j := by
    obtain ⟨e0, e1⟩ := index_1 t
    pointwise [val_main_v0]
    blk_point [iblk, V, e0, e1, row]
  up r j := by
    obtain ⟨e0, e1⟩ := index_5 t
    pointwise [val_main_v32, val_main_v31]
    blk_point [iblk, V, e0, e1, row]

/-- What the body leaves in each output block after point `t`. -/
theorem out_6 (c : Dev nD) (t : Fin cfg0.N) (r j : Fin 512) : (outsAt0 m c t.val t.isLt).1 (ix2 r j)
    = val_main_v68 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (ix2 (row t r) j) := by
  by_cases h : t.val % 16 = 0
  · rw [outsAt0_A m c t h]
    frame_out
    rw [block_2, block_3, block_4]
    exact upConv (rows m c t) r j
  · rw [outsAt0_B m c t h]
    frame_out
    rw [block_2, block_3, block_4]
    exact upConv (rows m c t) r j

theorem out_7 (c : Dev nD) (t : Fin cfg0.N) (r j : Fin 512) : (outsAt0 m c t.val t.isLt).2.1 (ix2 r j)
    = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (ix2 (row t r) j) := by
  by_cases h : t.val % 16 = 0
  · rw [outsAt0_A m c t h]
    frame_out
    rw [block_2, block_3, block_4]
    refine Eq.trans ?_ (upGate (rows m c t) r j)
    pointwise [k0_pay29]
  · rw [outsAt0_B m c t h]
    frame_out
    rw [block_2, block_3, block_4]
    refine Eq.trans ?_ (upGate (rows m c t) r j)
    pointwise [k0_pay29]

/-- A sum over the points and the rows of each is the sum over all rows. -/
theorem sum_rows (f : Fin 8192 → EReal) : ∑ t : Fin cfg0.N, ∑ r : Fin 512, f (row t r) = ∑ k : Fin 8192, f k := by
  refine Fin.sum_mul_add_congr (fun t r hl => ?_) (by rw [points])
  exact congrArg f (Fin.ext (by show 512 * t.val + r.val = t.val * 512 + r.val; omega))

/-- The gradient of the norm's weight. -/
theorem out_8 (c : Dev nD) (a : Fin 1) (b : Fin 512) : (outsAt0 m c t0_15.val t0_15.isLt).2.2.1 (ix2 a b)
    = ∑ k : Fin 8192, val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b) := by
  refine (Pipeline.eq_sum_fin_of_reset_step_apply_last (fun n h => (outsAt0 m c n h).2.2.1) 16 (fun _ => (0 : EReal))
    (fun t y => ∑ r : Fin 512, val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) (y 1)))
    ?_ ?_ points.le t0_15 rfl (ix2 a b)).trans ?_
  · intro t h y
    rw [outsAt0_A m c t h]
    frame_out
    rw [block_2, block_3, block_4]
    obtain ⟨q, l, rfl⟩ : ∃ (q : Fin 1) (l : Fin 512), y = ix2 q l := ⟨y 0, y 1, eq_ix2 y⟩
    pointwise [k0_pay1, k0_pay30, k0_pay27]
    simp only [normed (rows m c t), upAffine (rows m c t), val_main_v42]
    pointwise
  · intro t h y
    rw [outsAt0_B m c t h]
    frame_out
    rw [block_2, block_3, block_4]
    obtain ⟨q, l, rfl⟩ : ∃ (q : Fin 1) (l : Fin 512), y = ix2 q l := ⟨y 0, y 1, eq_ix2 y⟩
    pointwise [k0_pay1, k0_pay27]
    simp only [normed (rows m c t), upAffine (rows m c t), val_main_v42]
    pointwise
  · rw [zero_add]
    exact sum_rows fun k => val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b)

/-- The gradient of the norm's bias. -/
theorem out_9 (c : Dev nD) (a : Fin 1) (b : Fin 512) : (outsAt0 m c t0_15.val t0_15.isLt).2.2.2.1 (ix2 a b)
    = ∑ k : Fin 8192, val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b) := by
  refine (Pipeline.eq_sum_fin_of_reset_step_apply_last (fun n h => (outsAt0 m c n h).2.2.2.1) 16 (fun _ => (0 : EReal))
    (fun t y => ∑ r : Fin 512, val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) (y 1)))
    ?_ ?_ points.le t0_15 rfl (ix2 a b)).trans ?_
  · intro t h y
    rw [outsAt0_A m c t h]
    frame_out
    rw [block_2, block_3, block_4]
    obtain ⟨q, l, rfl⟩ : ∃ (q : Fin 1) (l : Fin 512), y = ix2 q l := ⟨y 0, y 1, eq_ix2 y⟩
    pointwise [k0_pay2, k0_pay31, k0_pay26]
    simp only [upAffine (rows m c t)]
  · intro t h y
    rw [outsAt0_B m c t h]
    frame_out
    rw [block_2, block_3, block_4]
    obtain ⟨q, l, rfl⟩ : ∃ (q : Fin 1) (l : Fin 512), y = ix2 q l := ⟨y 0, y 1, eq_ix2 y⟩
    pointwise [k0_pay2, k0_pay26]
    simp only [upAffine (rows m c t)]
  · rw [zero_add]
    exact sum_rows fun k => val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b)

/-- The gradient of the pointwise weight. -/
theorem out_10 (c : Dev nD) (a : Fin 512) (b : Fin 512) : (outsAt0 m c t0_15.val t0_15.isLt).2.2.2.2.1 (ix2 a b)
    = ∑ k : Fin 8192, val_main_v28_0 (F := Ideal) (m ((c : Thread nD τ).loc main_arg1)) (m ((c : Thread nD τ).loc main_arg2)) (m ((c : Thread nD τ).loc main_arg3)) (m ((c : Thread nD τ).loc main_arg4)) (ix2 k a) * val_main_v34 (F := Ideal) (m ((c : Thread nD τ).loc main_arg0)) (m ((c : Thread nD τ).loc main_arg6)) (ix2 k b) := by
  refine (Pipeline.eq_sum_fin_of_reset_step_apply_last (fun n h => (outsAt0 m c n h).2.2.2.2.1) 16 (fun _ => (0 : EReal))
    (fun t y => ∑ r : Fin 512, val_main_v28_0 (F := Ideal) (m ((c : Thread nD τ).loc main_arg1)) (m ((c : Thread nD τ).loc main_arg2)) (m ((c : Thread nD τ).loc main_arg3)) (m ((c : Thread nD τ).loc main_arg4)) (ix2 (row t r) (y 0)) * val_main_v34 (F := Ideal) (m ((c : Thread nD τ).loc main_arg0)) (m ((c : Thread nD τ).loc main_arg6)) (ix2 (row t r) (y 1)))
    ?_ ?_ points.le t0_15 rfl (ix2 a b)).trans ?_
  · intro t h y
    rw [outsAt0_A m c t h]
    frame_out
    rw [block_2, block_3]
    obtain ⟨q, l, rfl⟩ : ∃ (q : Fin 512) (l : Fin 512), y = ix2 q l := ⟨y 0, y 1, eq_ix2 y⟩
    pointwise [k0_pay3, k0_pay32, k0_pay22]
    simp only [hidden (rows m c t), upGated (rows m c t)]
  · intro t h y
    rw [outsAt0_B m c t h]
    frame_out
    rw [block_2, block_3]
    obtain ⟨q, l, rfl⟩ : ∃ (q : Fin 512) (l : Fin 512), y = ix2 q l := ⟨y 0, y 1, eq_ix2 y⟩
    pointwise [k0_pay3, k0_pay22]
    simp only [hidden (rows m c t), upGated (rows m c t)]
  · rw [zero_add]
    exact sum_rows fun k => val_main_v28_0 (F := Ideal) (m ((c : Thread nD τ).loc main_arg1)) (m ((c : Thread nD τ).loc main_arg2)) (m ((c : Thread nD τ).loc main_arg3)) (m ((c : Thread nD τ).loc main_arg4)) (ix2 k a) * val_main_v34 (F := Ideal) (m ((c : Thread nD τ).loc main_arg0)) (m ((c : Thread nD τ).loc main_arg6)) (ix2 k b)

/-- The gradient of the convolution's bias. -/
theorem out_11 (c : Dev nD) (a : Fin 1) (b : Fin 512) : (outsAt0 m c t0_15.val t0_15.isLt).2.2.2.2.2 (ix2 a b)
    = ∑ k : Fin 8192, val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b) := by
  refine (Pipeline.eq_sum_fin_of_reset_step_apply_last (fun n h => (outsAt0 m c n h).2.2.2.2.2) 16 (fun _ => (0 : EReal))
    (fun t y => ∑ r : Fin 512, val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) (y 1)))
    ?_ ?_ points.le t0_15 rfl (ix2 a b)).trans ?_
  · intro t h y
    rw [outsAt0_A m c t h]
    frame_out
    rw [block_2, block_3, block_4]
    obtain ⟨q, l, rfl⟩ : ∃ (q : Fin 1) (l : Fin 512), y = ix2 q l := ⟨y 0, y 1, eq_ix2 y⟩
    pointwise [k0_pay4, k0_pay33]
    simp only [upConv (rows m c t)]
  · intro t h y
    rw [outsAt0_B m c t h]
    frame_out
    rw [block_2, block_3, block_4]
    obtain ⟨q, l, rfl⟩ : ∃ (q : Fin 1) (l : Fin 512), y = ix2 q l := ⟨y 0, y 1, eq_ix2 y⟩
    pointwise [k0_pay4]
    simp only [upConv (rows m c t)]
  · rw [zero_add]
    exact sum_rows fun k => val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k b)

/-- The summed arrays after the run. -/
theorem final_8 (c : Dev nD) : (dats m 0 c).arrAt 8 cfg0.N = fun i => ∑ k : Fin 8192, val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k (i 1)) := by
  refine (dats m 0 c).arrAt_eq_of_after_last 8 t0_15 (by decide +kernel) _ fun j => ?_
  blk_simp
  rw [after0_8]
  obtain ⟨q, l, rfl⟩ : ∃ (q : Fin 1) (l : Fin 512), j = ix2 q l := ⟨j 0, j 1, eq_ix2 j⟩
  exact out_8 m c q l

theorem final_9 (c : Dev nD) : (dats m 0 c).arrAt 9 cfg0.N = fun i => ∑ k : Fin 8192, val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k (i 1)) := by
  refine (dats m 0 c).arrAt_eq_of_after_last 9 t0_15 (by decide +kernel) _ fun j => ?_
  blk_simp
  rw [after0_9]
  obtain ⟨q, l, rfl⟩ : ∃ (q : Fin 1) (l : Fin 512), j = ix2 q l := ⟨j 0, j 1, eq_ix2 j⟩
  exact out_9 m c q l

theorem final_10 (c : Dev nD) : (dats m 0 c).arrAt 10 cfg0.N = fun i => ∑ k : Fin 8192, val_main_v28_0 (F := Ideal) (m ((c : Thread nD τ).loc main_arg1)) (m ((c : Thread nD τ).loc main_arg2)) (m ((c : Thread nD τ).loc main_arg3)) (m ((c : Thread nD τ).loc main_arg4)) (ix2 k (i 0)) * val_main_v34 (F := Ideal) (m ((c : Thread nD τ).loc main_arg0)) (m ((c : Thread nD τ).loc main_arg6)) (ix2 k (i 1)) := by
  refine (dats m 0 c).arrAt_eq_of_after_last 10 t0_15 (by decide +kernel) _ fun j => ?_
  blk_simp
  rw [after0_10]
  obtain ⟨q, l, rfl⟩ : ∃ (q : Fin 512) (l : Fin 512), j = ix2 q l := ⟨j 0, j 1, eq_ix2 j⟩
  exact out_10 m c q l

theorem final_11 (c : Dev nD) : (dats m 0 c).arrAt 11 cfg0.N = fun i => ∑ k : Fin 8192, val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 k (i 1)) := by
  refine (dats m 0 c).arrAt_eq_of_after_last 11 t0_15 (by decide +kernel) _ fun j => ?_
  blk_simp
  rw [after0_11]
  obtain ⟨q, l, rfl⟩ : ∃ (q : Fin 1) (l : Fin 512), j = ix2 q l := ⟨j 0, j 1, eq_ix2 j⟩
  exact out_11 m c q l

end Cert.Post
-- ==== Proof.PostBlocks.lean ====
/-
  The gradient through the norm, the gate and the pointwise product (`conf_bwd_post`): the two result
  arrays that are written block by block.
-/
module

public import proofs.«01_k».proof.Proof.PostSums
public import proofs.«01_k».proof.Defs
public import Idealize.ShloMosaic.Lib.Pipeline.ValueKit
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Post

open Cert.KernelIdeal Cert.KernelIdeal.Gen Cert.KernelIdeal.Value Cert.ReferenceIdeal.Read

variable (m : (ℓ : Loc nD τ sig) → Buf (Elt Ideal) ℓ)

/-- The result arrays after the run. -/
theorem final_6 (c : Dev nD) : (dats m 0 c).arrAt 6 cfg0.N = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  obtain ⟨e0, e1⟩ := index_6 t
  rw [after0_6]
  obtain ⟨r, l, rfl⟩ : ∃ (r l : Fin 512), y = ix2 r l := ⟨y 0, y 1, eq_ix2 y⟩
  blk_simp
  refine (out_6 m c t r l).trans ?_
  blk_ext [e0, e1, row]

/-- Outside the gate's columns the second array is the argument it is laid over. -/
theorem final_7 (c : Dev nD) : (dats m 0 c).arrAt 7 cfg0.N
    = fun i => if 1024 ≤ (i 1 : ℕ) ∧ (i 1 : ℕ) < 1536 then val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (i 0) ⟨((i 1 : ℕ) - 1024) % 512, Nat.mod_lt _ (by decide)⟩)
        else (dats m 0 c).A 7 i := by
  refine (dats m 0 c).arrAt_eq_of_coversWhere 7 _ (fun β => β 1 = 2) (by decide +kernel) (fun t hf y => ?_)
    (fun j => by blk_simp [Pipeline.Window.cell_apply]; omega)
  obtain ⟨e0, e1⟩ := index_7 t
  rw [after0_7]
  obtain ⟨r, l, rfl⟩ : ∃ (r l : Fin 512), y = ix2 r l := ⟨y 0, y 1, eq_ix2 y⟩
  blk_simp
  refine (out_7 m c t r l).trans ?_
  blk_ext [e0, e1, row]

end Cert.Post
-- ==== Proof.PostReference.lean ====
/-
  The gradient through the norm, the gate and the pointwise product (`conf_bwd_post`): the reference's
  results at an index.
-/
module

public import proofs.«01_k».proof.Proof.SiluLaws
public import proofs.«01_k».proof.Proof.Gen.ReferenceIdeal.Read

@[expose] public section

set_option maxRecDepth 16384

noncomputable section

open Idealize.ShloMosaic Idealize.ShloMosaic.TcCoe Idealize.SL.Sem

namespace Cert.Post

open Cert.ReferenceIdeal Cert.ReferenceIdeal.Read

variable (x0 : Vec Ideal S8192x8192 .f32) (x1 : Vec Ideal S8192x512 .f32) (x2 x3 x4 : Vec Ideal S1x512 .f32)
    (x5 : Vec Ideal S512x512 .f32) (x6 : Vec Ideal S8192x2048 .f32)

theorem reference_44 : val_main_v44 (F := Ideal) x0 x1 x2 x3 x4 x5 x6 = fun i => ∑ k : Fin 8192, val_main_v42 (F := Ideal) x0 x1 x2 x3 x4 x5 x6 (ix2 k (i 1)) := by
  funext i
  obtain ⟨q, l, rfl⟩ : ∃ (q : Fin 1) (l : Fin 512), i = ix2 q l := ⟨i 0, i 1, eq_ix2 i⟩
  pointwise [val_main_v44, val_main_v43, val_main_cst_6]

theorem reference_41 : val_main_v41 (F := Ideal) x0 x1 x2 x3 x4 x5 x6 = fun i => ∑ k : Fin 8192, val_main_v39 (F := Ideal) x0 x1 x2 x3 x4 x5 x6 (ix2 k (i 1)) := by
  funext i
  obtain ⟨q, l, rfl⟩ : ∃ (q : Fin 1) (l : Fin 512), i = ix2 q l := ⟨i 0, i 1, eq_ix2 i⟩
  pointwise [val_main_v41, val_main_v40, val_main_cst_5]

theorem reference_37 : val_main_v37 (F := Ideal) x0 x1 x2 x3 x4 x6
    = fun i => ∑ k : Fin 8192, val_main_v28_0 (F := Ideal) x1 x2 x3 x4 (ix2 k (i 0)) * val_main_v34 (F := Ideal) x0 x6 (ix2 k (i 1)) := by
  funext i
  obtain ⟨q, l, rfl⟩ : ∃ (q : Fin 512) (l : Fin 512), i = ix2 q l := ⟨i 0, i 1, eq_ix2 i⟩
  pointwise [val_main_v37, val_main_v36]
  exact Finset.sum_congr rfl fun k _ => mul_comm _ _

theorem reference_72 : val_main_v72 (F := Ideal) x0 x1 x2 x3 x4 x5 x6 = fun i => ∑ k : Fin 8192, val_main_v68 (F := Ideal) x0 x1 x2 x3 x4 x5 x6 (ix2 k (i 1)) := by
  funext i
  obtain ⟨q, l, rfl⟩ : ∃ (q : Fin 1) (l : Fin 512), i = ix2 q l := ⟨i 0, i 1, eq_ix2 i⟩
  pointwise [val_main_v72, val_main_v71, val_main_v70, val_main_v69, val_main_cst_13, val_main_cst_14]
  exact Fin.sum_univ_one _

theorem reference_76 (x7 : Vec Ideal S8192x8192 .bf16) : val_main_v76 (F := Ideal) x0 x1 x2 x3 x4 x5 x6 x7
    = fun i => if 1024 ≤ (i 1 : ℕ) ∧ (i 1 : ℕ) < 1536 then val_main_v35 (F := Ideal) x0 x1 x2 x3 x4 x5 x6 (ix2 (i 0) ⟨((i 1 : ℕ) - 1024) % 512, Nat.mod_lt _ (by decide)⟩)
        else x7 i := by
  funext i
  obtain ⟨q, l, rfl⟩ : ∃ (q : Fin 8192) (l : Fin 8192), i = ix2 q l := ⟨i 0, i 1, eq_ix2 i⟩
  pointwise [val_main_v76, val_main_v73, val_main_v74, val_main_v75]
  have hl := l.isLt
  by_cases h1 : (l : ℕ) < 1024
  · exact (dif_pos h1).trans (if_neg (fun h => by omega)).symm
  · refine (dif_neg h1).trans ?_
    by_cases h2 : (l : ℕ) - 1024 < 512
    · exact (dif_pos h2).trans ((congrArg _ (congrArg (ix2 q) (Fin.ext (Nat.mod_eq_of_lt h2).symm))).trans
        (if_pos ⟨by omega, by omega⟩).symm)
    · exact (dif_neg h2).trans ((congrArg x7 (congrArg (ix2 q) (Fin.ext (show 1536 + ((l : ℕ) - 1024 - 512) = l by omega)))).trans
        (if_neg (fun h => by omega)).symm)

end Cert.Post
-- ==== Proof.Post.lean ====
/-
  The gradient through the norm, the gate and the pointwise product (`conf_bwd_post`): the kernel's six
  results are the reference's, and the reference terminates.
-/
module

public import proofs.«01_k».proof.Proof.PostBlocks
public import proofs.«01_k».proof.Proof.PostReference
public import proofs.«01_k».proof.Defs
public import Idealize.ShloMosaic.Lib.Pipeline.ValueKit
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Post

open Cert.KernelIdeal Cert.KernelIdeal.Gen Cert.KernelIdeal.Value Cert.ReferenceIdeal.Read

variable (m : (ℓ : Loc nD τ sig) → Buf (Elt Ideal) ℓ)

set_option maxHeartbeats 1600000 in
/-- The kernel's six results are the reference's. -/
theorem algebraic : Cert.algebraic_KernelIdeal_ReferenceIdeal := by
  pair_intro
  · run_from run_blocks m g
  · run_from Cert.ReferenceIdeal.Value.run m' g'
    · rw [final_6 m c]
      obtain ⟨h0, h1, h2, h3, h4, h5, h6, h7⟩ := hagree c
      refine (val_main_v68_eq (F := Ideal) (StableHlo.launchContents m' c)).trans ?_
      show val_main_v68 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [h0, h1, h2, h3, h4, h5, h6]
    · rw [final_7 m c]
      obtain ⟨h0, h1, h2, h3, h4, h5, h6, h7⟩ := hagree c
      refine (val_main_v76_eq (F := Ideal) (StableHlo.launchContents m' c)).trans ?_
      show val_main_v76 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) = _
      rw [h0, h1, h2, h3, h4, h5, h6, h7]
      rw [reference_76]
      funext i
      refine congrArg (ite _ _) ?_
      show _ = V m c (Pipeline.arrRef spec0 7) i
      entry_read
      rfl
    · rw [final_8 m c]
      obtain ⟨h0, h1, h2, h3, h4, h5, h6, h7⟩ := hagree c
      refine (val_main_v44_eq (F := Ideal) (StableHlo.launchContents m' c)).trans ?_
      show val_main_v44 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [h0, h1, h2, h3, h4, h5, h6]
      exact reference_44 _ _ _ _ _ _ _
    · rw [final_9 m c]
      obtain ⟨h0, h1, h2, h3, h4, h5, h6, h7⟩ := hagree c
      refine (val_main_v41_eq (F := Ideal) (StableHlo.launchContents m' c)).trans ?_
      show val_main_v41 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [h0, h1, h2, h3, h4, h5, h6]
      exact reference_41 _ _ _ _ _ _ _
    · rw [final_10 m c]
      obtain ⟨h0, h1, h2, h3, h4, h5, h6, h7⟩ := hagree c
      refine (val_main_v37_eq (F := Ideal) (StableHlo.launchContents m' c)).trans ?_
      show val_main_v37 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg6)) = _
      rw [h0, h1, h2, h3, h4, h6]
      exact reference_37 _ _ _ _ _ _
    · rw [final_11 m c]
      obtain ⟨h0, h1, h2, h3, h4, h5, h6, h7⟩ := hagree c
      refine (val_main_v72_eq (F := Ideal) (StableHlo.launchContents m' c)).trans ?_
      show val_main_v72 (F := Ideal) (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) = _
      rw [h0, h1, h2, h3, h4, h5, h6]
      exact reference_72 _ _ _ _ _ _ _

/-- The reference terminates. -/
theorem frame_reference : Cert.quiescent_ReferenceIdeal := fun m g _ =>
  (θ_run _ _ _).mono (fun r h => ⟨fun c => (h c).2.2.2.2.2.2, sem_eq_zero_of_no_sems (by decide) r.2⟩) (Cert.ReferenceIdeal.Value.run m g)

end Cert.Post
-- ==== Proof.Products.lean ====
/-
  What the four products of the projections' backward passes share: a zero offset, and a contraction cut in tiles.
  The kernels walk a long contraction axis a tile at a time and add the partial products up in a scratch block; over the
  extended reals the partial sums add up to the one sum the reference takes, in whatever order.
-/
module

public import Idealize.ShloMosaic.Lib.Pointwise
public import Idealize.ShloMosaic.Lib.Pipeline.Value
public import Idealize.ShloMosaic.Lib.Claim
public import Idealize.ShloMosaic.PureOps.Ideal.Laws

@[expose] public section

noncomputable section

namespace Cert.Products

open Idealize.ShloMosaic

/-- The offset at which a whole block is loaded and stored. -/
theorem offset_zero : (![0, 0] : Fin 2 → Nat) = fun _ => 0 := funext fun a => by fin_cases a <;> rfl

/-- A contraction over two tiles of `n` positions is the sum of the two partial contractions. -/
theorem sum_two_tiles {N n : ℕ} (hN : 2 * n = N) (f : Fin N → EReal) :
    ((∑ k : Fin n, f ⟨n * 0 + k.val, by have := k.isLt; omega⟩) + ∑ k : Fin n, f ⟨n * 1 + k.val, by have := k.isLt; omega⟩)
      = ∑ k : Fin N, f k := by
  rw [Fin.sum_univ_tiles 2 n hN, Fin.sum_univ_two]
  refine congrArg₂ (· + ·) (Finset.sum_congr rfl fun k _ => congrArg f (Fin.ext ?_))
    (Finset.sum_congr rfl fun k _ => congrArg f (Fin.ext ?_)) <;> simp

/-- … and over four tiles, added first to last. -/
theorem sum_four_tiles {N n : ℕ} (hN : 4 * n = N) (f : Fin N → EReal) :
    ((((∑ k : Fin n, f ⟨n * 0 + k.val, by have := k.isLt; omega⟩) + ∑ k : Fin n, f ⟨n * 1 + k.val, by have := k.isLt; omega⟩)
        + ∑ k : Fin n, f ⟨n * 2 + k.val, by have := k.isLt; omega⟩) + ∑ k : Fin n, f ⟨n * 3 + k.val, by have := k.isLt; omega⟩)
      = ∑ k : Fin N, f k := by
  rw [Fin.sum_univ_tiles 4 n hN, Fin.sum_univ_four]
  refine congrArg₂ (· + ·) (congrArg₂ (· + ·) (congrArg₂ (· + ·) ?_ ?_) ?_) ?_ <;>
    exact Finset.sum_congr rfl fun k _ => congrArg f (Fin.ext (by simp [Nat.mul_comm]))

end Cert.Products
-- ==== Proof.InWeights.lean ====
/-
  The weight gradient of the input projection (`in_proj_dw`): the kernel contracts the 8192 rows in two tiles of 4096,
  adding the second partial product onto the first in its scratch block, and casts the block at the second step; the
  reference is the derivative of the plain product. Both are `∑ k, h (k, a) * du (k, b)`.
-/
module

public import proofs.«01_k».proof.Proof.Products
public import proofs.«01_k».proof.Defs
public import Idealize.ShloMosaic.Lib.Pipeline.ValueKit
public import proofs.«01_k».proof.Proof.Gen.DwInIdeal.Value
public import proofs.«01_k».proof.Proof.Gen.DwInRefIdeal.Run
public import proofs.«01_k».proof.Proof.Gen.DwInRefIdeal.Read

@[expose] public section

set_option maxRecDepth 16384

noncomputable section

open Idealize.ShloMosaic Idealize.ShloMosaic.TcCoe Idealize.SL.Sem

namespace Cert.DwInIdeal.Weights

open Cert.DwInIdeal Cert.DwInIdeal.Gen Cert.DwInIdeal.Value Cert.Products

variable (m : (ℓ : Loc nD τ sig) → Buf (Elt Ideal) ℓ)

/-- One step's partial product, at an index. -/
theorem pay1_apply (x : Vec Ideal S4096x1024 .bf16) (y : Vec Ideal S4096x1024 .bf16) (r : Fin 1024) (l : Fin 1024) :
    k0_pay1 (F := Ideal) x y (ix2 r l) = ∑ k : Fin 4096, x (ix2 k r) * y (ix2 k l) := by
  pointwise [k0_pay1]

/-- The first step leaves its partial product in the scratch block. -/
theorem scratch_first (c : Dev nD) (i : grid0.Coords) (a3 : Memref sig .tc .vmem S4096x1024 .bf16) (h3 : a3.IsWhole) (a4 : Memref sig .tc .vmem S4096x1024 .bf16) (h4 : a4.IsWhole)
    (a5 : Memref sig .tc .vmem S1024x1024 .bf16) (h5 : a5.IsWhole) (a6 : Memref sig .tc .vmem S1024x1024 .f32) (h6 : a6.IsWhole)
    (hc0 : cond0_0 i) (hc1 : ¬cond0_1 i) (hc2 : ¬cond0_2 i) (x : Vec Ideal S4096x1024 .bf16) (y : Vec Ideal S4096x1024 .bf16) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero offset_zero]
  unfold k0_pay2
  simp only [View.readAt_eq_ld, h3.read_unread, h4.read_unread, View.ld_unit_zero (S := S1024x1024) offset_zero, View.ld_unit_zero (S := S4096x1024) offset_zero, shapeCast_self]

/-- The last step leaves the scratch block's contents plus its own partial product in the output block. -/
theorem out_last (c : Dev nD) (i : grid0.Coords) (a3 : Memref sig .tc .vmem S4096x1024 .bf16) (h3 : a3.IsWhole) (a4 : Memref sig .tc .vmem S4096x1024 .bf16) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : cond0_2 i) (x : Vec Ideal S4096x1024 .bf16) (y : Vec Ideal S4096x1024 .bf16) (s : Vec Ideal S1024x1024 .f32) :
    out0_B_2 (F := Ideal) c i a3 h3 a4 h4 a5 h5 a6 h6 hc0 hc1 hc2 x y s = k0_pay4 (k0_pay3 x y s) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero offset_zero, View.readCov_unit_zero (S := S1024x1024) _ offset_zero]
  simp only [View.readAt_eq_ld, h3.read_unread, h4.read_unread, h6.read_unread, View.ld_unit_zero (S := S1024x1024) offset_zero, View.ld_unit_zero (S := S4096x1024) offset_zero, shapeCast_self]

/-- Where the input blocks lie at each point. -/
theorem index_0 : ∀ t : Fin cfg0.N, win0_0.index t (0 : Fin 2) = t.val % 2 ∧ win0_0.index t (1 : Fin 2) = t.val / 16 :=
  (by decide +kernel : ∀ t : Fin grid0.N, _)
theorem index_1 : ∀ t : Fin cfg0.N, win0_1.index t (0 : Fin 2) = t.val % 2 ∧ win0_1.index t (1 : Fin 2) = t.val / 2 % 8 :=
  (by decide +kernel : ∀ t : Fin grid0.N, _)
theorem index_2 : ∀ t : Fin cfg0.N, win0_2.index t (0 : Fin 2) = t.val / 16 ∧ win0_2.index t (1 : Fin 2) = t.val / 2 % 8 :=
  (by decide +kernel : ∀ t : Fin grid0.N, _)

/-- The left block at a point, read from the array. -/
theorem block_0 (c : Dev nD) (t : Fin cfg0.N) (k : Fin 4096) (r : Fin 1024) :
    (iblk m c 0 t : Vec Ideal S4096x1024 .bf16) (ix2 k r)
      = m ((c : Thread nD τ).loc main_arg0) (ix2 (⟨4096 * (t.val % 2) + k.val, by have := k.isLt; have := lt_of_lt_of_eq t.isLt (show cfg0.N = 32 from N_0); omega⟩ : Fin 8192)
          (⟨1024 * (t.val / 16) + r.val, by have := r.isLt; have := lt_of_lt_of_eq t.isLt (show cfg0.N = 32 from N_0); omega⟩ : Fin 2048)) := by
  obtain ⟨e0, e1⟩ := index_0 t
  unfold iblk
  rw [View.read_apply]
  show V m c main_arg0 _ = m (c.tc.loc main_arg0) _
  unfold V
  congr 1
  funext d
  apply Fin.ext
  match d with
  | ⟨0, _⟩ => show win0_0.index t 0 * 4096 + 1 * k.val = 4096 * (t.val % 2) + k.val; rw [e0]; omega
  | ⟨1, _⟩ => show win0_0.index t 1 * 1024 + 1 * r.val = 1024 * (t.val / 16) + r.val; rw [e1]; omega

/-- The right block at a point, read from the array. -/
theorem block_1 (c : Dev nD) (t : Fin cfg0.N) (k : Fin 4096) (l : Fin 1024) :
    (iblk m c 1 t : Vec Ideal S4096x1024 .bf16) (ix2 k l)
      = m ((c : Thread nD τ).loc main_arg1) (ix2 (⟨4096 * (t.val % 2) + k.val, by have := k.isLt; have := lt_of_lt_of_eq t.isLt (show cfg0.N = 32 from N_0); omega⟩ : Fin 8192)
          (⟨1024 * (t.val / 2 % 8) + l.val, by have := l.isLt; have := lt_of_lt_of_eq t.isLt (show cfg0.N = 32 from N_0); omega⟩ : Fin 8192)) := by
  obtain ⟨e0, e1⟩ := index_1 t
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 2) + k.val; rw [e0]; omega
  | ⟨1, _⟩ => show win0_1.index t 1 * 1024 + 1 * l.val = 1024 * (t.val / 2 % 8) + l.val; rw [e1]; omega

/-- The whole contraction at an index of the result. -/
def entry (A : Vec Ideal S8192x2048 .bf16) (B : Vec Ideal S8192x8192 .bf16) (a : Fin 2048) (b : Fin 8192) : EReal :=
  ∑ k : Fin 8192, A (ix2 k a) * B (ix2 k b)

/-- What the output block holds after its last step. -/
theorem out_at (c : Dev nD) (n : ℕ) (hn : 2 * n + 1 < cfg0.N) (r : Fin 1024) (l : Fin 1024) :
    (outsAt0 m c (2 * n + 1) hn).1 (ix2 r l)
      = entry (m ((c : Thread nD τ).loc main_arg0)) (m ((c : Thread nD τ).loc main_arg1))
          ⟨1024 * (n / 8) + r.val, by have := r.isLt; have := lt_of_lt_of_eq hn (show cfg0.N = 32 from N_0); omega⟩
          ⟨1024 * (n % 8) + l.val, by have := l.isLt; omega⟩ := by
  have hN := lt_of_lt_of_eq hn (show cfg0.N = 32 from N_0)
  have h0 : 2 * n < cfg0.N := by omega
  rw [outsAt0_B m c ⟨2 * n + 1, hn⟩ (by dsimp only <;> omega) (by dsimp only <;> omega) (by dsimp only <;> omega)]
  dsimp only
  rw [out_last]
  rw [show outsAt0 m c (2 * n + 1 - 1) (by omega) = outsAt0 m c (2 * n) h0 from rfl,
    outsAt0_A m c ⟨2 * n, h0⟩ (by dsimp only <;> omega) (by dsimp only <;> omega) (by dsimp only <;> omega)]
  dsimp only
  rw [scratch_first]
  pointwise [k0_pay4, k0_pay3]
  rw [pay1_apply, pay1_apply]
  unfold entry
  rw [← sum_two_tiles (n := 4096) rfl]
  refine congrArg₂ (· + ·) (Finset.sum_congr rfl fun k _ => ?_) (Finset.sum_congr rfl fun k _ => ?_)
  · rw [block_0 m c ⟨2 * n, h0⟩ k, block_1 m c ⟨2 * n, h0⟩ k]
    refine congrArg₂ (· * ·) (congrArg _ ?_) (congrArg _ ?_) <;>
      exact congrArg₂ ix2 (Fin.ext (by dsimp only <;> omega)) (Fin.ext (by dsimp only <;> omega))
  · rw [block_0 m c ⟨2 * n + 1, hn⟩ k, block_1 m c ⟨2 * n + 1, hn⟩ k]
    refine congrArg₂ (· * ·) (congrArg _ ?_) (congrArg _ ?_) <;>
      exact congrArg₂ ix2 (Fin.ext (by dsimp only <;> omega)) (Fin.ext (by dsimp only <;> omega))

/-- The result array after the run. -/
theorem final (c : Dev nD) : (dats m 0 c).arrAt 2 cfg0.N
    = fun i => entry (m ((c : Thread nD τ).loc main_arg0)) (m ((c : Thread nD τ).loc main_arg1)) (i 0) (i 1) := by
  refine (dats m 0 c).arrAt_eq_of_covers 2 _ (by decide +kernel) fun t hf y => ?_
  obtain ⟨t, ht⟩ := t
  have h1 : t % 2 = 1 := (flush0_2 ⟨t, ht⟩).mp hf
  obtain ⟨n, rfl⟩ : ∃ n, t = 2 * n + 1 := ⟨t / 2, by omega⟩
  obtain ⟨e0, e1⟩ := index_2 ⟨2 * n + 1, ht⟩
  dsimp only at e0 e1
  rw [after0_2]
  obtain ⟨r, l, rfl⟩ : ∃ (r : Fin 1024) (l : Fin 1024), y = ix2 r l := ⟨y 0, y 1, eq_ix2 y⟩
  blk_simp
  refine (out_at m c n ht r l).trans ?_
  refine congrArg₂ (entry _ _) (Fin.ext ?_) (Fin.ext ?_)
  · blk_simp [e0]; dsimp only <;> omega
  · blk_simp [e1]; dsimp only <;> omega

/-- The kernel's result is the reference's. -/
theorem algebraic : Cert.algebraic_DwInIdeal_DwInRefIdeal := by
  pair_intro
  · run_from run_blocks m g
  · run_from Cert.DwInRefIdeal.Value.run m' g'
    rw [final m c]
    refine (Cert.DwInRefIdeal.Read.val_main_v6_eq (F := Ideal) (m (c.tc.loc main_arg0)) (m (c.tc.loc main_arg1))).trans ?_
    funext j
    refine (Cert.DwInRefIdeal.Read.val_main_v5_apply _ _ _).trans ((Cert.DwInRefIdeal.Read.val_main_v4_apply _ _ _).trans ?_)
    refine Finset.sum_congr rfl fun k _ => (mul_comm _ _).trans ?_
    exact congrArg₂ (· * ·) (congrArg _ (eq_ix2 _)) (congrArg _ (eq_ix2 _))

/-- The reference terminates. -/
theorem frame_reference : Cert.quiescent_DwInRefIdeal := fun m g _ =>
  (θ_run _ _ _).mono (fun r h => ⟨fun c => (h c).2, sem_eq_zero_of_no_sems (by decide) r.2⟩) (Cert.DwInRefIdeal.Value.run m g)

end Cert.DwInIdeal.Weights
-- ==== Proof.InRows.lean ====
/-
  The row gradient of the input projection (`in_proj_dh`): the kernel contracts the 8192 columns in two tiles of 4096,
  adding the second partial product onto the first in its scratch block; the reference is the derivative of the plain
  product. Both are `∑ k, du (a, k) * w (b, k)`.
-/
module

public import proofs.«01_k».proof.Proof.Products
public import proofs.«01_k».proof.Defs
public import Idealize.ShloMosaic.Lib.Pipeline.ValueKit
public import proofs.«01_k».proof.Proof.Gen.DhInIdeal.Value
public import proofs.«01_k».proof.Proof.Gen.DhInRefIdeal.Run
public import proofs.«01_k».proof.Proof.Gen.DhInRefIdeal.Read

@[expose] public section

set_option maxRecDepth 16384

noncomputable section

open Idealize.ShloMosaic Idealize.ShloMosaic.TcCoe Idealize.SL.Sem

namespace Cert.DhInIdeal.Weights

open Cert.DhInIdeal Cert.DhInIdeal.Gen Cert.DhInIdeal.Value Cert.Products

variable (m : (ℓ : Loc nD τ sig) → Buf (Elt Ideal) ℓ)

/-- One step's partial product, at an index. -/
theorem pay1_apply (x : Vec Ideal S1024x4096 .bf16) (y : Vec Ideal S1024x4096 .bf16) (r : Fin 1024) (l : Fin 1024) :
    k0_pay1 (F := Ideal) x y (ix2 r l) = ∑ k : Fin 4096, x (ix2 r k) * y (ix2 l k) := by
  pointwise [k0_pay1]

/-- The first step leaves its partial product in the scratch block. -/
theorem scratch_first (c : Dev nD) (i : grid0.Coords) (a3 : Memref sig .tc .vmem S1024x4096 .bf16) (h3 : a3.IsWhole) (a4 : Memref sig .tc .vmem S1024x4096 .bf16) (h4 : a4.IsWhole)
    (a5 : Memref sig .tc .vmem S1024x1024 .f32) (h5 : a5.IsWhole) (a6 : Memref sig .tc .vmem S1024x1024 .f32) (h6 : a6.IsWhole)
    (hc0 : cond0_0 i) (hc1 : ¬cond0_1 i) (hc2 : ¬cond0_2 i) (x : Vec Ideal S1024x4096 .bf16) (y : Vec Ideal S1024x4096 .bf16) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero offset_zero]
  unfold k0_pay2
  simp only [View.readAt_eq_ld, h3.read_unread, h4.read_unread, View.ld_unit_zero (S := S1024x1024) offset_zero, View.ld_unit_zero (S := S1024x4096) offset_zero, shapeCast_self]

/-- The last step leaves the scratch block's contents plus its own partial product in the output block. -/
theorem out_last (c : Dev nD) (i : grid0.Coords) (a3 : Memref sig .tc .vmem S1024x4096 .bf16) (h3 : a3.IsWhole) (a4 : Memref sig .tc .vmem S1024x4096 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (hc2 : cond0_2 i) (x : Vec Ideal S1024x4096 .bf16) (y : Vec Ideal S1024x4096 .bf16) (s : Vec Ideal S1024x1024 .f32) :
    out0_B_2 (F := Ideal) c i a3 h3 a4 h4 a5 h5 a6 h6 hc0 hc1 hc2 x y s = k0_pay3 x y s := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero offset_zero, View.readCov_unit_zero (S := S1024x1024) _ offset_zero]
  simp only [View.readAt_eq_ld, h3.read_unread, h4.read_unread, h6.read_unread, View.ld_unit_zero (S := S1024x1024) offset_zero, View.ld_unit_zero (S := S1024x4096) offset_zero, shapeCast_self]

/-- Where the input blocks lie at each point. -/
theorem index_0 : ∀ t : Fin cfg0.N, win0_0.index t (0 : Fin 2) = t.val / 4 ∧ win0_0.index t (1 : Fin 2) = t.val % 2 :=
  (by decide +kernel : ∀ t : Fin grid0.N, _)
theorem index_1 : ∀ t : Fin cfg0.N, win0_1.index t (0 : Fin 2) = t.val / 2 % 2 ∧ win0_1.index t (1 : Fin 2) = t.val % 2 :=
  (by decide +kernel : ∀ t : Fin grid0.N, _)
theorem index_2 : ∀ t : Fin cfg0.N, win0_2.index t (0 : Fin 2) = t.val / 4 ∧ win0_2.index t (1 : Fin 2) = t.val / 2 % 2 :=
  (by decide +kernel : ∀ t : Fin grid0.N, _)

/-- The left block at a point, read from the array. -/
theorem block_0 (c : Dev nD) (t : Fin cfg0.N) (r : Fin 1024) (k : Fin 4096) :
    (iblk m c 0 t : Vec Ideal S1024x4096 .bf16) (ix2 r k)
      = m ((c : Thread nD τ).loc main_arg0) (ix2 (⟨1024 * (t.val / 4) + r.val, by have := r.isLt; have := lt_of_lt_of_eq t.isLt (show cfg0.N = 32 from N_0); omega⟩ : Fin 8192)
          (⟨4096 * (t.val % 2) + k.val, by have := k.isLt; have := lt_of_lt_of_eq t.isLt (show cfg0.N = 32 from N_0); omega⟩ : Fin 8192)) := by
  obtain ⟨e0, e1⟩ := index_0 t
  unfold iblk
  rw [View.read_apply]
  show V m c main_arg0 _ = m (c.tc.loc main_arg0) _
  unfold V
  congr 1
  funext d
  apply Fin.ext
  match d with
  | ⟨0, _⟩ => show win0_0.index t 0 * 1024 + 1 * r.val = 1024 * (t.val / 4) + r.val; rw [e0]; omega
  | ⟨1, _⟩ => show win0_0.index t 1 * 4096 + 1 * k.val = 4096 * (t.val % 2) + k.val; rw [e1]; omega

/-- The right block at a point, read from the array. -/
theorem block_1 (c : Dev nD) (t : Fin cfg0.N) (l : Fin 1024) (k : Fin 4096) :
    (iblk m c 1 t : Vec Ideal S1024x4096 .bf16) (ix2 l k)
      = m ((c : Thread nD τ).loc main_arg1) (ix2 (⟨1024 * (t.val / 2 % 2) + l.val, by have := l.isLt; have := lt_of_lt_of_eq t.isLt (show cfg0.N = 32 from N_0); omega⟩ : Fin 2048)
          (⟨4096 * (t.val % 2) + k.val, by have := k.isLt; have := lt_of_lt_of_eq t.isLt (show cfg0.N = 32 from N_0); omega⟩ : Fin 8192)) := by
  obtain ⟨e0, e1⟩ := index_1 t
  unfold iblk
  rw [View.read_apply]
  show V m c main_arg1 _ = m (c.tc.loc main_arg1) _
  unfold V
  congr 1
  funext d
  apply Fin.ext
  match d with
  | ⟨0, _⟩ => show win0_1.index t 0 * 1024 + 1 * l.val = 1024 * (t.val / 2 % 2) + l.val; rw [e0]; omega
  | ⟨1, _⟩ => show win0_1.index t 1 * 4096 + 1 * k.val = 4096 * (t.val % 2) + k.val; rw [e1]; omega

/-- The whole contraction at an index of the result. -/
def entry (A : Vec Ideal S8192x8192 .bf16) (B : Vec Ideal S2048x8192 .bf16) (a : Fin 8192) (b : Fin 2048) : EReal :=
  ∑ k : Fin 8192, A (ix2 a k) * B (ix2 b k)

/-- What the output block holds after its last step. -/
theorem out_at (c : Dev nD) (n : ℕ) (hn : 2 * n + 1 < cfg0.N) (r : Fin 1024) (l : Fin 1024) :
    (outsAt0 m c (2 * n + 1) hn).1 (ix2 r l)
      = entry (m ((c : Thread nD τ).loc main_arg0)) (m ((c : Thread nD τ).loc main_arg1))
          ⟨1024 * (n / 2) + r.val, by have := r.isLt; have := lt_of_lt_of_eq hn (show cfg0.N = 32 from N_0); omega⟩
          ⟨1024 * (n % 2) + l.val, by have := l.isLt; omega⟩ := by
  have hN := lt_of_lt_of_eq hn (show cfg0.N = 32 from N_0)
  have h0 : 2 * n < cfg0.N := by omega
  rw [outsAt0_B m c ⟨2 * n + 1, hn⟩ (by dsimp only <;> omega) (by dsimp only <;> omega) (by dsimp only <;> omega)]
  dsimp only
  rw [out_last]
  rw [show outsAt0 m c (2 * n + 1 - 1) (by omega) = outsAt0 m c (2 * n) h0 from rfl,
    outsAt0_A m c ⟨2 * n, h0⟩ (by dsimp only <;> omega) (by dsimp only <;> omega) (by dsimp only <;> omega)]
  dsimp only
  rw [scratch_first]
  pointwise [k0_pay3]
  rw [pay1_apply, pay1_apply]
  unfold entry
  rw [← sum_two_tiles (n := 4096) rfl]
  refine congrArg₂ (· + ·) (Finset.sum_congr rfl fun k _ => ?_) (Finset.sum_congr rfl fun k _ => ?_)
  · rw [block_0 m c ⟨2 * n, h0⟩ r, block_1 m c ⟨2 * n, h0⟩ l]
    refine congrArg₂ (· * ·) (congrArg _ ?_) (congrArg _ ?_) <;>
      exact congrArg₂ ix2 (Fin.ext (by dsimp only <;> omega)) (Fin.ext (by dsimp only <;> omega))
  · rw [block_0 m c ⟨2 * n + 1, hn⟩ r, block_1 m c ⟨2 * n + 1, hn⟩ l]
    refine congrArg₂ (· * ·) (congrArg _ ?_) (congrArg _ ?_) <;>
      exact congrArg₂ ix2 (Fin.ext (by dsimp only <;> omega)) (Fin.ext (by dsimp only <;> omega))

/-- The result array after the run. -/
theorem final (c : Dev nD) : (dats m 0 c).arrAt 2 cfg0.N
    = fun i => entry (m ((c : Thread nD τ).loc main_arg0)) (m ((c : Thread nD τ).loc main_arg1)) (i 0) (i 1) := by
  refine (dats m 0 c).arrAt_eq_of_covers 2 _ (by decide +kernel) fun t hf y => ?_
  obtain ⟨t, ht⟩ := t
  have h1 : t % 2 = 1 := (flush0_2 ⟨t, ht⟩).mp hf
  obtain ⟨n, rfl⟩ : ∃ n, t = 2 * n + 1 := ⟨t / 2, by omega⟩
  obtain ⟨e0, e1⟩ := index_2 ⟨2 * n + 1, ht⟩
  dsimp only at e0 e1
  rw [after0_2]
  obtain ⟨r, l, rfl⟩ : ∃ (r : Fin 1024) (l : Fin 1024), y = ix2 r l := ⟨y 0, y 1, eq_ix2 y⟩
  blk_simp
  refine (out_at m c n ht r l).trans ?_
  refine congrArg₂ (entry _ _) (Fin.ext ?_) (Fin.ext ?_)
  · blk_simp [e0]; dsimp only <;> omega
  · blk_simp [e1]; dsimp only <;> omega

/-- The kernel's result is the reference's. -/
theorem algebraic : Cert.algebraic_DhInIdeal_DhInRefIdeal := by
  pair_intro
  · run_from run_blocks m g
  · run_from Cert.DhInRefIdeal.Value.run m' g'
    rw [final m c]
    refine (Cert.DhInRefIdeal.Read.val_main_v4_eq (F := Ideal) (m (c.tc.loc main_arg0)) (m (c.tc.loc main_arg1))).trans ?_
    funext j
    refine (Cert.DhInRefIdeal.Read.val_main_v4_apply _ _ _).trans ?_
    refine Finset.sum_congr rfl fun k _ => ?_
    exact congrArg₂ (· * ·) (congrArg _ (eq_ix2 _)) (congrArg _ (eq_ix2 _))

/-- The reference terminates. -/
theorem frame_reference : Cert.quiescent_DhInRefIdeal := fun m g _ =>
  (θ_run _ _ _).mono (fun r h => ⟨fun c => (h c).2, sem_eq_zero_of_no_sems (by decide) r.2⟩) (Cert.DhInRefIdeal.Value.run m g)

end Cert.DhInIdeal.Weights
-- ==== Proof.OutWeights.lean ====
/-
  The weight gradient of the output projection (`out_proj_dw`): the kernel contracts the 8192 rows in four tiles of 2048,
  summing the partial products in its scratch block, and casts the block at the fourth step; the reference is the
  derivative of the plain product. Both are `∑ k, y (k, a) * dx (k, b)`.
-/
module

public import proofs.«01_k».proof.Proof.Products
public import proofs.«01_k».proof.Defs
public import Idealize.ShloMosaic.Lib.Pipeline.ValueKit
public import proofs.«01_k».proof.Proof.Gen.DwOutIdeal.Value
public import proofs.«01_k».proof.Proof.Gen.DwOutRefIdeal.Run
public import proofs.«01_k».proof.Proof.Gen.DwOutRefIdeal.Read

@[expose] public section

set_option maxRecDepth 16384

noncomputable section

open Idealize.ShloMosaic Idealize.ShloMosaic.TcCoe Idealize.SL.Sem

namespace Cert.DwOutIdeal.Weights

open Cert.DwOutIdeal Cert.DwOutIdeal.Gen Cert.DwOutIdeal.Value Cert.Products

variable (m : (ℓ : Loc nD τ sig) → Buf (Elt Ideal) ℓ)

/-- One step's partial product, at an index. -/
theorem pay1_apply (x : Vec Ideal S2048x1024 .bf16) (y : Vec Ideal S2048x1024 .f32) (r : Fin 1024) (l : Fin 1024) :
    k0_pay1 (F := Ideal) x y (ix2 r l) = ∑ k : Fin 2048, x (ix2 k r) * y (ix2 k l) := by
  pointwise [k0_pay1]

/-- The first step leaves its partial product in the scratch block. -/
theorem scratch_first (c : Dev nD) (i : grid0.Coords) (a3 : Memref sig .tc .vmem S2048x1024 .bf16) (h3 : a3.IsWhole) (a4 : Memref sig .tc .vmem S2048x1024 .f32) (h4 : a4.IsWhole)
    (a5 : Memref sig .tc .vmem S1024x1024 .bf16) (h5 : a5.IsWhole) (a6 : Memref sig .tc .vmem S1024x1024 .f32) (h6 : a6.IsWhole)
    (hc0 : cond0_0 i) (hc1 : ¬cond0_1 i) (hc2 : ¬cond0_2 i) (x : Vec Ideal S2048x1024 .bf16) (y : Vec Ideal S2048x1024 .f32) :
    sout0_A_0 (F := Ideal) c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero offset_zero]
  unfold k0_pay2
  simp only [View.readAt_eq_ld, h3.read_unread, h4.read_unread, View.ld_unit_zero (S := S1024x1024) offset_zero, View.ld_unit_zero (S := S2048x1024) offset_zero, shapeCast_self]

/-- A middle step adds its partial product onto the scratch block's contents. -/
theorem scratch_mid (c : Dev nD) (i : grid0.Coords) (a3 : Memref sig .tc .vmem S2048x1024 .bf16) (h3 : a3.IsWhole) (a4 : Memref sig .tc .vmem S2048x1024 .f32) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : ¬cond0_2 i) (x : Vec Ideal S2048x1024 .bf16) (y : Vec Ideal S2048x1024 .f32) (s : Vec Ideal S1024x1024 .f32) :
    sout0_B_0 (F := Ideal) c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero offset_zero]
  simp only [View.readAt_eq_ld, h3.read_unread, h4.read_unread, h6.read_unread, View.ld_unit_zero (S := S1024x1024) offset_zero, View.ld_unit_zero (S := S2048x1024) offset_zero, shapeCast_self]

/-- The last step leaves the scratch block's contents plus its own partial product in the output block. -/
theorem out_last (c : Dev nD) (i : grid0.Coords) (a3 : Memref sig .tc .vmem S2048x1024 .bf16) (h3 : a3.IsWhole) (a4 : Memref sig .tc .vmem S2048x1024 .f32) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : cond0_2 i) (x : Vec Ideal S2048x1024 .bf16) (y : Vec Ideal S2048x1024 .f32) (s : Vec Ideal S1024x1024 .f32) :
    out0_C_2 (F := Ideal) c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero offset_zero, View.readCov_unit_zero (S := S1024x1024) _ offset_zero]
  simp only [View.readAt_eq_ld, h3.read_unread, h4.read_unread, h6.read_unread, View.ld_unit_zero (S := S1024x1024) offset_zero, View.ld_unit_zero (S := S2048x1024) offset_zero, shapeCast_self]

/-- Where the input blocks lie at each point. -/
theorem index_0 : ∀ t : Fin cfg0.N, win0_0.index t (0 : Fin 2) = t.val % 4 ∧ win0_0.index t (1 : Fin 2) = t.val / 8 :=
  (by decide +kernel : ∀ t : Fin grid0.N, _)
theorem index_1 : ∀ t : Fin cfg0.N, win0_1.index t (0 : Fin 2) = t.val % 4 ∧ win0_1.index t (1 : Fin 2) = t.val / 4 % 2 :=
  (by decide +kernel : ∀ t : Fin grid0.N, _)
theorem index_2 : ∀ t : Fin cfg0.N, win0_2.index t (0 : Fin 2) = t.val / 8 ∧ win0_2.index t (1 : Fin 2) = t.val / 4 % 2 :=
  (by decide +kernel : ∀ t : Fin grid0.N, _)

/-- The left block at a point, read from the array. -/
theorem block_0 (c : Dev nD) (t : Fin cfg0.N) (k : Fin 2048) (r : Fin 1024) :
    (iblk m c 0 t : Vec Ideal S2048x1024 .bf16) (ix2 k r)
      = m ((c : Thread nD τ).loc main_arg0) (ix2 (⟨2048 * (t.val % 4) + k.val, by have := k.isLt; have := lt_of_lt_of_eq t.isLt (show cfg0.N = 16 from N_0); omega⟩ : Fin 8192)
          (⟨1024 * (t.val / 8) + r.val, by have := r.isLt; have := lt_of_lt_of_eq t.isLt (show cfg0.N = 16 from N_0); omega⟩ : Fin 2048)) := by
  obtain ⟨e0, e1⟩ := index_0 t
  unfold iblk
  rw [View.read_apply]
  show V m c main_arg0 _ = m (c.tc.loc main_arg0) _
  unfold V
  congr 1
  funext d
  apply Fin.ext
  match d with
  | ⟨0, _⟩ => show win0_0.index t 0 * 2048 + 1 * k.val = 2048 * (t.val % 4) + k.val; rw [e0]; omega
  | ⟨1, _⟩ => show win0_0.index t 1 * 1024 + 1 * r.val = 1024 * (t.val / 8) + r.val; rw [e1]; omega

/-- The right block at a point, read from the array. -/
theorem block_1 (c : Dev nD) (t : Fin cfg0.N) (k : Fin 2048) (l : Fin 1024) :
    (iblk m c 1 t : Vec Ideal S2048x1024 .f32) (ix2 k l)
      = m ((c : Thread nD τ).loc main_arg1) (ix2 (⟨2048 * (t.val % 4) + k.val, by have := k.isLt; have := lt_of_lt_of_eq t.isLt (show cfg0.N = 16 from N_0); omega⟩ : Fin 8192)
          (⟨1024 * (t.val / 4 % 2) + l.val, by have := l.isLt; have := lt_of_lt_of_eq t.isLt (show cfg0.N = 16 from N_0); omega⟩ : Fin 2048)) := by
  obtain ⟨e0, e1⟩ := index_1 t
  unfold iblk
  rw [View.read_apply]
  show V m c main_arg1 _ = m (c.tc.loc main_arg1) _
  unfold V
  congr 1
  funext d
  apply Fin.ext
  match d with
  | ⟨0, _⟩ => show win0_1.index t 0 * 2048 + 1 * k.val = 2048 * (t.val % 4) + k.val; rw [e0]; omega
  | ⟨1, _⟩ => show win0_1.index t 1 * 1024 + 1 * l.val = 1024 * (t.val / 4 % 2) + l.val; rw [e1]; omega

/-- The whole contraction at an index of the result. -/
def entry (A : Vec Ideal S8192x2048 .bf16) (B : Vec Ideal S8192x2048 .f32) (a : Fin 2048) (b : Fin 2048) : EReal :=
  ∑ k : Fin 8192, A (ix2 k a) * B (ix2 k b)

/-- What the output block holds after its last step. -/
theorem out_at (c : Dev nD) (n : ℕ) (hn : 4 * n + 3 < cfg0.N) (r : Fin 1024) (l : Fin 1024) :
    (outsAt0 m c (4 * n + 3) hn).1 (ix2 r l)
      = entry (m ((c : Thread nD τ).loc main_arg0)) (m ((c : Thread nD τ).loc main_arg1))
          ⟨1024 * (n / 2) + r.val, by have := r.isLt; have := lt_of_lt_of_eq hn (show cfg0.N = 16 from N_0); omega⟩
          ⟨1024 * (n % 2) + l.val, by have := l.isLt; omega⟩ := by
  have hN := lt_of_lt_of_eq hn (show cfg0.N = 16 from N_0)
  have h0 : 4 * n < cfg0.N := by omega
  have h1 : 4 * n + 1 < cfg0.N := by omega
  have h2 : 4 * n + 2 < cfg0.N := by omega
  rw [outsAt0_C m c ⟨4 * n + 3, hn⟩ (by dsimp only <;> omega) (by dsimp only <;> omega) (by dsimp only <;> omega)]
  dsimp only
  rw [out_last]
  rw [show outsAt0 m c (4 * n + 3 - 1) (by omega) = outsAt0 m c (4 * n + 2) h2 from rfl,
    outsAt0_B m c ⟨4 * n + 2, h2⟩ (by dsimp only <;> omega) (by dsimp only <;> omega) (by dsimp only <;> omega)]
  dsimp only
  rw [scratch_mid]
  rw [show outsAt0 m c (4 * n + 2 - 1) (by omega) = outsAt0 m c (4 * n + 1) h1 from rfl,
    outsAt0_B m c ⟨4 * n + 1, h1⟩ (by dsimp only <;> omega) (by dsimp only <;> omega) (by dsimp only <;> omega)]
  dsimp only
  rw [scratch_mid]
  rw [show outsAt0 m c (4 * n + 1 - 1) (by omega) = outsAt0 m c (4 * n) h0 from rfl,
    outsAt0_A m c ⟨4 * n, h0⟩ (by dsimp only <;> omega) (by dsimp only <;> omega) (by dsimp only <;> omega)]
  dsimp only
  rw [scratch_first]
  pointwise [k0_pay4, k0_pay3]
  rw [pay1_apply, pay1_apply, pay1_apply, pay1_apply]
  unfold entry
  rw [← sum_four_tiles (n := 2048) rfl]
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)
  · rw [block_0 m c ⟨4 * n, h0⟩ k, block_1 m c ⟨4 * n, h0⟩ k]
    refine congrArg₂ (· * ·) (congrArg _ ?_) (congrArg _ ?_) <;>
      exact congrArg₂ ix2 (Fin.ext (by dsimp only <;> omega)) (Fin.ext (by dsimp only <;> omega))
  · rw [block_0 m c ⟨4 * n + 1, h1⟩ k, block_1 m c ⟨4 * n + 1, h1⟩ k]
    refine congrArg₂ (· * ·) (congrArg _ ?_) (congrArg _ ?_) <;>
      exact congrArg₂ ix2 (Fin.ext (by dsimp only <;> omega)) (Fin.ext (by dsimp only <;> omega))
  · rw [block_0 m c ⟨4 * n + 2, h2⟩ k, block_1 m c ⟨4 * n + 2, h2⟩ k]
    refine congrArg₂ (· * ·) (congrArg _ ?_) (congrArg _ ?_) <;>
      exact congrArg₂ ix2 (Fin.ext (by dsimp only <;> omega)) (Fin.ext (by dsimp only <;> omega))
  · rw [block_0 m c ⟨4 * n + 3, hn⟩ k, block_1 m c ⟨4 * n + 3, hn⟩ k]
    refine congrArg₂ (· * ·) (congrArg _ ?_) (congrArg _ ?_) <;>
      exact congrArg₂ ix2 (Fin.ext (by dsimp only <;> omega)) (Fin.ext (by dsimp only <;> omega))

/-- The result array after the run. -/
theorem final (c : Dev nD) : (dats m 0 c).arrAt 2 cfg0.N
    = fun i => entry (m ((c : Thread nD τ).loc main_arg0)) (m ((c : Thread nD τ).loc main_arg1)) (i 0) (i 1) := by
  refine (dats m 0 c).arrAt_eq_of_covers 2 _ (by decide +kernel) fun t hf y => ?_
  obtain ⟨t, ht⟩ := t
  have h1 : t % 4 = 3 := (flush0_2 ⟨t, ht⟩).mp hf
  obtain ⟨n, rfl⟩ : ∃ n, t = 4 * n + 3 := ⟨t / 4, by omega⟩
  obtain ⟨e0, e1⟩ := index_2 ⟨4 * n + 3, ht⟩
  dsimp only at e0 e1
  rw [after0_2]
  obtain ⟨r, l, rfl⟩ : ∃ (r : Fin 1024) (l : Fin 1024), y = ix2 r l := ⟨y 0, y 1, eq_ix2 y⟩
  blk_simp
  refine (out_at m c n ht r l).trans ?_
  refine congrArg₂ (entry _ _) (Fin.ext ?_) (Fin.ext ?_)
  · blk_simp [e0]; dsimp only <;> omega
  · blk_simp [e1]; dsimp only <;> omega

/-- The kernel's result is the reference's. -/
theorem algebraic : Cert.algebraic_DwOutIdeal_DwOutRefIdeal := by
  pair_intro
  · run_from run_blocks m g
  · run_from Cert.DwOutRefIdeal.Value.run m' g'
    rw [final m c]
    refine (Cert.DwOutRefIdeal.Read.val_main_v5_eq (F := Ideal) (m (c.tc.loc main_arg0)) (m (c.tc.loc main_arg1))).trans ?_
    funext j
    refine (Cert.DwOutRefIdeal.Read.val_main_v4_apply _ _ _).trans ((Cert.DwOutRefIdeal.Read.val_main_v3_apply _ _ _).trans ?_)
    refine Finset.sum_congr rfl fun k _ => (mul_comm _ _).trans ?_
    exact congrArg₂ (· * ·) (congrArg _ (eq_ix2 _)) (congrArg _ (eq_ix2 _))

/-- The reference terminates. -/
theorem frame_reference : Cert.quiescent_DwOutRefIdeal := fun m g _ =>
  (θ_run _ _ _).mono (fun r h => ⟨fun c => (h c).2, sem_eq_zero_of_no_sems (by decide) r.2⟩) (Cert.DwOutRefIdeal.Value.run m g)

end Cert.DwOutIdeal.Weights
-- ==== Proof.OutRows.lean ====
/-
  The row gradient of the output projection (`out_proj_dy`): one step per block of 512 rows. The reference is the
  derivative of the plain product. Both are `∑ k, dx (a, k) * w (b, k)`.
-/
module

public import proofs.«01_k».proof.Proof.Products
public import proofs.«01_k».proof.Defs
public import Idealize.ShloMosaic.Lib.Pipeline.ValueKit
public import proofs.«01_k».proof.Proof.Gen.DyOutIdeal.Value
public import proofs.«01_k».proof.Proof.Gen.DyOutRefIdeal.Run
public import proofs.«01_k».proof.Proof.Gen.DyOutRefIdeal.Read

@[expose] public section

set_option maxRecDepth 16384

noncomputable section

open Idealize.ShloMosaic Idealize.ShloMosaic.TcCoe Idealize.SL.Sem

namespace Cert.DyOutIdeal.Weights

open Cert.DyOutIdeal Cert.DyOutIdeal.Gen Cert.DyOutIdeal.Value Cert.Products

variable (m : (ℓ : Loc nD τ sig) → Buf (Elt Ideal) ℓ)

/-- One step's partial product, at an index. -/
theorem pay1_apply (x : Vec Ideal S512x2048 .f32) (y : Vec Ideal S2048x2048 .bf16) (r : Fin 512) (l : Fin 2048) :
    k0_pay1 (F := Ideal) x y (ix2 r l) = ∑ k : Fin 2048, x (ix2 r k) * y (ix2 l k) := by
  pointwise [k0_pay1]

/-- The single step leaves its product in the output block. -/
theorem out_last (c : Dev nD) (i : grid0.Coords) (a3 : Memref sig .tc .vmem S512x2048 .f32) (h3 : a3.IsWhole) (a4 : Memref sig .tc .vmem S2048x2048 .bf16) (h4 : a4.IsWhole)
    (a5 : Memref sig .tc .vmem S512x2048 .f32) (h5 : a5.IsWhole) (a6 : Memref sig .tc .vmem S512x2048 .f32) (h6 : a6.IsWhole)
    (hc0 : cond0_0 i) (hc1 : ¬cond0_1 i) (hc2 : cond0_2 i) (x : Vec Ideal S512x2048 .f32) (y : Vec Ideal S2048x2048 .bf16) :
    out0_A_2 (F := Ideal) c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero offset_zero, View.readCov_unit_zero (S := S512x2048) _ offset_zero]
  unfold k0_pay2
  simp only [View.readAt_eq_ld, h3.read_unread, h4.read_unread, View.ld_unit_zero (S := S2048x2048) offset_zero, View.ld_unit_zero (S := S512x2048) offset_zero, shapeCast_self]

/-- Where the input blocks lie at each point. -/
theorem index_0 : ∀ t : Fin cfg0.N, win0_0.index t (0 : Fin 2) = t.val / 1 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val / 1 ∧ win0_2.index t (1 : Fin 2) = 0 :=
  (by decide +kernel : ∀ t : Fin grid0.N, _)

/-- The left block at a point, read from the array. -/
theorem block_0 (c : Dev nD) (t : Fin cfg0.N) (r : Fin 512) (k : Fin 2048) :
    (iblk m c 0 t : Vec Ideal S512x2048 .f32) (ix2 r k)
      = m ((c : Thread nD τ).loc main_arg0) (ix2 (⟨512 * (t.val / 1) + r.val, by have := r.isLt; have := lt_of_lt_of_eq t.isLt (show cfg0.N = 16 from N_0); omega⟩ : Fin 8192)
          (⟨2048 * (0) + k.val, by have := k.isLt; have := lt_of_lt_of_eq t.isLt (show cfg0.N = 16 from N_0); omega⟩ : Fin 2048)) := by
  obtain ⟨e0, e1⟩ := index_0 t
  unfold iblk
  rw [View.read_apply]
  show V m c main_arg0 _ = m (c.tc.loc main_arg0) _
  unfold V
  congr 1
  funext d
  apply Fin.ext
  match d with
  | ⟨0, _⟩ => show win0_0.index t 0 * 512 + 1 * r.val = 512 * (t.val / 1) + r.val; rw [e0]; omega
  | ⟨1, _⟩ => show win0_0.index t 1 * 2048 + 1 * k.val = 2048 * (0) + k.val; rw [e1]; omega

/-- The right block at a point, read from the array. -/
theorem block_1 (c : Dev nD) (t : Fin cfg0.N) (l : Fin 2048) (k : Fin 2048) :
    (iblk m c 1 t : Vec Ideal S2048x2048 .bf16) (ix2 l k)
      = m ((c : Thread nD τ).loc main_arg1) (ix2 (⟨2048 * (0) + l.val, by have := l.isLt; have := lt_of_lt_of_eq t.isLt (show cfg0.N = 16 from N_0); omega⟩ : Fin 2048)
          (⟨2048 * (0) + k.val, by have := k.isLt; have := lt_of_lt_of_eq t.isLt (show cfg0.N = 16 from N_0); omega⟩ : Fin 2048)) := by
  obtain ⟨e0, e1⟩ := index_1 t
  unfold iblk
  rw [View.read_apply]
  show V m c main_arg1 _ = m (c.tc.loc main_arg1) _
  unfold V
  congr 1
  funext d
  apply Fin.ext
  match d with
  | ⟨0, _⟩ => show win0_1.index t 0 * 2048 + 1 * l.val = 2048 * (0) + l.val; rw [e0]; omega
  | ⟨1, _⟩ => show win0_1.index t 1 * 2048 + 1 * k.val = 2048 * (0) + k.val; rw [e1]; omega

/-- The whole contraction at an index of the result. -/
def entry (A : Vec Ideal S8192x2048 .f32) (B : Vec Ideal S2048x2048 .bf16) (a : Fin 8192) (b : Fin 2048) : EReal :=
  ∑ k : Fin 2048, A (ix2 a k) * B (ix2 b k)

/-- What the output block holds after its last step. -/
theorem out_at (c : Dev nD) (n : ℕ) (hn : n < cfg0.N) (r : Fin 512) (l : Fin 2048) :
    (outsAt0 m c ⟨n, hn⟩) (ix2 r l)
      = entry (m ((c : Thread nD τ).loc main_arg0)) (m ((c : Thread nD τ).loc main_arg1))
          ⟨512 * (n) + r.val, by have := r.isLt; have := lt_of_lt_of_eq hn (show cfg0.N = 16 from N_0); omega⟩
          ⟨2048 * (0) + l.val, by have := l.isLt; omega⟩ := by
  have hN := lt_of_lt_of_eq hn (show cfg0.N = 16 from N_0)
  unfold outsAt0
  rw [out_last]
  rw [pay1_apply]
  unfold entry
  refine Finset.sum_congr rfl fun k _ => ?_
  rw [block_0 m c ⟨n, hn⟩ r, block_1 m c ⟨n, hn⟩ l]
  refine congrArg₂ (· * ·) (congrArg _ ?_) (congrArg _ ?_) <;>
    exact congrArg₂ ix2 (Fin.ext (by dsimp only <;> omega)) (Fin.ext (by dsimp only <;> omega))

/-- The result array after the run. -/
theorem final (c : Dev nD) : (dats m 0 c).arrAt 2 cfg0.N
    = fun i => entry (m ((c : Thread nD τ).loc main_arg0)) (m ((c : Thread nD τ).loc main_arg1)) (i 0) (i 1) := by
  refine (dats m 0 c).arrAt_eq_of_covers 2 _ (by decide +kernel) fun t hf y => ?_
  obtain ⟨t, ht⟩ := t
  obtain ⟨e0, e1⟩ := index_2 ⟨t, ht⟩
  dsimp only at e0 e1
  rw [after0_2]
  obtain ⟨r, l, rfl⟩ : ∃ (r : Fin 512) (l : Fin 2048), y = ix2 r l := ⟨y 0, y 1, eq_ix2 y⟩
  blk_simp
  refine (out_at m c t ht r l).trans ?_
  refine congrArg₂ (entry _ _) (Fin.ext ?_) (Fin.ext ?_)
  · blk_simp [e0]; dsimp only <;> omega
  · blk_simp [e1]; dsimp only <;> omega

/-- The kernel's result is the reference's. -/
theorem algebraic : Cert.algebraic_DyOutIdeal_DyOutRefIdeal := by
  pair_intro
  · run_from run_blocks m g
  · run_from Cert.DyOutRefIdeal.Value.run m' g'
    rw [final m c]
    refine (Cert.DyOutRefIdeal.Read.val_main_v3_eq (F := Ideal) (m (c.tc.loc main_arg0)) (m (c.tc.loc main_arg1))).trans ?_
    funext j
    refine (Cert.DyOutRefIdeal.Read.val_main_v3_apply _ _ _).trans ?_
    refine Finset.sum_congr rfl fun k _ => ?_
    exact congrArg₂ (· * ·) (congrArg _ (eq_ix2 _)) (congrArg _ (eq_ix2 _))

/-- The reference terminates. -/
theorem frame_reference : Cert.quiescent_DyOutRefIdeal := fun m g _ =>
  (θ_run _ _ _).mono (fun r h => ⟨fun c => (h c).2, sem_eq_zero_of_no_sems (by decide) r.2⟩) (Cert.DyOutRefIdeal.Value.run m g)

end Cert.DyOutIdeal.Weights
-- ==== Proof.In.lean ====
/-
  The input projection of the forward pass (`in_proj`): the whole contraction in one step per block of 1024 by 1024. Kernel
  and plain product are `∑ k, h (a, k) * w (k, b)`.
-/
module

public import proofs.«01_k».proof.Proof.Products
public import proofs.«01_k».proof.Defs
public import Idealize.ShloMosaic.Lib.Pipeline.ValueKit
public import proofs.«01_k».proof.Proof.Gen.MInIdeal.Value
public import proofs.«01_k».proof.Proof.Gen.MInRefIdeal.Run
public import proofs.«01_k».proof.Proof.Gen.MInRefIdeal.Read

@[expose] public section

set_option maxRecDepth 16384

noncomputable section

open Idealize.ShloMosaic Idealize.ShloMosaic.TcCoe Idealize.SL.Sem

namespace Cert.MInIdeal.Weights

open Cert.MInIdeal Cert.MInIdeal.Gen Cert.MInIdeal.Value Cert.Products

variable (m : (ℓ : Loc nD τ sig) → Buf (Elt Ideal) ℓ)

/-- One step's partial product, at an index. -/
theorem pay1_apply (x : Vec Ideal S1024x2048 .bf16) (y : Vec Ideal S2048x1024 .bf16) (r : Fin 1024) (l : Fin 1024) :
    k0_pay1 (F := Ideal) x y (ix2 r l) = ∑ k : Fin 2048, x (ix2 r k) * y (ix2 k l) := by
  pointwise [k0_pay1]

/-- The single step leaves its product in the output block. -/
theorem out_last (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole)
    (hc0 : cond0_0 i) (hc1 : ¬cond0_1 i) (hc2 : cond0_2 i) (x : Vec Ideal S1024x2048 .bf16) (y : Vec Ideal S2048x1024 .bf16) :
    out0_A_2 (F := Ideal) c i a3 h3 a4 h4 a5 h5 a6 h6 hc0 hc1 hc2 x y = k0_pay1 x y := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero offset_zero, View.readCov_unit_zero (S := S1024x1024) _ offset_zero]
  unfold k0_pay2
  simp only [View.readAt_eq_ld, h3.read_unread, h4.read_unread, View.ld_unit_zero (S := S1024x1024) offset_zero, View.ld_unit_zero (S := S1024x2048) offset_zero, View.ld_unit_zero (S := S2048x1024) offset_zero, shapeCast_self]

/-- Where the input blocks lie at each point. -/
theorem index_0 : ∀ t : Fin cfg0.N, win0_0.index t (0 : Fin 2) = t.val / 8 ∧ win0_0.index t (1 : Fin 2) = 0 :=
  (by decide +kernel : ∀ t : Fin grid0.N, _)
theorem index_1 : ∀ t : Fin cfg0.N, win0_1.index t (0 : Fin 2) = 0 ∧ win0_1.index t (1 : Fin 2) = t.val % 8 :=
  (by decide +kernel : ∀ t : Fin grid0.N, _)
theorem index_2 : ∀ t : Fin cfg0.N, win0_2.index t (0 : Fin 2) = t.val / 8 ∧ win0_2.index t (1 : Fin 2) = t.val % 8 :=
  (by decide +kernel : ∀ t : Fin grid0.N, _)

/-- The left block at a point, read from the array. -/
theorem block_0 (c : Dev nD) (t : Fin cfg0.N) (r : Fin 1024) (k : Fin 2048) :
    (iblk m c 0 t : Vec Ideal S1024x2048 .bf16) (ix2 r k)
      = m ((c : Thread nD τ).loc main_arg0) (ix2 (⟨1024 * (t.val / 8) + r.val, by have := r.isLt; have := lt_of_lt_of_eq t.isLt (show cfg0.N = 64 from N_0); omega⟩ : Fin 8192)
          (⟨2048 * (0) + k.val, by have := k.isLt; have := lt_of_lt_of_eq t.isLt (show cfg0.N = 64 from N_0); omega⟩ : Fin 2048)) := by
  obtain ⟨e0, e1⟩ := index_0 t
  unfold iblk
  rw [View.read_apply]
  show V m c main_arg0 _ = m (c.tc.loc main_arg0) _
  unfold V
  congr 1
  funext d
  apply Fin.ext
  match d with
  | ⟨0, _⟩ => show win0_0.index t 0 * 1024 + 1 * r.val = 1024 * (t.val / 8) + r.val; rw [e0]; omega
  | ⟨1, _⟩ => show win0_0.index t 1 * 2048 + 1 * k.val = 2048 * (0) + k.val; rw [e1]; omega

/-- The right block at a point, read from the array. -/
theorem block_1 (c : Dev nD) (t : Fin cfg0.N) (k : Fin 2048) (l : Fin 1024) :
    (iblk m c 1 t : Vec Ideal S2048x1024 .bf16) (ix2 k l)
      = m ((c : Thread nD τ).loc main_arg1) (ix2 (⟨2048 * (0) + k.val, by have := k.isLt; have := lt_of_lt_of_eq t.isLt (show cfg0.N = 64 from N_0); omega⟩ : Fin 2048)
          (⟨1024 * (t.val % 8) + l.val, by have := l.isLt; have := lt_of_lt_of_eq t.isLt (show cfg0.N = 64 from N_0); omega⟩ : Fin 8192)) := by
  obtain ⟨e0, e1⟩ := index_1 t
  unfold iblk
  rw [View.read_apply]
  show V m c main_arg1 _ = m (c.tc.loc main_arg1) _
  unfold V
  congr 1
  funext d
  apply Fin.ext
  match d with
  | ⟨0, _⟩ => show win0_1.index t 0 * 2048 + 1 * k.val = 2048 * (0) + k.val; rw [e0]; omega
  | ⟨1, _⟩ => show win0_1.index t 1 * 1024 + 1 * l.val = 1024 * (t.val % 8) + l.val; rw [e1]; omega

/-- The whole contraction at an index of the result. -/
def entry (A : Vec Ideal S8192x2048 .bf16) (B : Vec Ideal S2048x8192 .bf16) (a : Fin 8192) (b : Fin 8192) : EReal :=
  ∑ k : Fin 2048, A (ix2 a k) * B (ix2 k b)

/-- What the output block holds after its last step. -/
theorem out_at (c : Dev nD) (n : ℕ) (hn : n < cfg0.N) (r : Fin 1024) (l : Fin 1024) :
    (outsAt0 m c ⟨n, hn⟩) (ix2 r l)
      = entry (m ((c : Thread nD τ).loc main_arg0)) (m ((c : Thread nD τ).loc main_arg1))
          ⟨1024 * (n / 8) + r.val, by have := r.isLt; have := lt_of_lt_of_eq hn (show cfg0.N = 64 from N_0); omega⟩
          ⟨1024 * (n % 8) + l.val, by have := l.isLt; omega⟩ := by
  have hN := lt_of_lt_of_eq hn (show cfg0.N = 64 from N_0)
  unfold outsAt0
  rw [out_last]
  rw [pay1_apply]
  unfold entry
  refine Finset.sum_congr rfl fun k _ => ?_
  rw [block_0 m c ⟨n, hn⟩ r, block_1 m c ⟨n, hn⟩ k]
  refine congrArg₂ (· * ·) (congrArg _ ?_) (congrArg _ ?_) <;>
    exact congrArg₂ ix2 (Fin.ext (by dsimp only <;> omega)) (Fin.ext (by dsimp only <;> omega))

/-- The result array after the run. -/
theorem final (c : Dev nD) : (dats m 0 c).arrAt 2 cfg0.N
    = fun i => entry (m ((c : Thread nD τ).loc main_arg0)) (m ((c : Thread nD τ).loc main_arg1)) (i 0) (i 1) := by
  refine (dats m 0 c).arrAt_eq_of_covers 2 _ (by decide +kernel) fun t hf y => ?_
  obtain ⟨t, ht⟩ := t
  obtain ⟨e0, e1⟩ := index_2 ⟨t, ht⟩
  dsimp only at e0 e1
  rw [after0_2]
  obtain ⟨r, l, rfl⟩ : ∃ (r : Fin 1024) (l : Fin 1024), y = ix2 r l := ⟨y 0, y 1, eq_ix2 y⟩
  blk_simp
  refine (out_at m c t ht r l).trans ?_
  refine congrArg₂ (entry _ _) (Fin.ext ?_) (Fin.ext ?_)
  · blk_simp [e0]; dsimp only <;> omega
  · blk_simp [e1]; dsimp only <;> omega

/-- The kernel's result is the reference's. -/
theorem algebraic : Cert.algebraic_MInIdeal_MInRefIdeal := by
  pair_intro
  · run_from run_blocks m g
  · run_from Cert.MInRefIdeal.Value.run m' g'
    rw [final m c]
    refine (Cert.MInRefIdeal.Read.val_main_v2_eq (F := Ideal) (m (c.tc.loc main_arg0)) (m (c.tc.loc main_arg1))).trans ?_
    funext j
    refine (Cert.MInRefIdeal.Read.val_main_v2_apply _ _ _).trans ?_
    refine Finset.sum_congr rfl fun k _ => ?_
    exact congrArg₂ (· * ·) (congrArg _ (eq_ix2 _)) (congrArg _ (eq_ix2 _))

/-- The reference terminates. -/
theorem frame_reference : Cert.quiescent_MInRefIdeal := fun m g _ =>
  (θ_run _ _ _).mono (fun r h => ⟨fun c => (h c).2, sem_eq_zero_of_no_sems (by decide) r.2⟩) (Cert.MInRefIdeal.Value.run m g)

end Cert.MInIdeal.Weights
-- ==== Proof.Out.lean ====
/-
  The output projection of the forward pass (`out_proj`): the whole contraction in one step per block of 512 rows, and the
  layer's input added. Kernel and reference are `x (a, b) + ∑ k, y (a, k) * w (k, b)`.
-/
module

public import proofs.«01_k».proof.Defs
public import Idealize.ShloMosaic.Lib.Pipeline.ValueKit
public import proofs.«01_k».proof.Proof.Gen.MOutIdeal.Value
public import proofs.«01_k».proof.Proof.Gen.MOutRefIdeal.Run
public import proofs.«01_k».proof.Proof.Gen.MOutRefIdeal.Read

@[expose] public section

set_option maxRecDepth 16384

noncomputable section

open Idealize.ShloMosaic Idealize.ShloMosaic.TcCoe Idealize.SL.Sem

namespace Cert.MOutIdeal.Weights

open Cert.MOutIdeal Cert.MOutIdeal.Gen Cert.MOutIdeal.Value Cert.MOutRefIdeal.Read

variable (m : (ℓ : Loc nD τ sig) → Buf (Elt Ideal) ℓ)

/-- Where the blocks lie at each point. -/
theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)

/-- The row of the whole array at row `r` of point `t`. -/
def row (t : Fin cfg0.N) (r : Fin 512) : Fin 8192 :=
  ⟨512 * t.val + r.val, by have := r.isLt; have := lt_of_lt_of_eq t.isLt (show cfg0.N = 16 from N_0); omega⟩

/-- The input blocks at a point. -/
theorem block_0 (c : Dev nD) (t : Fin cfg0.N) (r : Fin 512) (k : Fin 2048) :
    (iblk m c 0 t : Vec Ideal S512x2048 .bf16) (ix2 r k) = m ((c : Thread nD τ).loc main_arg0) (ix2 (row t r) k) := by
  obtain ⟨e0, e1⟩ := index_0 t
  blk_ext [iblk, V, e0, e1, row]
theorem block_1 (c : Dev nD) (t : Fin cfg0.N) :
    (iblk m c 1 t : Vec Ideal S2048x2048 .bf16) = m ((c : Thread nD τ).loc main_arg1) := by
  funext j
  obtain ⟨e0, e1⟩ := index_1 t
  blk_ext [iblk, V, e0, e1]
theorem block_2 (c : Dev nD) (t : Fin cfg0.N) (r : Fin 512) (k : Fin 2048) :
    (iblk m c 2 t : Vec Ideal S512x2048 .f32) (ix2 r k) = m ((c : Thread nD τ).loc main_arg2) (ix2 (row t r) k) := by
  obtain ⟨e0, e1⟩ := index_2 t
  blk_ext [iblk, V, e0, e1, row]

/-- One step, at an index. -/
theorem step (x : Vec Ideal S512x2048 .bf16) (y : Vec Ideal S2048x2048 .bf16) (z : Vec Ideal S512x2048 .f32) (r : Fin 512) (l : Fin 2048) :
    k0_pay4 (F := Ideal) (k0_pay2 x y) z (ix2 r l) = (∑ k : Fin 2048, x (ix2 r k) * y (ix2 k l)) + z (ix2 r l) := by
  pointwise [k0_pay4, k0_pay2, k0_pay1]

/-- What a point leaves in the output block. -/
theorem out_3 (c : Dev nD) (t : Fin cfg0.N) (r : Fin 512) (l : Fin 2048) : outsAt0 m c t (ix2 r l)
    = val_main_v3 (F := Ideal) (m ((c : Thread nD τ).loc main_arg0)) (m ((c : Thread nD τ).loc main_arg1)) (m ((c : Thread nD τ).loc main_arg2)) (ix2 (row t r) l) := by
  unfold outsAt0
  frame_out
  rw [block_1]
  refine (step _ _ _ r l).trans ((add_comm _ _).trans ?_)
  refine Eq.symm ((val_main_v3_apply _ _ _ _).trans ?_)
  refine congrArg₂ (· + ·) (block_2 m c t r l).symm ((val_main_v2_apply _ _ _).trans (Finset.sum_congr rfl fun k _ => ?_))
  rw [block_0 m c t r k]
  exact congrArg₂ (· * ·) (congrArg _ (eq_ix2 _)) (congrArg _ (eq_ix2 _))

/-- The result array after the run. -/
theorem final (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1⟩ := index_3 t
  rw [after0_3]
  obtain ⟨r, l, rfl⟩ : ∃ (r : Fin 512) (l : Fin 2048), y = ix2 r l := ⟨y 0, y 1, eq_ix2 y⟩
  blk_simp
  refine (out_3 m c t r l).trans ?_
  blk_ext [e0, e1, row]

/-- The kernel's result is the reference's. -/
theorem algebraic : Cert.algebraic_MOutIdeal_MOutRefIdeal := by
  pair_intro
  · run_from run_blocks m g
  · run_from Cert.MOutRefIdeal.Value.run m' g'
    rw [final m c]
    exact val_main_v3_eq _ _ _

/-- The reference terminates. -/
theorem frame_reference : Cert.quiescent_MOutRefIdeal := fun m g _ =>
  (θ_run _ _ _).mono (fun r h => ⟨fun c => (h c).2, sem_eq_zero_of_no_sems (by decide) r.2⟩) (Cert.MOutRefIdeal.Value.run m g)

end Cert.MOutIdeal.Weights
-- ==== Proof.Adam.lean ====
/-
  The optimiser (`adam`), at the shape of each weight's rows on one device. Kernel and reference apply the same formula to
  each element; the kernel's runs and the reference's are generated in closed form, and the two forms are the same.
-/
module

public import proofs.«01_k».proof.Defs
public import Idealize.ShloMosaic.Lib.Pipeline.ValueKit
public import proofs.«01_k».proof.Proof.Gen.AWInIdeal.Value
public import proofs.«01_k».proof.Proof.Gen.AWInRefIdeal.Run
public import proofs.«01_k».proof.Proof.Gen.AWInRefIdeal.Read
public import proofs.«01_k».proof.Proof.Gen.AWOutIdeal.Value
public import proofs.«01_k».proof.Proof.Gen.AWOutRefIdeal.Run
public import proofs.«01_k».proof.Proof.Gen.AWOutRefIdeal.Read
public import proofs.«01_k».proof.Proof.Gen.ANormIdeal.Value
public import proofs.«01_k».proof.Proof.Gen.ANormRefIdeal.Run
public import proofs.«01_k».proof.Proof.Gen.ANormRefIdeal.Read
public import proofs.«01_k».proof.Proof.Gen.AShortIdeal.Value
public import proofs.«01_k».proof.Proof.Gen.AShortRefIdeal.Run
public import proofs.«01_k».proof.Proof.Gen.AShortRefIdeal.Read
public import proofs.«01_k».proof.Proof.Gen.AHeadIdeal.Value
public import proofs.«01_k».proof.Proof.Gen.AHeadRefIdeal.Run
public import proofs.«01_k».proof.Proof.Gen.AHeadRefIdeal.Read
public import proofs.«01_k».proof.Proof.Gen.AGdnIdeal.Value
public import proofs.«01_k».proof.Proof.Gen.AGdnRefIdeal.Run
public import proofs.«01_k».proof.Proof.Gen.AGdnRefIdeal.Read
public import proofs.«01_k».proof.Proof.Gen.ADwIdeal.Value
public import proofs.«01_k».proof.Proof.Gen.ADwRefIdeal.Run
public import proofs.«01_k».proof.Proof.Gen.ADwRefIdeal.Read
public import proofs.«01_k».proof.Proof.Gen.ALnIdeal.Value
public import proofs.«01_k».proof.Proof.Gen.ALnRefIdeal.Run
public import proofs.«01_k».proof.Proof.Gen.ALnRefIdeal.Read
public import proofs.«01_k».proof.Proof.Gen.APwIdeal.Value
public import proofs.«01_k».proof.Proof.Gen.APwRefIdeal.Run
public import proofs.«01_k».proof.Proof.Gen.APwRefIdeal.Read
public import proofs.«01_k».proof.Proof.Gen.AFinalIdeal.Value
public import proofs.«01_k».proof.Proof.Gen.AFinalRefIdeal.Run
public import proofs.«01_k».proof.Proof.Gen.AFinalRefIdeal.Read

@[expose] public section

set_option maxRecDepth 16384

noncomputable section

open Idealize.ShloMosaic Idealize.ShloMosaic.TcCoe Idealize.SL.Sem

namespace Cert.AWInIdeal.Step

/-- The kernel's three arrays are the reference's. -/
theorem algebraic : Cert.algebraic_AWInIdeal_AWInRefIdeal := by
  pair_intro
  · run_from Cert.AWInIdeal.Value.run m g
  · run_from Cert.AWInRefIdeal.Value.run m' g'
    all_goals rfl

/-- The reference terminates. -/
theorem frame_reference : Cert.quiescent_AWInRefIdeal := fun m g _ =>
  (θ_run _ _ _).mono (fun r h => ⟨fun c => (h c).2.2.2, sem_eq_zero_of_no_sems (by decide) r.2⟩) (Cert.AWInRefIdeal.Value.run m g)

end Cert.AWInIdeal.Step

namespace Cert.AWOutIdeal.Step

/-- The kernel's three arrays are the reference's. -/
theorem algebraic : Cert.algebraic_AWOutIdeal_AWOutRefIdeal := by
  pair_intro
  · run_from Cert.AWOutIdeal.Value.run m g
  · run_from Cert.AWOutRefIdeal.Value.run m' g'
    all_goals rfl

/-- The reference terminates. -/
theorem frame_reference : Cert.quiescent_AWOutRefIdeal := fun m g _ =>
  (θ_run _ _ _).mono (fun r h => ⟨fun c => (h c).2.2.2, sem_eq_zero_of_no_sems (by decide) r.2⟩) (Cert.AWOutRefIdeal.Value.run m g)

end Cert.AWOutIdeal.Step

namespace Cert.ANormIdeal.Step

/-- The kernel's three arrays are the reference's. -/
theorem algebraic : Cert.algebraic_ANormIdeal_ANormRefIdeal := by
  pair_intro
  · run_from Cert.ANormIdeal.Value.run m g
  · run_from Cert.ANormRefIdeal.Value.run m' g'
    all_goals rfl

/-- The reference terminates. -/
theorem frame_reference : Cert.quiescent_ANormRefIdeal := fun m g _ =>
  (θ_run _ _ _).mono (fun r h => ⟨fun c => (h c).2.2.2, sem_eq_zero_of_no_sems (by decide) r.2⟩) (Cert.ANormRefIdeal.Value.run m g)

end Cert.ANormIdeal.Step

namespace Cert.AShortIdeal.Step

/-- The kernel's three arrays are the reference's. -/
theorem algebraic : Cert.algebraic_AShortIdeal_AShortRefIdeal := by
  pair_intro
  · run_from Cert.AShortIdeal.Value.run m g
  · run_from Cert.AShortRefIdeal.Value.run m' g'
    all_goals rfl

/-- The reference terminates. -/
theorem frame_reference : Cert.quiescent_AShortRefIdeal := fun m g _ =>
  (θ_run _ _ _).mono (fun r h => ⟨fun c => (h c).2.2.2, sem_eq_zero_of_no_sems (by decide) r.2⟩) (Cert.AShortRefIdeal.Value.run m g)

end Cert.AShortIdeal.Step

namespace Cert.AHeadIdeal.Step

/-- The kernel's three arrays are the reference's. -/
theorem algebraic : Cert.algebraic_AHeadIdeal_AHeadRefIdeal := by
  pair_intro
  · run_from Cert.AHeadIdeal.Value.run m g
  · run_from Cert.AHeadRefIdeal.Value.run m' g'
    all_goals rfl

/-- The reference terminates. -/
theorem frame_reference : Cert.quiescent_AHeadRefIdeal := fun m g _ =>
  (θ_run _ _ _).mono (fun r h => ⟨fun c => (h c).2.2.2, sem_eq_zero_of_no_sems (by decide) r.2⟩) (Cert.AHeadRefIdeal.Value.run m g)

end Cert.AHeadIdeal.Step

namespace Cert.AGdnIdeal.Step

/-- The kernel's three arrays are the reference's. -/
theorem algebraic : Cert.algebraic_AGdnIdeal_AGdnRefIdeal := by
  pair_intro
  · run_from Cert.AGdnIdeal.Value.run m g
  · run_from Cert.AGdnRefIdeal.Value.run m' g'
    all_goals rfl

/-- The reference terminates. -/
theorem frame_reference : Cert.quiescent_AGdnRefIdeal := fun m g _ =>
  (θ_run _ _ _).mono (fun r h => ⟨fun c => (h c).2.2.2, sem_eq_zero_of_no_sems (by decide) r.2⟩) (Cert.AGdnRefIdeal.Value.run m g)

end Cert.AGdnIdeal.Step

namespace Cert.ADwIdeal.Step

/-- The kernel's three arrays are the reference's. -/
theorem algebraic : Cert.algebraic_ADwIdeal_ADwRefIdeal := by
  pair_intro
  · run_from Cert.ADwIdeal.Value.run m g
  · run_from Cert.ADwRefIdeal.Value.run m' g'
    all_goals rfl

/-- The reference terminates. -/
theorem frame_reference : Cert.quiescent_ADwRefIdeal := fun m g _ =>
  (θ_run _ _ _).mono (fun r h => ⟨fun c => (h c).2.2.2, sem_eq_zero_of_no_sems (by decide) r.2⟩) (Cert.ADwRefIdeal.Value.run m g)

end Cert.ADwIdeal.Step

namespace Cert.ALnIdeal.Step

/-- The kernel's three arrays are the reference's. -/
theorem algebraic : Cert.algebraic_ALnIdeal_ALnRefIdeal := by
  pair_intro
  · run_from Cert.ALnIdeal.Value.run m g
  · run_from Cert.ALnRefIdeal.Value.run m' g'
    all_goals rfl

/-- The reference terminates. -/
theorem frame_reference : Cert.quiescent_ALnRefIdeal := fun m g _ =>
  (θ_run _ _ _).mono (fun r h => ⟨fun c => (h c).2.2.2, sem_eq_zero_of_no_sems (by decide) r.2⟩) (Cert.ALnRefIdeal.Value.run m g)

end Cert.ALnIdeal.Step

namespace Cert.APwIdeal.Step

/-- The kernel's three arrays are the reference's. -/
theorem algebraic : Cert.algebraic_APwIdeal_APwRefIdeal := by
  pair_intro
  · run_from Cert.APwIdeal.Value.run m g
  · run_from Cert.APwRefIdeal.Value.run m' g'
    all_goals rfl

/-- The reference terminates. -/
theorem frame_reference : Cert.quiescent_APwRefIdeal := fun m g _ =>
  (θ_run _ _ _).mono (fun r h => ⟨fun c => (h c).2.2.2, sem_eq_zero_of_no_sems (by decide) r.2⟩) (Cert.APwRefIdeal.Value.run m g)

end Cert.APwIdeal.Step

namespace Cert.AFinalIdeal.Step

/-- The kernel's three arrays are the reference's. -/
theorem algebraic : Cert.algebraic_AFinalIdeal_AFinalRefIdeal := by
  pair_intro
  · run_from Cert.AFinalIdeal.Value.run m g
  · run_from Cert.AFinalRefIdeal.Value.run m' g'
    all_goals rfl

/-- The reference terminates. -/
theorem frame_reference : Cert.quiescent_AFinalRefIdeal := fun m g _ =>
  (θ_run _ _ _).mono (fun r h => ⟨fun c => (h c).2.2.2, sem_eq_zero_of_no_sems (by decide) r.2⟩) (Cert.AFinalRefIdeal.Value.run m g)

end Cert.AFinalIdeal.Step
-- ==== Proof.Rms.lean ====
/-
  The RMS norms: the forward norm rounded for the projections (`rms_fwd`), and the backward pass of the norm with the
  residual stream added (`rms_bwd`), whose sum over the rows the kernel builds 256 rows at a time.
-/
module

public import proofs.«01_k».proof.Defs
public import Idealize.ShloMosaic.Lib.Pipeline.ValueKit
public import proofs.«01_k».proof.Proof.Products
public import proofs.«01_k».proof.Proof.Gen.RmsFIdeal.Value
public import proofs.«01_k».proof.Proof.Gen.RmsFRefIdeal.Run
public import proofs.«01_k».proof.Proof.Gen.RmsFRefIdeal.Read
public import proofs.«01_k».proof.Proof.Gen.RmsBIdeal.Value
public import proofs.«01_k».proof.Proof.Gen.RmsBRefIdeal.Run
public import proofs.«01_k».proof.Proof.Gen.RmsBRefIdeal.Read

@[expose] public section

set_option maxRecDepth 16384

noncomputable section

open Idealize.ShloMosaic Idealize.ShloMosaic.TcCoe Idealize.SL.Sem

namespace Cert.RmsFIdeal.Norm

open Cert.Products (offset_zero)
open Cert.RmsFIdeal Cert.RmsFIdeal.Gen Cert.RmsFIdeal.Value Cert.RmsFRefIdeal.Read

variable (m : (ℓ : Loc nD τ sig) → Buf (Elt Ideal) ℓ)

theorem points : cfg0.N = 16 := N_0

/-- The rows of the arrays that grid point `t` works on. -/
def row (t : Fin cfg0.N) (r : Fin 512) : Fin 8192 :=
  ⟨512 * t.val + r.val, by have := r.isLt; have := lt_of_lt_of_eq t.isLt points; omega⟩

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)

/-- The input blocks, read from the arrays. -/
theorem block_0 (c : Dev nD) (t : Fin cfg0.N) (r : Fin 512) (l : Fin 2048) :
    (iblk m c 0 t : Vec Ideal S512x2048 .f32) (ix2 r l) = m ((c : Thread nD τ).loc main_arg0) (ix2 (row t r) l) := by
  obtain ⟨e0, e1⟩ := index_0 t
  blk_point [iblk, V, e0, e1, row]
theorem block_1 (c : Dev nD) (t : Fin cfg0.N) : (iblk m c 1 t : Vec Ideal S1x2048 .f32) = m ((c : Thread nD τ).loc main_arg1) := by
  funext j
  obtain ⟨e0, e1⟩ := index_1 t
  blk_ext [iblk, V, e0, e1]

/-- One block of the norm, at an index. -/
theorem out_at (c : Dev nD) (t : Fin cfg0.N) (r : Fin 512) (l : Fin 2048) : out0_2 (F := Ideal) (iblk m c 0 t) (iblk m c 1 t) (ix2 r l)
    = val_main_v12 (F := Ideal) (m ((c : Thread nD τ).loc main_arg0)) (m ((c : Thread nD τ).loc main_arg1)) (ix2 (row t r) l) := by
  unfold out0_2
  rw [View.canon_unit_zero offset_zero, View.ld_unit_zero (S := S512x2048) offset_zero, View.ld_unit_zero (S := S1x2048) offset_zero, block_1]
  pointwise [k0_pay1, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [block_0]

/-- The result array after the run. -/
theorem final (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t hf y => ?_
  obtain ⟨e0, e1⟩ := index_2 t
  rw [after0_2]
  obtain ⟨r, l, rfl⟩ : ∃ (r : Fin 512) (l : Fin 2048), y = ix2 r l := ⟨y 0, y 1, eq_ix2 y⟩
  blk_simp
  refine (out_at m c t r l).trans ?_
  blk_ext [e0, e1, row]

/-- The kernel's norm is the reference's. -/
theorem algebraic : Cert.algebraic_RmsFIdeal_RmsFRefIdeal := by
  pair_intro
  · run_from run_blocks m g
  · run_from Cert.RmsFRefIdeal.Value.run m' g'
    rw [final m c]
    exact val_main_v12_eq _ _

/-- The reference terminates. -/
theorem frame_reference : Cert.quiescent_RmsFRefIdeal := fun m g _ =>
  (θ_run _ _ _).mono (fun r h => ⟨fun c => (h c).2, sem_eq_zero_of_no_sems (by decide) r.2⟩) (Cert.RmsFRefIdeal.Value.run m g)

end Cert.RmsFIdeal.Norm

namespace Cert.RmsBIdeal.Norm

open Cert.RmsBIdeal Cert.RmsBIdeal.Gen Cert.RmsBIdeal.Value Cert.RmsBRefIdeal.Read

section Stages

variable {x0 x2 x3 : Vec Ideal S8192x2048 .f32} {x1 : Vec Ideal S1x2048 .f32} {g : Fin 256 → Fin 8192} {a d e : Vec Ideal S256x2048 .f32}

/-- The block `a` is rows `g` of the array `x`. -/
abbrev Rows (g : Fin 256 → Fin 8192) (x : Vec Ideal S8192x2048 .f32) (a : Vec Ideal S256x2048 .f32) : Prop :=
  ∀ (r : Fin 256) (l : Fin 2048), a (ix2 r l) = x (ix2 (g r) l)

theorem spread (h : Rows g x0 a) (r : Fin 256) (q : Fin 1) : k0_pay3 (F := Ideal) a (ix2 r q) = val_main_v6 (F := Ideal) x0 (ix2 (g r) q) := by
  pointwise [k0_pay3, val_main_v6, val_main_v5, val_main_v4, val_main_v3, val_main_v2, val_main_v1, val_main_v0, val_main_cst, val_main_cst_0,
    val_main_cst_1]
  simp only [h _ _]

theorem scale (h : Rows g x0 a) (r : Fin 256) (q : Fin 1) : k0_pay4 (F := Ideal) a (ix2 r q) = val_main_v7 (F := Ideal) x0 (ix2 (g r) q) := by
  pointwise [k0_pay4, val_main_v7]
  rw [spread h]

/-- The gradient of the norm's input, with the residual stream. -/
theorem upInput (h : Rows g x0 a) (hd : Rows g x2 d) (he : Rows g x3 e) (r : Fin 256) (l : Fin 2048) :
    k0_pay6 (F := Ideal) a x1 d e (ix2 r l) = val_main_v34 (F := Ideal) x0 x1 x2 x3 (ix2 (g r) l) := by
  pointwise [k0_pay6, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_cst_2, val_main_cst_4, val_main_cst_5, val_main_cst_6]
  simp only [h _ _, hd _ _, he _ _, spread h, scale h]
  exact add_comm _ _

/-- One block's part of the gradient of the norm's weight. -/
theorem upWeight (h : Rows g x0 a) (hd : Rows g x2 d) (q : Fin 1) (l : Fin 2048) :
    k0_pay5 (F := Ideal) a d (ix2 q l) = ∑ r : Fin 256, val_main_v15 (F := Ideal) x0 x2 (ix2 (g r) l) := by
  pointwise [k0_pay5, val_main_v15, val_main_v12, val_main_v11]
  simp only [h _ _, hd _ _, scale h]

theorem reference_17 : val_main_v17 (F := Ideal) x0 x2 = fun i => ∑ k : Fin 8192, val_main_v15 (F := Ideal) x0 x2 (ix2 k (i 1)) := by
  funext i
  obtain ⟨q, l, rfl⟩ : ∃ (q : Fin 1) (l : Fin 2048), i = ix2 q l := ⟨i 0, i 1, eq_ix2 i⟩
  pointwise [val_main_v17, val_main_v16, val_main_cst_3]

end Stages

variable (m : (ℓ : Loc nD τ sig) → Buf (Elt Ideal) ℓ)

theorem points : cfg0.N = 32 := N_0

/-- The last grid point. -/
def last : Fin cfg0.N := ⟨31, by rw [points]; omega⟩

/-- The rows of the arrays that grid point `t` works on. -/
def row (t : Fin cfg0.N) (r : Fin 256) : Fin 8192 :=
  ⟨256 * t.val + r.val, by have := r.isLt; have := lt_of_lt_of_eq t.isLt points; omega⟩

theorem sum_rows (f : Fin 8192 → EReal) : ∑ t : Fin cfg0.N, ∑ r : Fin 256, f (row t r) = ∑ k : Fin 8192, f k := by
  refine Fin.sum_mul_add_congr (fun t r hl => ?_) (by rw [points])
  exact congrArg f (Fin.ext (by show 256 * t.val + r.val = t.val * 256 + r.val; omega))

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)

/-- The input blocks, read from the arrays. -/
theorem block_0 (c : Dev nD) (t : Fin cfg0.N) : Rows (row t) (m ((c : Thread nD τ).loc main_arg0)) (iblk m c 0 t) := fun r l => by
  obtain ⟨e0, e1⟩ := index_0 t
  blk_point [iblk, V, e0, e1, row]
theorem block_1 (c : Dev nD) (t : Fin cfg0.N) : (iblk m c 1 t : Vec Ideal S1x2048 .f32) = m ((c : Thread nD τ).loc main_arg1) := by
  funext j
  obtain ⟨e0, e1⟩ := index_1 t
  blk_ext [iblk, V, e0, e1]
theorem block_2 (c : Dev nD) (t : Fin cfg0.N) : Rows (row t) (m ((c : Thread nD τ).loc main_arg2)) (iblk m c 2 t) := fun r l => by
  obtain ⟨e0, e1⟩ := index_2 t
  blk_point [iblk, V, e0, e1, row]
theorem block_3 (c : Dev nD) (t : Fin cfg0.N) : Rows (row t) (m ((c : Thread nD τ).loc main_arg3)) (iblk m c 3 t) := fun r l => by
  obtain ⟨e0, e1⟩ := index_3 t
  blk_point [iblk, V, e0, e1, row]

/-- What the body leaves in the block of the input's gradient. -/
theorem out_4 (c : Dev nD) (t : Fin cfg0.N) (r : Fin 256) (l : Fin 2048) : (outsAt0 m c t.val t.isLt).1 (ix2 r l)
    = val_main_v34 (F := Ideal) (m ((c : Thread nD τ).loc main_arg0)) (m ((c : Thread nD τ).loc main_arg1)) (m ((c : Thread nD τ).loc main_arg2))
        (m ((c : Thread nD τ).loc main_arg3)) (ix2 (row t r) l) := by
  by_cases h : t.val % 32 = 0
  · rw [outsAt0_A m c t h]
    frame_out
    rw [block_1]
    exact upInput (block_0 m c t) (block_2 m c t) (block_3 m c t) r l
  · rw [outsAt0_B m c t h]
    frame_out
    rw [block_1]
    exact upInput (block_0 m c t) (block_2 m c t) (block_3 m c t) r l

/-- The gradient of the weight after the last point. -/
theorem out_5 (c : Dev nD) (a : Fin 1) (b : Fin 2048) : (outsAt0 m c last.val last.isLt).2 (ix2 a b)
    = ∑ k : Fin 8192, val_main_v15 (F := Ideal) (m ((c : Thread nD τ).loc main_arg0)) (m ((c : Thread nD τ).loc main_arg2)) (ix2 k b) := by
  refine (Pipeline.eq_sum_fin_of_reset_step_apply_last (fun n h => (outsAt0 m c n h).2) 32 (fun _ => (0 : EReal))
    (fun t y => ∑ r : Fin 256, val_main_v15 (F := Ideal) (m ((c : Thread nD τ).loc main_arg0)) (m ((c : Thread nD τ).loc main_arg2)) (ix2 (row t r) (y 1)))
    ?_ ?_ points.le last rfl (ix2 a b)).trans ?_
  · intro t h y
    rw [outsAt0_A m c t h]
    frame_out
    obtain ⟨q, l, rfl⟩ : ∃ (q : Fin 1) (l : Fin 2048), y = ix2 q l := ⟨y 0, y 1, eq_ix2 y⟩
    pointwise [k0_pay2, k0_pay1]
    exact upWeight (block_0 m c t) (block_2 m c t) q l
  · intro t h y
    rw [outsAt0_B m c t h]
    frame_out
    obtain ⟨q, l, rfl⟩ : ∃ (q : Fin 1) (l : Fin 2048), y = ix2 q l := ⟨y 0, y 1, eq_ix2 y⟩
    pointwise [k0_pay2]
    exact congrArg _ (upWeight (block_0 m c t) (block_2 m c t) q l)
  · rw [zero_add]
    exact sum_rows fun k => val_main_v15 (F := Ideal) (m ((c : Thread nD τ).loc main_arg0)) (m ((c : Thread nD τ).loc main_arg2)) (ix2 k b)

/-- The result arrays after the run. -/
theorem final_4 (c : Dev nD) : (dats m 0 c).arrAt 4 cfg0.N = val_main_v34 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1⟩ := index_4 t
  rw [after0_4]
  obtain ⟨r, l, rfl⟩ : ∃ (r : Fin 256) (l : Fin 2048), y = ix2 r l := ⟨y 0, y 1, eq_ix2 y⟩
  blk_simp
  refine (out_4 m c t r l).trans ?_
  blk_ext [e0, e1, row]
theorem final_5 (c : Dev nD) : (dats m 0 c).arrAt 5 cfg0.N
    = val_main_v17 (F := Ideal) (m ((c : Thread nD τ).loc main_arg0)) (m ((c : Thread nD τ).loc main_arg2)) := by
  refine (dats m 0 c).arrAt_eq_of_after_last 5 last (by decide +kernel) _ fun j => ?_
  blk_simp
  rw [after0_5, reference_17]
  obtain ⟨q, l, rfl⟩ : ∃ (q : Fin 1) (l : Fin 2048), j = ix2 q l := ⟨j 0, j 1, eq_ix2 j⟩
  exact out_5 m c q l

/-- The kernel's two results are the reference's. -/
theorem algebraic : Cert.algebraic_RmsBIdeal_RmsBRefIdeal := by
  pair_intro
  · run_from run_blocks m g
  · refine θ_run_mono (Cert.RmsBRefIdeal.Value.run m' g') ?_
    intro r hr c
    obtain ⟨h0, h1, h2, h3⟩ := hagree c
    refine ⟨(hr c).1.trans ((val_main_v34_eq _ _ _ _).trans ?_), (hr c).2.1.trans ((val_main_v17_eq _ _).trans ?_), (hr c).2.2⟩
    · rw [final_4 m c, h0, h1, h2, h3]
    · rw [final_5 m c, h0, h2]

/-- The reference terminates. -/
theorem frame_reference : Cert.quiescent_RmsBRefIdeal := fun m g _ =>
  (θ_run _ _ _).mono (fun r h => ⟨fun c => (h c).2.2, sem_eq_zero_of_no_sems (by decide) r.2⟩) (Cert.RmsBRefIdeal.Value.run m g)

end Cert.RmsBIdeal.Norm
-- ==== Proof.Loss.lean ====
/-
  The loss head (`loss_head`): the final norm, half the mean squared distance to the target summed over the rows, and the
  gradients of the norm's input and weight. The kernel sums each block of 256 rows and halves every row's mean; the
  reference halves the sum, which is the same because a finite factor distributes over any sum of extended reals.
-/
module

public import proofs.«01_k».proof.Defs
public import Idealize.ShloMosaic.Lib.Pipeline.ValueKit
public import proofs.«01_k».proof.Proof.Gen.LossIdeal.Value
public import proofs.«01_k».proof.Proof.Gen.LossRefIdeal.Run
public import proofs.«01_k».proof.Proof.Gen.LossRefIdeal.Read

@[expose] public section

set_option maxRecDepth 16384

noncomputable section

open Idealize.ShloMosaic Idealize.ShloMosaic.TcCoe Idealize.SL.Sem

namespace Cert.LossIdeal.Head

open Cert.LossIdeal Cert.LossIdeal.Gen Cert.LossIdeal.Value Cert.LossRefIdeal.Read

section Stages

variable {x0 x2 : Vec Ideal S8192x2048 .f32} {x1 : Vec Ideal S1x2048 .f32} {g : Fin 256 → Fin 8192} {a d : Vec Ideal S256x2048 .f32}

/-- The block `a` is rows `g` of the array `x`. -/
abbrev Rows (g : Fin 256 → Fin 8192) (x : Vec Ideal S8192x2048 .f32) (a : Vec Ideal S256x2048 .f32) : Prop :=
  ∀ (r : Fin 256) (l : Fin 2048), a (ix2 r l) = x (ix2 (g r) l)

/-- A finite factor that is not negative distributes over a sum. -/
theorem mul_sum_of_nonneg {ι : Type} (s : Finset ι) (c : EReal) (hc : 0 ≤ c) (ht : c ≠ ⊤) (f : ι → EReal) : c * ∑ i ∈ s, f i = ∑ i ∈ s, c * f i :=
  map_sum (⟨⟨fun x => c * x, mul_zero c⟩, fun x y => EReal.left_distrib_of_nonneg_of_ne_top hc ht x y⟩ : EReal →+ EReal) f s

theorem half_bits : Ideal.ofBits .f32 0x3F000000#32 = (((1 : ℝ) / 2 : ℝ) : EReal) := by
  simp [Ideal.ofBits, Ideal.ieee, -EReal.coe_mul]
  norm_num
theorem two_bits : Ideal.ofBits .f32 0x40000000#32 = ((2 : ℝ) : EReal) := by
  simp [Ideal.ofBits, Ideal.ieee, -EReal.coe_mul]
  norm_num

theorem twice (x y : EReal) : x * y + y * x = y * (((2 : ℝ) : EReal) * x) := by
  rw [mul_left_comm y, mul_comm y x]
  generalize x * y = z
  induction z using EReal.rec with
  | bot => rw [EReal.bot_add, EReal.coe_mul_bot_of_pos (by norm_num)]
  | top => rw [EReal.top_add_top, EReal.coe_mul_top_of_pos (by norm_num)]
  | coe r => rw [← EReal.coe_add, ← EReal.coe_mul, two_mul]

theorem spread (h : Rows g x0 a) (r : Fin 256) (q : Fin 1) : k0_pay7 (F := Ideal) a (ix2 r q) = val_main_v6 (F := Ideal) x0 (ix2 (g r) q) := by
  pointwise [k0_pay7, val_main_v6, val_main_v5, val_main_v4, val_main_v3, val_main_v2, val_main_v1, val_main_v0, val_main_cst, val_main_cst_0,
    val_main_cst_1]
  simp only [h _ _]

theorem scale (h : Rows g x0 a) (r : Fin 256) (q : Fin 1) : k0_pay8 (F := Ideal) a (ix2 r q) = val_main_v7 (F := Ideal) x0 (ix2 (g r) q) := by
  pointwise [k0_pay8, val_main_v7]
  rw [spread h]

theorem slope (h : Rows g x0 a) (r : Fin 256) (q : Fin 1) : k0_pay9 (F := Ideal) a (ix2 r q) = val_main_v10 (F := Ideal) x0 (ix2 (g r) q) := by
  pointwise [k0_pay9, val_main_v10, val_main_v9, val_main_v8, val_main_cst_2]
  rw [spread h, scale h]

theorem normed (h : Rows g x0 a) (r : Fin 256) (l : Fin 2048) : k0_pay10 (F := Ideal) a (ix2 r l) = val_main_v12 (F := Ideal) x0 (ix2 (g r) l) := by
  pointwise [k0_pay10, val_main_v12, val_main_v11]
  rw [h, scale h]

/-- The distance to the target. -/
theorem dist (h : Rows g x0 a) (hd : Rows g x2 d) (r : Fin 256) (l : Fin 2048) :
    k0_pay11 (F := Ideal) a x1 d (ix2 r l) = val_main_v15 (F := Ideal) x0 x1 x2 (ix2 (g r) l) := by
  pointwise [k0_pay11, val_main_v15, val_main_v14, val_main_v13]
  rw [normed h, hd]

/-- The gradient of the distance: the kernel adds the two halves, the reference multiplies by two. -/
theorem upDist (h : Rows g x0 a) (hd : Rows g x2 d) (r : Fin 256) (l : Fin 2048) :
    k0_pay1 (F := Ideal) (k0_pay11 a x1 d) k0_pay13 (ix2 r l) = val_main_v29 (F := Ideal) x0 x1 x2 (ix2 (g r) l) := by
  pointwise [k0_pay1, k0_pay13, val_main_v29, val_main_v28, val_main_v27, val_main_v26, val_main_v25, val_main_v24, val_main_v18, val_main_v17,
    val_main_cst_3, val_main_cst_8, val_main_cst_9, val_main_cst_10]
  simp only [dist h hd, Fin.sum_univ_one, mul_one]
  rw [two_bits]
  exact twice _ _

/-- The gradient of the norm's input. -/
theorem upInput (h : Rows g x0 a) (hd : Rows g x2 d) (r : Fin 256) (l : Fin 2048) :
    k0_pay2 (F := Ideal) a x1 (k0_pay8 a) (k0_pay9 a) (k0_pay11 a x1 d) k0_pay13 (ix2 r l) = val_main_v48 (F := Ideal) x0 x1 x2 (ix2 (g r) l) := by
  pointwise [k0_pay2, val_main_v48, val_main_v47, val_main_v46, val_main_v45, val_main_v44, val_main_v43, val_main_v42, val_main_v41, val_main_v40,
    val_main_v39, val_main_v38, val_main_v37, val_main_v36, val_main_v35, val_main_v34, val_main_v33, val_main_cst_12, val_main_cst_13, val_main_cst_14]
  simp only [h _ _, upDist h hd, scale h, slope h]

/-- One block's part of the gradient of the norm's weight. -/
theorem upWeight (h : Rows g x0 a) (hd : Rows g x2 d) (v : Vec Ideal S1x2048 .f32) (q : Fin 1) (l : Fin 2048) :
    k0_pay6 (F := Ideal) (k0_pay10 a) (k0_pay11 a x1 d) k0_pay13 v (ix2 q l) = v (ix2 q l) + ∑ r : Fin 256, val_main_v30 (F := Ideal) x0 x1 x2 (ix2 (g r) l) := by
  pointwise [k0_pay6, val_main_v30]
  simp only [normed h, upDist h hd]

/-- One row's part of the loss. -/
def term (x0 : Vec Ideal S8192x2048 .f32) (x1 : Vec Ideal S1x2048 .f32) (x2 : Vec Ideal S8192x2048 .f32) (k : Fin 8192) : EReal :=
  Ideal.ofBits .f32 0x3F000000#32 * val_main_v21 (F := Ideal) x0 x1 x2 (ix1 k)

/-- One block's part of the loss. -/
theorem part (h : Rows g x0 a) (hd : Rows g x2 d) (p q : Fin 1) :
    k0_pay12 (F := Ideal) a x1 d (ix2 p q) = ∑ r : Fin 256, term x0 x1 x2 (g r) := by
  unfold term
  pointwise [k0_pay12, val_main_v21, val_main_v20, val_main_v19, val_main_v16, val_main_cst_4, val_main_cst_5]
  simp only [dist h hd]

theorem reference_49 : val_main_v49 (F := Ideal) x0 x1 x2 = fun _ => ∑ k : Fin 8192, term x0 x1 x2 k := by
  funext i
  obtain ⟨p, q, rfl⟩ : ∃ (p q : Fin 1), i = ix2 p q := ⟨i 0, i 1, eq_ix2 i⟩
  pointwise [val_main_v49, val_main_v23, val_main_v22, val_main_cst_6, val_main_cst_7]
  unfold term
  rw [half_bits]
  exact mul_sum_of_nonneg _ _ (by exact_mod_cast (by norm_num : (0 : ℝ) ≤ 1 / 2)) (EReal.coe_ne_top _) _

theorem reference_32 : val_main_v32 (F := Ideal) x0 x1 x2 = fun i => ∑ k : Fin 8192, val_main_v30 (F := Ideal) x0 x1 x2 (ix2 k (i 1)) := by
  funext i
  obtain ⟨q, l, rfl⟩ : ∃ (q : Fin 1) (l : Fin 2048), i = ix2 q l := ⟨i 0, i 1, eq_ix2 i⟩
  pointwise [val_main_v32, val_main_v31, val_main_cst_11]

end Stages

variable (m : (ℓ : Loc nD τ sig) → Buf (Elt Ideal) ℓ)

theorem points : cfg0.N = 32 := N_0

/-- The last grid point. -/
def last : Fin cfg0.N := ⟨31, by rw [points]; omega⟩

/-- The rows of the arrays that grid point `t` works on. -/
def row (t : Fin cfg0.N) (r : Fin 256) : Fin 8192 :=
  ⟨256 * t.val + r.val, by have := r.isLt; have := lt_of_lt_of_eq t.isLt points; omega⟩

theorem sum_rows (f : Fin 8192 → EReal) : ∑ t : Fin cfg0.N, ∑ r : Fin 256, f (row t r) = ∑ k : Fin 8192, f k := by
  refine Fin.sum_mul_add_congr (fun t r hl => ?_) (by rw [points])
  exact congrArg f (Fin.ext (by show 256 * t.val + r.val = t.val * 256 + r.val; omega))

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)

/-- The input blocks, read from the arrays. -/
theorem block_0 (c : Dev nD) (t : Fin cfg0.N) : Rows (row t) (m ((c : Thread nD τ).loc main_arg0)) (iblk m c 0 t) := fun r l => by
  obtain ⟨e0, e1⟩ := index_0 t
  blk_point [iblk, V, e0, e1, row]
theorem block_1 (c : Dev nD) (t : Fin cfg0.N) : (iblk m c 1 t : Vec Ideal S1x2048 .f32) = m ((c : Thread nD τ).loc main_arg1) := by
  funext j
  obtain ⟨e0, e1⟩ := index_1 t
  blk_ext [iblk, V, e0, e1]
theorem block_2 (c : Dev nD) (t : Fin cfg0.N) : Rows (row t) (m ((c : Thread nD τ).loc main_arg2)) (iblk m c 2 t) := fun r l => by
  obtain ⟨e0, e1⟩ := index_2 t
  blk_point [iblk, V, e0, e1, row]

/-- The loss after the last point. -/
theorem out_3 (c : Dev nD) (a : Fin 1) (b : Fin 1) : (outsAt0 m c last.val last.isLt).1 (ix2 a b)
    = ∑ k : Fin 8192, term (m ((c : Thread nD τ).loc main_arg0)) (m ((c : Thread nD τ).loc main_arg1)) (m ((c : Thread nD τ).loc main_arg2)) k := by
  refine (Pipeline.eq_sum_fin_of_reset_step_apply_last (fun n h => (outsAt0 m c n h).1) 32 (fun _ => (0 : EReal))
    (fun t y => ∑ r : Fin 256, term (m ((c : Thread nD τ).loc main_arg0)) (m ((c : Thread nD τ).loc main_arg1)) (m ((c : Thread nD τ).loc main_arg2)) (row t r)) ?_ ?_ points.le last rfl (ix2 a b)).trans ?_
  · intro t h y
    rw [outsAt0_A m c t h]
    frame_out
    rw [block_1]
    obtain ⟨q, l, rfl⟩ : ∃ (q : Fin 1) (l : Fin 1), y = ix2 q l := ⟨y 0, y 1, eq_ix2 y⟩
    pointwise [k0_pay5, k0_pay3]
    exact part (block_0 m c t) (block_2 m c t) q l
  · intro t h y
    rw [outsAt0_B m c t h]
    frame_out
    rw [block_1]
    obtain ⟨q, l, rfl⟩ : ∃ (q : Fin 1) (l : Fin 1), y = ix2 q l := ⟨y 0, y 1, eq_ix2 y⟩
    pointwise [k0_pay5]
    exact congrArg _ (part (block_0 m c t) (block_2 m c t) q l)
  · rw [zero_add]
    exact sum_rows fun k => term (m ((c : Thread nD τ).loc main_arg0)) (m ((c : Thread nD τ).loc main_arg1)) (m ((c : Thread nD τ).loc main_arg2)) k

/-- What the body leaves in the block of the input's gradient. -/
theorem out_4 (c : Dev nD) (t : Fin cfg0.N) (r : Fin 256) (l : Fin 2048) : (outsAt0 m c t.val t.isLt).2.1 (ix2 r l)
    = val_main_v48 (F := Ideal) (m ((c : Thread nD τ).loc main_arg0)) (m ((c : Thread nD τ).loc main_arg1)) (m ((c : Thread nD τ).loc main_arg2)) (ix2 (row t r) l) := by
  by_cases h : t.val % 32 = 0
  · rw [outsAt0_A m c t h]
    frame_out
    rw [block_1]
    exact upInput (block_0 m c t) (block_2 m c t) r l
  · rw [outsAt0_B m c t h]
    frame_out
    rw [block_1]
    exact upInput (block_0 m c t) (block_2 m c t) r l

/-- The gradient of the weight after the last point. -/
theorem out_5 (c : Dev nD) (a : Fin 1) (b : Fin 2048) : (outsAt0 m c last.val last.isLt).2.2 (ix2 a b)
    = ∑ k : Fin 8192, val_main_v30 (F := Ideal) (m ((c : Thread nD τ).loc main_arg0)) (m ((c : Thread nD τ).loc main_arg1)) (m ((c : Thread nD τ).loc main_arg2)) (ix2 k b) := by
  refine (Pipeline.eq_sum_fin_of_reset_step_apply_last (fun n h => (outsAt0 m c n h).2.2) 32 (fun _ => (0 : EReal))
    (fun t y => ∑ r : Fin 256, val_main_v30 (F := Ideal) (m ((c : Thread nD τ).loc main_arg0)) (m ((c : Thread nD τ).loc main_arg1)) (m ((c : Thread nD τ).loc main_arg2)) (ix2 (row t r) (y 1))) ?_ ?_ points.le last rfl (ix2 a b)).trans ?_
  · intro t h y
    rw [outsAt0_A m c t h]
    frame_out
    rw [block_1]
    obtain ⟨q, l, rfl⟩ : ∃ (q : Fin 1) (l : Fin 2048), y = ix2 q l := ⟨y 0, y 1, eq_ix2 y⟩
    refine (upWeight (block_0 m c t) (block_2 m c t) _ q l).trans ?_
    pointwise [k0_pay4]
  · intro t h y
    rw [outsAt0_B m c t h]
    frame_out
    rw [block_1]
    obtain ⟨q, l, rfl⟩ : ∃ (q : Fin 1) (l : Fin 2048), y = ix2 q l := ⟨y 0, y 1, eq_ix2 y⟩
    exact upWeight (block_0 m c t) (block_2 m c t) _ q l
  · rw [zero_add]
    exact sum_rows fun k => val_main_v30 (F := Ideal) (m ((c : Thread nD τ).loc main_arg0)) (m ((c : Thread nD τ).loc main_arg1)) (m ((c : Thread nD τ).loc main_arg2)) (ix2 k b)

/-- The result arrays after the run. -/
theorem final_3 (c : Dev nD) : (dats m 0 c).arrAt 3 cfg0.N = val_main_v49 (F := Ideal) (m ((c : Thread nD τ).loc main_arg0)) (m ((c : Thread nD τ).loc main_arg1)) (m ((c : Thread nD τ).loc main_arg2)) := by
  refine (dats m 0 c).arrAt_eq_of_after_last 3 last (by decide +kernel) _ fun j => ?_
  blk_simp
  rw [after0_3, reference_49]
  obtain ⟨q, l, rfl⟩ : ∃ (q : Fin 1) (l : Fin 1), j = ix2 q l := ⟨j 0, j 1, eq_ix2 j⟩
  exact out_3 m c q l
theorem final_4 (c : Dev nD) : (dats m 0 c).arrAt 4 cfg0.N = val_main_v48 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1⟩ := index_4 t
  rw [after0_4]
  obtain ⟨r, l, rfl⟩ : ∃ (r : Fin 256) (l : Fin 2048), y = ix2 r l := ⟨y 0, y 1, eq_ix2 y⟩
  blk_simp
  refine (out_4 m c t r l).trans ?_
  blk_ext [e0, e1, row]
theorem final_5 (c : Dev nD) : (dats m 0 c).arrAt 5 cfg0.N = val_main_v32 (F := Ideal) (m ((c : Thread nD τ).loc main_arg0)) (m ((c : Thread nD τ).loc main_arg1)) (m ((c : Thread nD τ).loc main_arg2)) := by
  refine (dats m 0 c).arrAt_eq_of_after_last 5 last (by decide +kernel) _ fun j => ?_
  blk_simp
  rw [after0_5, reference_32]
  obtain ⟨q, l, rfl⟩ : ∃ (q : Fin 1) (l : Fin 2048), j = ix2 q l := ⟨j 0, j 1, eq_ix2 j⟩
  exact out_5 m c q l

/-- The kernel's loss and gradients are the reference's. -/
theorem algebraic : Cert.algebraic_LossIdeal_LossRefIdeal := by
  pair_intro
  · run_from run_blocks m g
  · refine θ_run_mono (Cert.LossRefIdeal.Value.run m' g') ?_
    intro r hr c
    obtain ⟨h0, h1, h2⟩ := hagree c
    refine ⟨(hr c).1.trans ((val_main_v49_eq _ _ _).trans ?_), (hr c).2.1.trans ((val_main_v48_eq m' c).trans ?_),
      (hr c).2.2.1.trans ((val_main_v32_eq _ _ _).trans ?_), (hr c).2.2.2⟩
    · rw [final_3 m c, h0, h1, h2]
    · rw [final_4 m c, h0, h1, h2]
    · rw [final_5 m c, h0, h1, h2]

/-- The reference terminates. -/
theorem frame_reference : Cert.quiescent_LossRefIdeal := fun m g _ =>
  (θ_run _ _ _).mono (fun r h => ⟨fun c => (h c).2.2.2, sem_eq_zero_of_no_sems (by decide) r.2⟩) (Cert.LossRefIdeal.Value.run m g)

end Cert.LossIdeal.Head
-- ==== Proof.Sums.lean ====
/-
  The sums over the eight devices' slots (`slot_sum`): the packed small gradients, the gradients of the pointwise
  weight, and those of one layer's projections. The kernel adds the slots one after another, from the first to the last;
  the reference is `∑ k, x (k, i)`.
-/
module

public import proofs.«01_k».proof.Defs
public import Idealize.ShloMosaic.Lib.Pipeline.ValueKit
public import proofs.«01_k».proof.Proof.Gen.SSmallIdeal.Value
public import proofs.«01_k».proof.Proof.Gen.SSmallRefIdeal.Run
public import proofs.«01_k».proof.Proof.Gen.SSmallRefIdeal.Read
public import proofs.«01_k».proof.Proof.Gen.SPwIdeal.Value
public import proofs.«01_k».proof.Proof.Gen.SPwRefIdeal.Run
public import proofs.«01_k».proof.Proof.Gen.SPwRefIdeal.Read
public import proofs.«01_k».proof.Proof.Gen.SInIdeal.Value
public import proofs.«01_k».proof.Proof.Gen.SInRefIdeal.Run
public import proofs.«01_k».proof.Proof.Gen.SInRefIdeal.Read
public import proofs.«01_k».proof.Proof.Gen.SOutIdeal.Value
public import proofs.«01_k».proof.Proof.Gen.SOutRefIdeal.Run
public import proofs.«01_k».proof.Proof.Gen.SOutRefIdeal.Read

@[expose] public section

set_option maxRecDepth 16384

noncomputable section

open Idealize.ShloMosaic Idealize.ShloMosaic.TcCoe Idealize.SL.Sem

namespace Cert.SSmallIdeal.Slots

open Cert.SSmallIdeal Cert.SSmallIdeal.Gen Cert.SSmallIdeal.Value Cert.SSmallRefIdeal.Read

variable (m : (ℓ : Loc nD τ sig) → Buf (Elt Ideal) ℓ)

/-- The result array after the run. -/
theorem final (c : Dev nD) : (dats m 0 c).arrAt 1 cfg0.N = val_main_v0 (F := Ideal) (m ((c : Thread nD τ).loc main_arg0)) := by
  refine (final1 m c).trans ?_
  funext y
  obtain ⟨q, r, l, rfl⟩ : ∃ (q : Fin 1) (r : Fin 920) (l : Fin 128), y = ix3 q r l := ⟨y 0, y 1, y 2, eq_ix3 y⟩
  obtain rfl : q = 0 := Subsingleton.elim _ _
  refine Eq.trans ?_ (val_main_v0_apply _ _).symm
  rw [Fin.sum_univ_eight]
  pointwise [k0_pay1, k0_pay2, val_main_cst]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact congrArg (m (c.tc.loc main_arg0)) (by blk_ext)

/-- The kernel's sum is the reference's. -/
theorem algebraic : Cert.algebraic_SSmallIdeal_SSmallRefIdeal := by
  pair_intro
  · run_from run_blocks m g
  · refine θ_run_mono (Cert.SSmallRefIdeal.Value.run m' g') ?_
    intro r hr c
    exact ⟨(hr c).1.trans ((val_main_v0_eq _).trans ((congrArg _ (hagree c)).trans (final m c).symm)), (hr c).2⟩

/-- The reference terminates. -/
theorem frame_reference : Cert.quiescent_SSmallRefIdeal := fun m g _ =>
  (θ_run _ _ _).mono (fun r h => ⟨fun c => (h c).2, sem_eq_zero_of_no_sems (by decide) r.2⟩) (Cert.SSmallRefIdeal.Value.run m g)

end Cert.SSmallIdeal.Slots

namespace Cert.SPwIdeal.Slots

open Cert.SPwIdeal Cert.SPwIdeal.Gen Cert.SPwIdeal.Value Cert.SPwRefIdeal.Read

variable (m : (ℓ : Loc nD τ sig) → Buf (Elt Ideal) ℓ)

/-- A point's block of the slots lies where its block of the sum does. -/
theorem index_0 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = win0_1.index t (2 : Fin 3) :=
  (by decide +kernel : ∀ t : Fin grid0.N, _)

/-- The result array after the run. -/
theorem final (c : Dev nD) : (dats m 0 c).arrAt 1 cfg0.N = val_main_v0 (F := Ideal) (m ((c : Thread nD τ).loc main_arg0)) := by
  refine (dats m 0 c).arrAt_eq_of_covers 1 _ (by decide +kernel) fun t hf y => ?_
  obtain ⟨e0, e1, e2, e3⟩ := index_0 t
  rw [after0_1]
  blk_simp
  refine (canon1_eq _ _ _ _ _ _ _ _ _).trans ?_
  refine Eq.trans ?_ (val_main_v0_apply _ _).symm
  rw [Fin.sum_univ_eight]
  pointwise [val_main_cst]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals blk_ext [iblk, V, e0, e1, e2, e3]

/-- The kernel's sum is the reference's. -/
theorem algebraic : Cert.algebraic_SPwIdeal_SPwRefIdeal := by
  pair_intro
  · run_from run_blocks m g
  · refine θ_run_mono (Cert.SPwRefIdeal.Value.run m' g') ?_
    intro r hr c
    exact ⟨(hr c).1.trans ((val_main_v0_eq _).trans ((congrArg _ (hagree c)).trans (final m c).symm)), (hr c).2⟩

/-- The reference terminates. -/
theorem frame_reference : Cert.quiescent_SPwRefIdeal := fun m g _ =>
  (θ_run _ _ _).mono (fun r h => ⟨fun c => (h c).2, sem_eq_zero_of_no_sems (by decide) r.2⟩) (Cert.SPwRefIdeal.Value.run m g)

end Cert.SPwIdeal.Slots

namespace Cert.SInIdeal.Slots

open Cert.SInIdeal Cert.SInIdeal.Gen Cert.SInIdeal.Value Cert.SInRefIdeal.Read

variable (m : (ℓ : Loc nD τ sig) → Buf (Elt Ideal) ℓ)

/-- A point's block of the slots lies where its block of the sum does. -/
theorem index_0 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = win0_1.index t (2 : Fin 3) :=
  (by decide +kernel : ∀ t : Fin grid0.N, _)

/-- The result array after the run. -/
theorem final (c : Dev nD) : (dats m 0 c).arrAt 1 cfg0.N = val_main_v1 (F := Ideal) (m ((c : Thread nD τ).loc main_arg0)) := by
  refine (dats m 0 c).arrAt_eq_of_covers 1 _ (by decide +kernel) fun t hf y => ?_
  obtain ⟨e0, e1, e2, e3⟩ := index_0 t
  rw [after0_1]
  blk_simp
  refine (canon1_eq _ _ _ _ _ _ _ _ _).trans ?_
  refine Eq.trans ?_ (val_main_v1_apply _ _).symm
  rw [Fin.sum_univ_eight]
  pointwise [val_main_cst, val_main_v0]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals blk_ext [iblk, V, e0, e1, e2, e3]

/-- The kernel's sum is the reference's. -/
theorem algebraic : Cert.algebraic_SInIdeal_SInRefIdeal := by
  pair_intro
  · run_from run_blocks m g
  · refine θ_run_mono (Cert.SInRefIdeal.Value.run m' g') ?_
    intro r hr c
    exact ⟨(hr c).1.trans ((val_main_v1_eq _).trans ((congrArg _ (hagree c)).trans (final m c).symm)), (hr c).2⟩

/-- The reference terminates. -/
theorem frame_reference : Cert.quiescent_SInRefIdeal := fun m g _ =>
  (θ_run _ _ _).mono (fun r h => ⟨fun c => (h c).2, sem_eq_zero_of_no_sems (by decide) r.2⟩) (Cert.SInRefIdeal.Value.run m g)

end Cert.SInIdeal.Slots

namespace Cert.SOutIdeal.Slots

open Cert.SOutIdeal Cert.SOutIdeal.Gen Cert.SOutIdeal.Value Cert.SOutRefIdeal.Read

variable (m : (ℓ : Loc nD τ sig) → Buf (Elt Ideal) ℓ)

/-- A point's block of the slots lies where its block of the sum does. -/
theorem index_0 : ∀ t : Fin cfg0.N, win0_0.index t (0 : Fin 4) = 0 ∧ win0_0.index t (1 : Fin 4) = win0_1.index t (0 : Fin 3)
    ∧ win0_0.index t (2 : Fin 4) = win0_1.index t (1 : Fin 3) ∧ win0_0.index t (3 : Fin 4) = win0_1.index t (2 : Fin 3) :=
  (by decide +kernel : ∀ t : Fin grid0.N, _)

/-- The result array after the run. -/
theorem final (c : Dev nD) : (dats m 0 c).arrAt 1 cfg0.N = val_main_v1 (F := Ideal) (m ((c : Thread nD τ).loc main_arg0)) := by
  refine (dats m 0 c).arrAt_eq_of_covers 1 _ (by decide +kernel) fun t hf y => ?_
  obtain ⟨e0, e1, e2, e3⟩ := index_0 t
  rw [after0_1]
  blk_simp
  refine (canon1_eq _ _ _ _ _ _ _ _ _).trans ?_
  refine Eq.trans ?_ (val_main_v1_apply _ _).symm
  rw [Fin.sum_univ_eight]
  pointwise [val_main_cst, val_main_v0]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals blk_ext [iblk, V, e0, e1, e2, e3]

/-- The kernel's sum is the reference's. -/
theorem algebraic : Cert.algebraic_SOutIdeal_SOutRefIdeal := by
  pair_intro
  · run_from run_blocks m g
  · refine θ_run_mono (Cert.SOutRefIdeal.Value.run m' g') ?_
    intro r hr c
    exact ⟨(hr c).1.trans ((val_main_v1_eq _).trans ((congrArg _ (hagree c)).trans (final m c).symm)), (hr c).2⟩

/-- The reference terminates. -/
theorem frame_reference : Cert.quiescent_SOutRefIdeal := fun m g _ =>
  (θ_run _ _ _).mono (fun r h => ⟨fun c => (h c).2, sem_eq_zero_of_no_sems (by decide) r.2⟩) (Cert.SOutRefIdeal.Value.run m g)

end Cert.SOutIdeal.Slots
-- ==== Proof.RotationLaws.lean ====
/-
  The attention's rotary embedding on one row of extended reals: the rotation of the first 16 lanes of each head, the
  rotation back, and the same two written with tables and rotated lanes.
-/
module

public import proofs.«01_k».proof.Defs
public import Idealize.ShloMosaic.Lib.Pipeline.ValueKit
public import proofs.«01_k».proof.Proof.Products

@[expose] public section

set_option maxRecDepth 16384

noncomputable section

open Idealize.ShloMosaic Idealize.ShloMosaic.TcCoe Idealize.SL.Sem

namespace Cert.Rotation

/-- Lane `l` of the three tables that hold one head's cosines and sines: lanes 0 to 7 and 8 to 15 of each head are rotated. -/
def tc (C : Fin 8 → EReal) (l : ℕ) : EReal := if l % 64 < 16 then C ⟨l % 8, Nat.mod_lt _ (by decide)⟩ else 1
def t1 (S : Fin 8 → EReal) (l : ℕ) : EReal := if l % 64 < 8 then -S ⟨l % 8, Nat.mod_lt _ (by decide)⟩ else 0
def t2 (S : Fin 8 → EReal) (l : ℕ) : EReal := if l % 64 < 8 then 0 else if l % 64 < 16 then S ⟨l % 8, Nat.mod_lt _ (by decide)⟩ else 0

/-- The lanes 8 further on and 8 back, around the end. -/
def next (l : Fin 768) : Fin 768 := ⟨(l.val + 8) % 768, Nat.mod_lt _ (by decide)⟩
def prev (l : Fin 768) : Fin 768 := ⟨(l.val + 760) % 768, Nat.mod_lt _ (by decide)⟩

/-- One row rotated, head by head. -/
def turn (x : Fin 768 → EReal) (C S : Fin 8 → EReal) (l : Fin 768) : EReal :=
  if l.val % 64 < 8 then x l * C ⟨l.val % 8, Nat.mod_lt _ (by decide)⟩ - x (next l) * S ⟨l.val % 8, Nat.mod_lt _ (by decide)⟩
  else if l.val % 64 < 16 then x l * C ⟨l.val % 8, Nat.mod_lt _ (by decide)⟩ + x (prev l) * S ⟨l.val % 8, Nat.mod_lt _ (by decide)⟩
  else x l

/-- One row rotated back. -/
def back (x : Fin 768 → EReal) (C S : Fin 8 → EReal) (l : Fin 768) : EReal :=
  if l.val % 64 < 8 then x l * C ⟨l.val % 8, Nat.mod_lt _ (by decide)⟩ + x (next l) * S ⟨l.val % 8, Nat.mod_lt _ (by decide)⟩
  else if l.val % 64 < 16 then x l * C ⟨l.val % 8, Nat.mod_lt _ (by decide)⟩ + -(x (prev l)) * S ⟨l.val % 8, Nat.mod_lt _ (by decide)⟩
  else x l

/-- Two rotations of the lanes with the tables are the rotation. -/
theorem turn_eq (x : Fin 768 → EReal) (C S : Fin 8 → EReal) (l : Fin 768) :
    x l * tc C (l.val % 128) + x (next l) * t1 S (l.val % 128) + x (prev l) * t2 S (l.val % 128) = turn x C S l := by
  have h64 : l.val % 128 % 64 = l.val % 64 := by omega
  have h8 : l.val % 128 % 8 = l.val % 8 := by omega
  unfold tc t1 t2 turn
  simp only [h64, h8]
  by_cases h : l.val % 64 < 8
  · simp only [h, (by omega : l.val % 64 < 16), if_true, mul_zero, add_zero, mul_neg, sub_eq_add_neg]
  · by_cases h' : l.val % 64 < 16
    · simp only [h, h', if_true, if_false, mul_zero, add_zero]
    · simp only [h, h', if_false, mul_zero, add_zero, mul_one]

/-- Two rotations of the lanes after the tables are the rotation back. -/
theorem back_eq (x : Fin 768 → EReal) (C S : Fin 8 → EReal) (l : Fin 768) :
    x l * tc C (l.val % 128) + x (prev l) * t1 S ((prev l).val % 128) + x (next l) * t2 S ((next l).val % 128) = back x C S l := by
  have hl := l.isLt
  have h64 : l.val % 128 % 64 = l.val % 64 := by omega
  have h8 : l.val % 128 % 8 = l.val % 8 := by omega
  have p8 : (prev l).val % 128 % 8 = l.val % 8 := by simp only [prev]; omega
  have n8 : (next l).val % 128 % 8 = l.val % 8 := by simp only [next]; omega
  have p64 : (prev l).val % 128 % 64 = (l.val + 56) % 64 := by simp only [prev]; omega
  have n64 : (next l).val % 128 % 64 = (l.val + 8) % 64 := by simp only [next]; omega
  unfold tc t1 t2 back
  simp only [h64, h8, p8, n8, p64, n64]
  by_cases h : l.val % 64 < 8
  · rw [if_pos (show l.val % 64 < 16 by omega), if_neg (show ¬(l.val + 56) % 64 < 8 by omega), if_neg (show ¬(l.val + 8) % 64 < 8 by omega),
      if_pos (show (l.val + 8) % 64 < 16 by omega), if_pos h, mul_zero, add_zero]
  · by_cases h' : l.val % 64 < 16
    · rw [if_pos h', if_pos (show (l.val + 56) % 64 < 8 by omega), if_neg (show ¬(l.val + 8) % 64 < 8 by omega),
        if_neg (show ¬(l.val + 8) % 64 < 16 by omega), if_neg h, if_pos h', mul_zero, add_zero, mul_neg, neg_mul]
    · rw [if_neg h', if_neg (show ¬(l.val + 56) % 64 < 8 by omega), if_neg h, if_neg h', mul_zero, add_zero, mul_one]
      by_cases e2 : (l.val + 8) % 64 < 8
      · rw [if_pos e2, mul_zero, add_zero]
      · rw [if_neg e2, if_neg (show ¬(l.val + 8) % 64 < 16 by omega), mul_zero, add_zero]

/-- A factor that is not negative and finite may be taken before or after the rotation back. -/
theorem back_mul {k : EReal} (h0 : 0 ≤ k) (ht : k ≠ ⊤) (x : Fin 768 → EReal) (C S : Fin 8 → EReal) (l : Fin 768) :
    back (fun n => x n * k) C S l = back x C S l * k := by
  unfold back
  split_ifs
  · rw [EReal.right_distrib_of_nonneg_of_ne_top h0 ht, mul_right_comm, mul_right_comm (x (next l))]
  · rw [EReal.right_distrib_of_nonneg_of_ne_top h0 ht, mul_right_comm, mul_right_comm (-x (prev l)), neg_mul (x (prev l)) k]
  · rfl

/-- Reading at equal indices. -/
theorem at_eq {n k : ℕ} (x : (⟨2, ![n, k]⟩ : Shape).Idx → EReal) {a a' : Fin n} {b b' : Fin k} (ha : a.val = a'.val) (hb : b.val = b'.val) :
    x (ix2 a b) = x (ix2 a' b') := by
  rw [Fin.ext ha, Fin.ext hb]

/-- A table laid side by side six times. -/
theorem tile_apply (v : (⟨2, ![512, 128]⟩ : Shape).Idx → EReal)
    (h : Shape.Concatenates [⟨2, ![512, 128]⟩, ⟨2, ![512, 128]⟩, ⟨2, ![512, 128]⟩, ⟨2, ![512, 128]⟩, ⟨2, ![512, 128]⟩, ⟨2, ![512, 128]⟩] (⟨2, ![512, 768]⟩ : Shape) 1)
    (r : Fin 512) (l : Fin 768) :
    concatenate ⟨2, ![512, 768]⟩ 1 [⟨⟨2, ![512, 128]⟩, v⟩, ⟨⟨2, ![512, 128]⟩, v⟩, ⟨⟨2, ![512, 128]⟩, v⟩, ⟨⟨2, ![512, 128]⟩, v⟩, ⟨⟨2, ![512, 128]⟩, v⟩, ⟨⟨2, ![512, 128]⟩, v⟩] h (ix2 r l)
      = v (ix2 r ⟨l.val % 128, Nat.mod_lt _ (by decide)⟩) := by
  have hl := l.isLt
  pointwise
  split_ifs <;> exact at_eq v rfl (by dsimp only; omega)

end Cert.Rotation
-- ==== Proof.RotationBackwardStages.lean ====
/-
  The gradient of the attention's rotation (`att_prep_bwd`): its blocks' values, and the reference's result, both as rows
  rotated back.
-/
module

public import proofs.«01_k».proof.Defs
public import Idealize.ShloMosaic.Lib.Pipeline.ValueKit
public import proofs.«01_k».proof.Proof.Products
public import proofs.«01_k».proof.Proof.RotationLaws
public import proofs.«01_k».proof.Proof.Gen.APrepIdeal.Value
public import proofs.«01_k».proof.Proof.Gen.APrepRefIdeal.Run
public import proofs.«01_k».proof.Proof.Gen.APrepRefIdeal.Read

@[expose] public section

set_option maxRecDepth 16384

noncomputable section

open Idealize.ShloMosaic Idealize.ShloMosaic.TcCoe Idealize.SL.Sem

namespace Cert.APrepIdeal.Rotation

open Cert.Products (offset_zero)
open Cert.Rotation
open Cert.APrepIdeal Cert.APrepIdeal.Gen Cert.APrepIdeal.Value Cert.APrepRefIdeal.Read

section Stages

variable {a b d : Vec Ideal S512x128 .f32} {C S : Fin 512 → Fin 8 → EReal}

/-- The gradients of the three dilations, added up. -/
def total {n : ℕ} (p q o : (⟨2, ![n, 768]⟩ : Shape).Idx → EReal) (r : Fin n) (l : Fin 768) : EReal := p (ix2 r l) + q (ix2 r l) + o (ix2 r l)

/-- One block of key gradients. -/
theorem pay2_apply (ha : ∀ r (l : Fin 128), a (ix2 r l) = tc (C r) l.val) (hb : ∀ r (l : Fin 128), b (ix2 r l) = t1 (S r) l.val)
    (hd : ∀ r (l : Fin 128), d (ix2 r l) = t2 (S r) l.val) (p q o : Vec Ideal S512x768 .bf16) (r : Fin 512) (l : Fin 768) :
    k0_pay2 (F := Ideal) (k0_pay5 p q o) (k0_pay7 a) (k0_pay8 b) (k0_pay9 d) (ix2 r l) = back (total p q o r) (C r) (S r) l := by
  have e1 : (⟨(l.val + 768 - 8) % 768, Nat.mod_lt _ (by decide)⟩ : Fin 768) = prev l := Fin.ext (by simp only [prev]; omega)
  have e2 : (⟨(l.val + 768 - 760) % 768, Nat.mod_lt _ (by decide)⟩ : Fin 768) = next l := Fin.ext (by simp only [next]; omega)
  rw [← back_eq]
  pointwise [k0_pay2, k0_pay5]
  unfold k0_pay7 k0_pay8 k0_pay9
  simp only [shapeCast_self]
  rw [e1, e2, tile_apply, tile_apply, tile_apply, ha, hb, hd]
  rfl

/-- One block of query gradients. -/
theorem pay1_apply (ha : ∀ r (l : Fin 128), a (ix2 r l) = tc (C r) l.val) (hb : ∀ r (l : Fin 128), b (ix2 r l) = t1 (S r) l.val)
    (hd : ∀ r (l : Fin 128), d (ix2 r l) = t2 (S r) l.val) (p q o : Vec Ideal S512x768 .bf16) (r : Fin 512) (l : Fin 768) :
    k0_pay1 (F := Ideal) (k0_pay4 p q o) (k0_pay9 d) (k0_pay10 p q o a) (k0_pay11 p q o b) (ix2 r l)
      = back (total p q o r) (C r) (S r) l * Ideal.ofBits .f32 0x3E000000#32 := by
  rw [← pay2_apply ha hb hd]
  pointwise [k0_pay1, k0_pay10, k0_pay11, k0_pay2, k0_pay4, k0_pay5]

theorem pay3_apply (p q o : Vec Ideal S512x768 .bf16) (r : Fin 512) (l : Fin 768) :
    k0_pay3 (F := Ideal) (k0_pay6 p q o) (ix2 r l) = total p q o r l := by
  pointwise [k0_pay3, k0_pay6]
  rfl

end Stages

variable (x0 x1 x2 x3 x4 x5 x6 x7 x8 : Vec Ideal S8192x768 .bf16) (x9 x10 : Vec Ideal S8192x8 .f32) (x11 : Vec Ideal S8192x8192 .bf16)

theorem reference_101 (s : Fin 8192) (l : Fin 768) : val_main_v101 (F := Ideal) x6 x7 x8 (ix2 s l) = total x6 x7 x8 s l := by
  pointwise [val_main_v53, val_main_v52, val_main_v51, val_main_v50, val_main_v49, val_main_v101]
  rfl

theorem reference_48 (s : Fin 8192) (l : Fin 768) : val_main_v48 (F := Ideal) x3 x4 x5 (ix2 s l) = total x3 x4 x5 s l := by
  pointwise [val_main_v48, val_main_v47, val_main_v46, val_main_v45, val_main_v44]
  rfl

theorem reference_43 (s : Fin 8192) (l : Fin 768) : val_main_v43 (F := Ideal) x0 x1 x2 (ix2 s l) = total x0 x1 x2 s l := by
  pointwise [val_main_v43, val_main_v42, val_main_v41, val_main_v40, val_main_v39]
  rfl

set_option maxHeartbeats 4000000 in
theorem reference_75 (s : Fin 8192) (l : Fin 768) : val_main_v75 (F := Ideal) x3 x4 x5 x9 x10 (ix2 s l)
    = back (fun n => (val_main_v48 (F := Ideal) x3 x4 x5) (ix2 s n)) (fun e => x9 (ix2 s e)) (fun e => x10 (ix2 s e)) l := by
  have hs := s.isLt
  have hl := l.isLt
  rw [val_main_v75_apply]
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v21, val_main_v22, val_main_cst_1, val_main_cst_2, val_main_cst_3]
  unfold back
  by_cases h : l.val % 64 < 8
  · rw [if_pos h]
    split_ifs
    all_goals first | (exfalso; omega) | skip
    all_goals rw [add_zero, zero_add, add_comm]
    all_goals refine congrArg₂ (· + ·) (congrArg₂ (· * ·) (at_eq (val_main_v48 (F := Ideal) x3 x4 x5) ?_ ?_) (at_eq x9 ?_ ?_)) (congrArg₂ (· * ·) (at_eq (val_main_v48 (F := Ideal) x3 x4 x5) ?_ ?_) (at_eq x10 ?_ ?_)) <;> simp only [next] <;> omega
  · rw [if_neg h]
    by_cases h' : l.val % 64 < 16
    · rw [if_pos h']
      split_ifs
      all_goals first | (exfalso; omega) | skip
      all_goals rw [add_zero, zero_add]
      all_goals refine congrArg₂ (· + ·) (congrArg₂ (· * ·) (at_eq (val_main_v48 (F := Ideal) x3 x4 x5) ?_ ?_) (at_eq x9 ?_ ?_)) (congrArg₂ (· * ·) (congrArg (fun z : EReal => -z) (at_eq (val_main_v48 (F := Ideal) x3 x4 x5) ?_ ?_)) (at_eq x10 ?_ ?_)) <;> simp only [prev] <;> omega
    · rw [if_neg h']
      split_ifs
      all_goals first | (exfalso; omega) | skip
      all_goals rw [add_zero, add_zero]
      all_goals refine (at_eq (val_main_v48 (F := Ideal) x3 x4 x5) ?_ ?_) <;> dsimp only <;> omega

set_option maxHeartbeats 4000000 in
theorem reference_97 (s : Fin 8192) (l : Fin 768) : val_main_v97 (F := Ideal) x0 x1 x2 x9 x10 (ix2 s l)
    = back (fun n => (val_main_v43 (F := Ideal) x0 x1 x2) (ix2 s n) * Ideal.ofBits .f32 0x3E000000#32) (fun e => x9 (ix2 s e)) (fun e => x10 (ix2 s e)) l := by
  have hs := s.isLt
  have hl := l.isLt
  rw [val_main_v97_apply]
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v55, val_main_v2, val_main_v3, val_main_cst_4, val_main_cst_5, val_main_cst_6, val_main_cst_7]
  unfold back
  by_cases h : l.val % 64 < 8
  · rw [if_pos h]
    split_ifs
    all_goals first | (exfalso; omega) | skip
    all_goals rw [add_zero, zero_add, add_comm]
    all_goals refine congrArg₂ (· + ·) (congrArg₂ (· * ·) (congrArg₂ (· * ·) (at_eq (val_main_v43 (F := Ideal) x0 x1 x2) ?_ ?_) rfl) (at_eq x9 ?_ ?_)) (congrArg₂ (· * ·) (congrArg₂ (· * ·) (at_eq (val_main_v43 (F := Ideal) x0 x1 x2) ?_ ?_) rfl) (at_eq x10 ?_ ?_)) <;> simp only [next] <;> omega
  · rw [if_neg h]
    by_cases h' : l.val % 64 < 16
    · rw [if_pos h']
      split_ifs
      all_goals first | (exfalso; omega) | skip
      all_goals rw [add_zero, zero_add]
      all_goals refine congrArg₂ (· + ·) (congrArg₂ (· * ·) (congrArg₂ (· * ·) (at_eq (val_main_v43 (F := Ideal) x0 x1 x2) ?_ ?_) rfl) (at_eq x9 ?_ ?_)) (congrArg₂ (· * ·) (congrArg (fun z : EReal => -z) (congrArg₂ (· * ·) (at_eq (val_main_v43 (F := Ideal) x0 x1 x2) ?_ ?_) rfl)) (at_eq x10 ?_ ?_)) <;> simp only [prev] <;> omega
    · rw [if_neg h']
      split_ifs
      all_goals first | (exfalso; omega) | skip
      all_goals rw [add_zero, add_zero]
      all_goals refine (congrArg₂ (· * ·) (at_eq (val_main_v43 (F := Ideal) x0 x1 x2) ?_ ?_) rfl) <;> dsimp only <;> omega

/-- One eighth, the scale of the scores. -/
theorem eighth : Ideal.ofBits .f32 0x3E000000#32 = ((1 / 8 : ℝ) : EReal) := by
  simp [Ideal.ofBits, Ideal.ieee, -EReal.coe_mul]; norm_num

theorem reference_100 (s : Fin 8192) (l : Fin 768) : val_main_v100 (F := Ideal) x3 x4 x5 x9 x10 (ix2 s l)
    = back (total x3 x4 x5 s) (fun e => x9 (ix2 s e)) (fun e => x10 (ix2 s e)) l := by
  rw [val_main_v100_apply]
  refine (reference_75 x3 x4 x5 x9 x10 s l).trans ?_
  simp only [reference_48]

theorem reference_99 (s : Fin 8192) (l : Fin 768) : val_main_v99 (F := Ideal) x0 x1 x2 x9 x10 (ix2 s l)
    = back (total x0 x1 x2 s) (fun e => x9 (ix2 s e)) (fun e => x10 (ix2 s e)) l * Ideal.ofBits .f32 0x3E000000#32 := by
  rw [val_main_v99_apply]
  refine (reference_97 x0 x1 x2 x9 x10 s l).trans ?_
  simp only [reference_43]
  have h0 : (0 : EReal) ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  exact back_mul h0 ht _ _ _ l

end Cert.APrepIdeal.Rotation
-- ==== Proof.RotationBackward.lean ====
/-
  The gradient of the attention's rotation (`att_prep_bwd`): its blocks, its result, which lies over the columns of the
  array it is given, and the claim.
-/
module

public import proofs.«01_k».proof.Defs
public import Idealize.ShloMosaic.Lib.Pipeline.ValueKit
public import proofs.«01_k».proof.Proof.Products
public import proofs.«01_k».proof.Proof.RotationBackwardStages
public import proofs.«01_k».proof.Proof.Gen.APrepIdeal.Value
public import proofs.«01_k».proof.Proof.Gen.APrepRefIdeal.Run
public import proofs.«01_k».proof.Proof.Gen.APrepRefIdeal.Read

@[expose] public section

set_option maxRecDepth 16384

noncomputable section

open Idealize.ShloMosaic Idealize.ShloMosaic.TcCoe Idealize.SL.Sem

namespace Cert.APrepIdeal.Rotation

open Cert.Products (offset_zero)
open Cert.Rotation
open Cert.APrepIdeal Cert.APrepIdeal.Gen Cert.APrepIdeal.Value Cert.APrepRefIdeal.Read

/-- What a point writes: the query, the key and the value gradients, side by side. -/
theorem pieces (c : Dev nD) (i : grid0.Coords) (a1 : Memref sig .tc .vmem S512x768 .bf16) (h1 : a1.IsWhole) (a2 : Memref sig .tc .vmem S512x768 .bf16) (h2 : a2.IsWhole) (a3 : Memref sig .tc .vmem S512x768 .bf16) (h3 : a3.IsWhole) (a4 : Memref sig .tc .vmem S512x768 .bf16) (h4 : a4.IsWhole) (a5 : Memref sig .tc .vmem S512x768 .bf16) (h5 : a5.IsWhole) (a6 : Memref sig .tc .vmem S512x768 .bf16) (h6 : a6.IsWhole) (a7 : Memref sig .tc .vmem S512x768 .bf16) (h7 : a7.IsWhole) (a8 : Memref sig .tc .vmem S512x768 .bf16) (h8 : a8.IsWhole) (a9 : Memref sig .tc .vmem S512x768 .bf16) (h9 : a9.IsWhole) (a10 : Memref sig .tc .vmem S512x128 .f32) (h10 : a10.IsWhole) (a11 : Memref sig .tc .vmem S512x128 .f32) (h11 : a11.IsWhole) (a12 : Memref sig .tc .vmem S512x128 .f32) (h12 : a12.IsWhole) (a14 : Memref sig .tc .vmem S512x2304 .bf16) (h14 : a14.IsWhole)
    (x0 x1 x2 x3 x4 x5 x6 x7 x8 : Vec Ideal S512x768 .bf16) (x9 x10 x11 : Vec Ideal S512x128 .f32) : (kernelRun0_A (F := Ideal) c i a1 h1 a2 h2 a3 h3 a4 h4 a5 h5 a6 h6 a7 h7 a8 h8 a9 h9 a10 h10 a11 h11 a12 h12 a14 h14 x0 x1 x2 x3 x4 x5 x6 x7 x8 x9 x10 x11).1
      = [(⟨Rect.unit (s := S512x2304) ![0, 1536] S512x768.size inb_S512x2304_S512x768_0_1536, k0_pay3 (k0_pay6 x6 x7 x8)⟩ : View.Piece (Elt Ideal) S512x2304 .bf16),
         (⟨Rect.unit (s := S512x2304) ![0, 768] S512x768.size inb_S512x2304_S512x768_0_768, k0_pay2 (k0_pay5 x3 x4 x5) (k0_pay7 x9) (k0_pay8 x10) (k0_pay9 x11)⟩ : View.Piece (Elt Ideal) S512x2304 .bf16),
         (⟨Rect.unit (s := S512x2304) ![0, 0] S512x768.size inb_S512x2304_S512x768_0_0, k0_pay1 (k0_pay4 x0 x1 x2) (k0_pay9 x11) (k0_pay10 x0 x1 x2 x9) (k0_pay11 x0 x1 x2 x10)⟩ : View.Piece (Elt Ideal) S512x2304 .bf16)] := by
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S512x768) offset_zero, View.ld_unit_zero (S := S512x128) offset_zero]

variable (x0 x1 x2 x3 x4 x5 x6 x7 x8 : Vec Ideal S8192x768 .bf16) (x9 x10 : Vec Ideal S8192x8 .f32) (x11 : Vec Ideal S8192x8192 .bf16)

/-- The reference's result in the query, the key and the value columns. -/
theorem reference_q (s : Fin 8192) (l : Fin 768) : val_main_v103 (F := Ideal) x0 x1 x2 x3 x4 x5 x6 x7 x8 x9 x10 x11 (ix2 s ⟨4608 + l.val, by omega⟩) = val_main_v99 (F := Ideal) x0 x1 x2 x9 x10 (ix2 s l) := by
  have hl := l.isLt
  pointwise [val_main_v103]
theorem reference_k (s : Fin 8192) (l : Fin 768) : val_main_v103 (F := Ideal) x0 x1 x2 x3 x4 x5 x6 x7 x8 x9 x10 x11 (ix2 s ⟨4608 + (768 + l.val), by omega⟩) = val_main_v100 (F := Ideal) x3 x4 x5 x9 x10 (ix2 s l) := by
  have hl := l.isLt
  pointwise [val_main_v103]
theorem reference_v (s : Fin 8192) (l : Fin 768) : val_main_v103 (F := Ideal) x0 x1 x2 x3 x4 x5 x6 x7 x8 x9 x10 x11 (ix2 s ⟨4608 + (1536 + l.val), by omega⟩) = val_main_v101 (F := Ideal) x6 x7 x8 (ix2 s l) := by
  have hl := l.isLt
  pointwise [val_main_v103]
  split_ifs
  all_goals first | (exfalso; omega) | skip
  all_goals refine at_eq _ ?_ ?_ <;> dsimp only <;> omega

/-- Outside these columns it is the array it is laid over. -/
theorem reference_outside : val_main_v103 (F := Ideal) x0 x1 x2 x3 x4 x5 x6 x7 x8 x9 x10 x11
    = fun i => if 4608 ≤ (i 1 : ℕ) ∧ (i 1 : ℕ) < 6912 then val_main_v103 (F := Ideal) x0 x1 x2 x3 x4 x5 x6 x7 x8 x9 x10 x11 i else x11 i := by
  funext i
  obtain ⟨s, j, rfl⟩ : ∃ (s j : Fin 8192), i = ix2 s j := ⟨i 0, i 1, eq_ix2 i⟩
  have hj := j.isLt
  by_cases h : 4608 ≤ j.val ∧ j.val < 6912
  · exact (if_pos h).symm
  · refine Eq.trans ?_ (if_neg h).symm
    pointwise [val_main_v103, val_main_v98, val_main_v102]
    split_ifs
    all_goals first | (exfalso; omega) | skip
    all_goals refine at_eq x11 ?_ ?_ <;> dsimp only <;> omega

variable (m : (ℓ : Loc nD τ sig) → Buf (Elt Ideal) ℓ)

/-- The table `main_v10` as the host lays it out. -/
theorem host_c (c : Dev nD) :
    (V m c main_v10 : Vec Ideal S8192x128 .f32) = shapeCast S8192x128 (broadcastInDim S1x8192x2x64 ![0, 1, 2, 3] bcast_S1x8192x1x64_S1x8192x2x64_0_1_2_3
      (shapeCast S1x8192x1x64 (concatenate S8192x64 1 [⟨S8192x8, (m ((c : Thread nD τ).loc main_arg9) : Vec Ideal S8192x8 .f32)⟩, ⟨S8192x8, (m ((c : Thread nD τ).loc main_arg9) : Vec Ideal S8192x8 .f32)⟩, ⟨S8192x48, broadcastInDim S8192x48 ![] bcast_S_S8192x48 (constant (F := Ideal) S_ .f32 0x3F800000#32)⟩] concatenates_S8192x8_S8192x8_S8192x48_S8192x64_d1))) := by
  rfl

/-- One entry of the table `main_v10`. -/
theorem table_c (c : Dev nD) (s : Fin 8192) (l : Fin 128) :
    (V m c main_v10 : Vec Ideal S8192x128 .f32) (ix2 s l) = tc (fun e => (m ((c : Thread nD τ).loc main_arg9) : Vec Ideal S8192x8 .f32) (ix2 s e)) l.val := by
  have hs := s.isLt
  have hl := l.isLt
  rw [host_c]
  pointwise
  unfold tc
  by_cases h : l.val % 64 < 8
  · rw [dif_pos h, if_pos (show l.val % 64 < 16 by omega)]
    refine congrArg (m ((c : Thread nD τ).loc main_arg9) : Vec Ideal S8192x8 .f32) (congrArg₂ ix2 rfl (Fin.ext ?_)); dsimp only; omega
  · rw [dif_neg h]
    by_cases h' : l.val % 64 < 16
    · rw [dif_pos (show l.val % 64 - 8 < 8 by omega), if_pos h']
      refine congrArg (m ((c : Thread nD τ).loc main_arg9) : Vec Ideal S8192x8 .f32) (congrArg₂ ix2 rfl (Fin.ext ?_)); dsimp only; omega
    · rw [dif_neg (show ¬l.val % 64 - 8 < 8 by omega), if_neg h']

/-- One entry of the table `main_v13`. -/
theorem table_1 (c : Dev nD) (s : Fin 8192) (l : Fin 128) :
    (V m c main_v13 : Vec Ideal S8192x128 .f32) (ix2 s l) = t1 (fun e => (m ((c : Thread nD τ).loc main_arg10) : Vec Ideal S8192x8 .f32) (ix2 s e)) l.val := by
  have hs := s.isLt
  have hl := l.isLt
  entry_read
  pointwise
  unfold t1
  by_cases h : l.val % 64 < 8
  · rw [dif_pos h, if_pos h]
    refine congrArg (fun z : EReal => -z) ?_
    refine congrArg (m ((c : Thread nD τ).loc main_arg10) : Vec Ideal S8192x8 .f32) (congrArg₂ ix2 rfl (Fin.ext ?_)); dsimp only; omega
  · rw [dif_neg h, if_neg h]

/-- The table `main_v16` as the host lays it out. -/
theorem host_2 (c : Dev nD) :
    (V m c main_v16 : Vec Ideal S8192x128 .f32) = shapeCast S8192x128 (broadcastInDim S1x8192x2x64 ![0, 1, 2, 3] bcast_S1x8192x1x64_S1x8192x2x64_0_1_2_3
      (shapeCast S1x8192x1x64 (concatenate S8192x64 1 [⟨S8192x8, broadcastInDim S8192x8 ![] bcast_S_S8192x8 (constant (F := Ideal) S_ .f32 0x00000000#32)⟩, ⟨S8192x8, (m ((c : Thread nD τ).loc main_arg10) : Vec Ideal S8192x8 .f32)⟩, ⟨S8192x48, broadcastInDim S8192x48 ![] bcast_S_S8192x48 (constant (F := Ideal) S_ .f32 0x00000000#32)⟩] concatenates_S8192x8_S8192x8_S8192x48_S8192x64_d1))) := by
  rfl

/-- One entry of the table `main_v16`. -/
theorem table_2 (c : Dev nD) (s : Fin 8192) (l : Fin 128) :
    (V m c main_v16 : Vec Ideal S8192x128 .f32) (ix2 s l) = t2 (fun e => (m ((c : Thread nD τ).loc main_arg10) : Vec Ideal S8192x8 .f32) (ix2 s e)) l.val := by
  have hs := s.isLt
  have hl := l.isLt
  rw [host_2]
  pointwise
  unfold t2
  by_cases h : l.val % 64 < 8
  · rw [dif_pos h, if_pos h]
  · rw [dif_neg h, if_neg h]
    by_cases h' : l.val % 64 < 16
    · rw [dif_pos (show l.val % 64 - 8 < 8 by omega), if_pos h']
      refine congrArg (m ((c : Thread nD τ).loc main_arg10) : Vec Ideal S8192x8 .f32) (congrArg₂ ix2 rfl (Fin.ext ?_)); dsimp only; omega
    · rw [dif_neg (show ¬l.val % 64 - 8 < 8 by omega), if_neg h']

theorem points : cfg0.N = 16 := N_0

/-- The rows of the arrays that grid point `t` works on. -/
def row (t : Fin cfg0.N) (r : Fin 512) : Fin 8192 :=
  ⟨512 * t.val + r.val, by have := r.isLt; have := lt_of_lt_of_eq t.isLt points; omega⟩

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_11 : ∀ t : Fin cfg0.N, win0_11.index t (0 : Fin 2) = t.val ∧ win0_11.index t (1 : Fin 2) = 0 :=
  (by decide +kernel : ∀ t : Fin grid0.N, _)
theorem index_12 : ∀ t : Fin cfg0.N, win0_12.index t (0 : Fin 2) = t.val ∧ win0_12.index t (1 : Fin 2) = 2 :=
  (by decide +kernel : ∀ t : Fin grid0.N, _)

theorem block_0 (c : Dev nD) (t : Fin cfg0.N) (r : Fin 512) (l : Fin 768) : (iblk m c 0 t : Vec Ideal S512x768 .bf16) (ix2 r l)
    = (m ((c : Thread nD τ).loc main_arg0) : Vec Ideal S8192x768 .bf16) (ix2 (row t r) l) := by
  obtain ⟨e0, e1⟩ := index_0 t
  unfold iblk
  rw [View.read_apply]
  show (V m c main_arg0 : Vec Ideal S8192x768 .bf16) _ = _
  rw [V_main_arg0 m c]
  refine congrArg (m ((c : Thread nD τ).loc main_arg0) : Vec Ideal S8192x768 .bf16) ?_
  funext d
  apply Fin.ext
  match d with
  | ⟨0, _⟩ => show win0_0.index t 0 * 512 + 1 * r.val = 512 * t.val + r.val; rw [e0]; omega
  | ⟨1, _⟩ => show win0_0.index t 1 * 768 + 1 * l.val = l.val; rw [e1]; omega

theorem block_1 (c : Dev nD) (t : Fin cfg0.N) (r : Fin 512) (l : Fin 768) : (iblk m c 1 t : Vec Ideal S512x768 .bf16) (ix2 r l)
    = (m ((c : Thread nD τ).loc main_arg1) : Vec Ideal S8192x768 .bf16) (ix2 (row t r) l) := by
  obtain ⟨e0, e1⟩ := index_1 t
  unfold iblk
  rw [View.read_apply]
  show (V m c main_arg1 : Vec Ideal S8192x768 .bf16) _ = _
  rw [V_main_arg1 m c]
  refine congrArg (m ((c : Thread nD τ).loc main_arg1) : Vec Ideal S8192x768 .bf16) ?_
  funext d
  apply Fin.ext
  match d with
  | ⟨0, _⟩ => show win0_1.index t 0 * 512 + 1 * r.val = 512 * t.val + r.val; rw [e0]; omega
  | ⟨1, _⟩ => show win0_1.index t 1 * 768 + 1 * l.val = l.val; rw [e1]; omega

theorem block_2 (c : Dev nD) (t : Fin cfg0.N) (r : Fin 512) (l : Fin 768) : (iblk m c 2 t : Vec Ideal S512x768 .bf16) (ix2 r l)
    = (m ((c : Thread nD τ).loc main_arg2) : Vec Ideal S8192x768 .bf16) (ix2 (row t r) l) := by
  obtain ⟨e0, e1⟩ := index_2 t
  unfold iblk
  rw [View.read_apply]
  show (V m c main_arg2 : Vec Ideal S8192x768 .bf16) _ = _
  rw [V_main_arg2 m c]
  refine congrArg (m ((c : Thread nD τ).loc main_arg2) : Vec Ideal S8192x768 .bf16) ?_
  funext d
  apply Fin.ext
  match d with
  | ⟨0, _⟩ => show win0_2.index t 0 * 512 + 1 * r.val = 512 * t.val + r.val; rw [e0]; omega
  | ⟨1, _⟩ => show win0_2.index t 1 * 768 + 1 * l.val = l.val; rw [e1]; omega

theorem block_3 (c : Dev nD) (t : Fin cfg0.N) (r : Fin 512) (l : Fin 768) : (iblk m c 3 t : Vec Ideal S512x768 .bf16) (ix2 r l)
    = (m ((c : Thread nD τ).loc main_arg3) : Vec Ideal S8192x768 .bf16) (ix2 (row t r) l) := by
  obtain ⟨e0, e1⟩ := index_3 t
  unfold iblk
  rw [View.read_apply]
  show (V m c main_arg3 : Vec Ideal S8192x768 .bf16) _ = _
  rw [V_main_arg3 m c]
  refine congrArg (m ((c : Thread nD τ).loc main_arg3) : Vec Ideal S8192x768 .bf16) ?_
  funext d
  apply Fin.ext
  match d with
  | ⟨0, _⟩ => show win0_3.index t 0 * 512 + 1 * r.val = 512 * t.val + r.val; rw [e0]; omega
  | ⟨1, _⟩ => show win0_3.index t 1 * 768 + 1 * l.val = l.val; rw [e1]; omega

theorem block_4 (c : Dev nD) (t : Fin cfg0.N) (r : Fin 512) (l : Fin 768) : (iblk m c 4 t : Vec Ideal S512x768 .bf16) (ix2 r l)
    = (m ((c : Thread nD τ).loc main_arg4) : Vec Ideal S8192x768 .bf16) (ix2 (row t r) l) := by
  obtain ⟨e0, e1⟩ := index_4 t
  unfold iblk
  rw [View.read_apply]
  show (V m c main_arg4 : Vec Ideal S8192x768 .bf16) _ = _
  rw [V_main_arg4 m c]
  refine congrArg (m ((c : Thread nD τ).loc main_arg4) : Vec Ideal S8192x768 .bf16) ?_
  funext d
  apply Fin.ext
  match d with
  | ⟨0, _⟩ => show win0_4.index t 0 * 512 + 1 * r.val = 512 * t.val + r.val; rw [e0]; omega
  | ⟨1, _⟩ => show win0_4.index t 1 * 768 + 1 * l.val = l.val; rw [e1]; omega

theorem block_5 (c : Dev nD) (t : Fin cfg0.N) (r : Fin 512) (l : Fin 768) : (iblk m c 5 t : Vec Ideal S512x768 .bf16) (ix2 r l)
    = (m ((c : Thread nD τ).loc main_arg5) : Vec Ideal S8192x768 .bf16) (ix2 (row t r) l) := by
  obtain ⟨e0, e1⟩ := index_5 t
  unfold iblk
  rw [View.read_apply]
  show (V m c main_arg5 : Vec Ideal S8192x768 .bf16) _ = _
  rw [V_main_arg5 m c]
  refine congrArg (m ((c : Thread nD τ).loc main_arg5) : Vec Ideal S8192x768 .bf16) ?_
  funext d
  apply Fin.ext
  match d with
  | ⟨0, _⟩ => show win0_5.index t 0 * 512 + 1 * r.val = 512 * t.val + r.val; rw [e0]; omega
  | ⟨1, _⟩ => show win0_5.index t 1 * 768 + 1 * l.val = l.val; rw [e1]; omega

theorem block_6 (c : Dev nD) (t : Fin cfg0.N) (r : Fin 512) (l : Fin 768) : (iblk m c 6 t : Vec Ideal S512x768 .bf16) (ix2 r l)
    = (m ((c : Thread nD τ).loc main_arg6) : Vec Ideal S8192x768 .bf16) (ix2 (row t r) l) := by
  obtain ⟨e0, e1⟩ := index_6 t
  unfold iblk
  rw [View.read_apply]
  show (V m c main_arg6 : Vec Ideal S8192x768 .bf16) _ = _
  rw [V_main_arg6 m c]
  refine congrArg (m ((c : Thread nD τ).loc main_arg6) : Vec Ideal S8192x768 .bf16) ?_
  funext d
  apply Fin.ext
  match d with
  | ⟨0, _⟩ => show win0_6.index t 0 * 512 + 1 * r.val = 512 * t.val + r.val; rw [e0]; omega
  | ⟨1, _⟩ => show win0_6.index t 1 * 768 + 1 * l.val = l.val; rw [e1]; omega

theorem block_7 (c : Dev nD) (t : Fin cfg0.N) (r : Fin 512) (l : Fin 768) : (iblk m c 7 t : Vec Ideal S512x768 .bf16) (ix2 r l)
    = (m ((c : Thread nD τ).loc main_arg7) : Vec Ideal S8192x768 .bf16) (ix2 (row t r) l) := by
  obtain ⟨e0, e1⟩ := index_7 t
  unfold iblk
  rw [View.read_apply]
  show (V m c main_arg7 : Vec Ideal S8192x768 .bf16) _ = _
  rw [V_main_arg7 m c]
  refine congrArg (m ((c : Thread nD τ).loc main_arg7) : Vec Ideal S8192x768 .bf16) ?_
  funext d
  apply Fin.ext
  match d with
  | ⟨0, _⟩ => show win0_7.index t 0 * 512 + 1 * r.val = 512 * t.val + r.val; rw [e0]; omega
  | ⟨1, _⟩ => show win0_7.index t 1 * 768 + 1 * l.val = l.val; rw [e1]; omega

theorem block_8 (c : Dev nD) (t : Fin cfg0.N) (r : Fin 512) (l : Fin 768) : (iblk m c 8 t : Vec Ideal S512x768 .bf16) (ix2 r l)
    = (m ((c : Thread nD τ).loc main_arg8) : Vec Ideal S8192x768 .bf16) (ix2 (row t r) l) := by
  obtain ⟨e0, e1⟩ := index_8 t
  unfold iblk
  rw [View.read_apply]
  show (V m c main_arg8 : Vec Ideal S8192x768 .bf16) _ = _
  rw [V_main_arg8 m c]
  refine congrArg (m ((c : Thread nD τ).loc main_arg8) : Vec Ideal S8192x768 .bf16) ?_
  funext d
  apply Fin.ext
  match d with
  | ⟨0, _⟩ => show win0_8.index t 0 * 512 + 1 * r.val = 512 * t.val + r.val; rw [e0]; omega
  | ⟨1, _⟩ => show win0_8.index t 1 * 768 + 1 * l.val = l.val; rw [e1]; omega

theorem block_9 (c : Dev nD) (t : Fin cfg0.N) (r : Fin 512) (l : Fin 128) : (iblk m c 9 t : Vec Ideal S512x128 .f32) (ix2 r l)
    = tc (fun e => (m ((c : Thread nD τ).loc main_arg9) : Vec Ideal S8192x8 .f32) (ix2 (row t r) e)) l.val := by
  obtain ⟨e0, e1⟩ := index_9 t
  rw [← table_c]
  unfold iblk
  rw [View.read_apply]
  show (V m c main_v10 : Vec Ideal S8192x128 .f32) _ = (V m c main_v10 : Vec Ideal S8192x128 .f32) _
  refine congrArg (V m c main_v10 : Vec Ideal S8192x128 .f32) ?_
  funext d
  apply Fin.ext
  match d with
  | ⟨0, _⟩ => show win0_9.index t 0 * 512 + 1 * r.val = 512 * t.val + r.val; rw [e0]; omega
  | ⟨1, _⟩ => show win0_9.index t 1 * 128 + 1 * l.val = l.val; rw [e1]; omega

theorem block_10 (c : Dev nD) (t : Fin cfg0.N) (r : Fin 512) (l : Fin 128) : (iblk m c 10 t : Vec Ideal S512x128 .f32) (ix2 r l)
    = t1 (fun e => (m ((c : Thread nD τ).loc main_arg10) : Vec Ideal S8192x8 .f32) (ix2 (row t r) e)) l.val := by
  obtain ⟨e0, e1⟩ := index_10 t
  rw [← table_1]
  unfold iblk
  rw [View.read_apply]
  show (V m c main_v13 : Vec Ideal S8192x128 .f32) _ = (V m c main_v13 : Vec Ideal S8192x128 .f32) _
  refine congrArg (V m c main_v13 : Vec Ideal S8192x128 .f32) ?_
  funext d
  apply Fin.ext
  match d with
  | ⟨0, _⟩ => show win0_10.index t 0 * 512 + 1 * r.val = 512 * t.val + r.val; rw [e0]; omega
  | ⟨1, _⟩ => show win0_10.index t 1 * 128 + 1 * l.val = l.val; rw [e1]; omega

theorem block_11 (c : Dev nD) (t : Fin cfg0.N) (r : Fin 512) (l : Fin 128) : (iblk m c 11 t : Vec Ideal S512x128 .f32) (ix2 r l)
    = t2 (fun e => (m ((c : Thread nD τ).loc main_arg10) : Vec Ideal S8192x8 .f32) (ix2 (row t r) e)) l.val := by
  obtain ⟨e0, e1⟩ := index_11 t
  rw [← table_2]
  unfold iblk
  rw [View.read_apply]
  show (V m c main_v16 : Vec Ideal S8192x128 .f32) _ = (V m c main_v16 : Vec Ideal S8192x128 .f32) _
  refine congrArg (V m c main_v16 : Vec Ideal S8192x128 .f32) ?_
  funext d
  apply Fin.ext
  match d with
  | ⟨0, _⟩ => show win0_11.index t 0 * 512 + 1 * r.val = 512 * t.val + r.val; rw [e0]; omega
  | ⟨1, _⟩ => show win0_11.index t 1 * 128 + 1 * l.val = l.val; rw [e1]; omega

/-- The three dilations' gradients of a point's rows, added up. -/
theorem total_0 (c : Dev nD) (t : Fin cfg0.N) (r : Fin 512) : total (iblk m c 0 t : Vec Ideal S512x768 .bf16) (iblk m c 1 t : Vec Ideal S512x768 .bf16) (iblk m c 2 t : Vec Ideal S512x768 .bf16) r
    = total (m ((c : Thread nD τ).loc main_arg0) : Vec Ideal S8192x768 .bf16) (m ((c : Thread nD τ).loc main_arg1) : Vec Ideal S8192x768 .bf16) (m ((c : Thread nD τ).loc main_arg2) : Vec Ideal S8192x768 .bf16) (row t r) := by
  funext l
  unfold total
  rw [block_0, block_1, block_2]
theorem total_3 (c : Dev nD) (t : Fin cfg0.N) (r : Fin 512) : total (iblk m c 3 t : Vec Ideal S512x768 .bf16) (iblk m c 4 t : Vec Ideal S512x768 .bf16) (iblk m c 5 t : Vec Ideal S512x768 .bf16) r
    = total (m ((c : Thread nD τ).loc main_arg3) : Vec Ideal S8192x768 .bf16) (m ((c : Thread nD τ).loc main_arg4) : Vec Ideal S8192x768 .bf16) (m ((c : Thread nD τ).loc main_arg5) : Vec Ideal S8192x768 .bf16) (row t r) := by
  funext l
  unfold total
  rw [block_3, block_4, block_5]
theorem total_6 (c : Dev nD) (t : Fin cfg0.N) (r : Fin 512) : total (iblk m c 6 t : Vec Ideal S512x768 .bf16) (iblk m c 7 t : Vec Ideal S512x768 .bf16) (iblk m c 8 t : Vec Ideal S512x768 .bf16) r
    = total (m ((c : Thread nD τ).loc main_arg6) : Vec Ideal S8192x768 .bf16) (m ((c : Thread nD τ).loc main_arg7) : Vec Ideal S8192x768 .bf16) (m ((c : Thread nD τ).loc main_arg8) : Vec Ideal S8192x768 .bf16) (row t r) := by
  funext l
  unfold total
  rw [block_6, block_7, block_8]

/-- What a point leaves in the output block. -/
theorem out_12 (c : Dev nD) (t : Fin cfg0.N) (r : Fin 512) (l : Fin 2304) :
    (outsAt0 m c t : Vec Ideal S512x2304 .bf16) (ix2 r l) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (row t r) ⟨4608 + l.val, by omega⟩) := by
  unfold outsAt0 out0_A_12
  rw [View.read_writes_eq_canon _ _ _ (cover0_A_12 _ _ _ _ _ _ _ _ _ _ _ _ _ _ _ _ _ _ _ _ _ _ _ _ _ _ _ _ _ _ _ _ _ _ _ _ _ _ _ _ )]
  refine View.canon_apply_of_pieces (fun y : S512x2304.Idx => val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (row t (y 0)) ⟨4608 + (y 1).val, by have := (y 1).isLt; have h : S512x2304.size 1 = 2304 := rfl; omega⟩)) _ ?_ _ (cover0_A_12 _ _ _ _ _ _ _ _ _ _ _ _ _ _ _ _ _ _ _ _ _ _ _ _ _ _ _ _ _ _ _ _ _ _ _ _ _ _ _ _ _ )
  rw [pieces]
  intro p hp x
  simp only [List.mem_cons, List.not_mem_nil, or_false] at hp
  rcases hp with rfl | rfl | rfl
  · obtain ⟨r, l, rfl⟩ : ∃ (r : Fin 512) (l : Fin 768), x = ix2 r l := ⟨x 0, x 1, eq_ix2 x⟩
    refine (pay3_apply _ _ _ r l).trans ?_
    rw [total_6, ← reference_101]
    refine (reference_v (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) l).symm.trans ?_
    refine at_eq _ ?_ ?_
    · show 512 * t.val + r.val = 512 * t.val + (0 + 1 * r.val); omega
    · show 4608 + (1536 + l.val) = 4608 + (1536 + 1 * l.val); omega
  · obtain ⟨r, l, rfl⟩ : ∃ (r : Fin 512) (l : Fin 768), x = ix2 r l := ⟨x 0, x 1, eq_ix2 x⟩
    refine (pay2_apply (block_9 m c t) (block_10 m c t) (block_11 m c t) _ _ _ r l).trans ?_
    rw [total_3, ← reference_100]
    refine (reference_k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) l).symm.trans ?_
    refine at_eq _ ?_ ?_
    · show 512 * t.val + r.val = 512 * t.val + (0 + 1 * r.val); omega
    · show 4608 + (768 + l.val) = 4608 + (768 + 1 * l.val); omega
  · obtain ⟨r, l, rfl⟩ : ∃ (r : Fin 512) (l : Fin 768), x = ix2 r l := ⟨x 0, x 1, eq_ix2 x⟩
    refine (pay1_apply (block_9 m c t) (block_10 m c t) (block_11 m c t) _ _ _ r l).trans ?_
    rw [total_0, ← reference_99]
    refine (reference_q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) l).symm.trans ?_
    refine at_eq _ ?_ ?_
    · show 512 * t.val + r.val = 512 * t.val + (0 + 1 * r.val); omega
    · show 4608 + l.val = 4608 + (0 + 1 * l.val); omega

/-- No block of the output is cut. -/
theorem extent_0 : ∀ t : Fin cfg0.N, (cfg0.win 12).xsize (cfg0.grid.coords t) (0 : Fin 2) ≤ 512 := by decide +kernel
theorem extent_1 : ∀ t : Fin cfg0.N, (cfg0.win 12).xsize (cfg0.grid.coords t) (1 : Fin 2) ≤ 2304 := by decide +kernel

/-- Outside the three column blocks the result is the array it is laid over. -/
theorem final_of (c : Dev nD) (W : Vec Ideal S8192x8192 .bf16)
    (hW : ∀ (t : Fin cfg0.N) (r : Fin 512) (l : Fin 2304), (outsAt0 m c t : Vec Ideal S512x2304 .bf16) (ix2 r l) = W (ix2 (row t r) ⟨4608 + l.val, by omega⟩)) :
    (dats m 0 c).arrAt 12 cfg0.N
    = fun i => if 4608 ≤ (i 1 : ℕ) ∧ (i 1 : ℕ) < 6912 then W i else (dats m 0 c).A 12 i := by
  refine (dats m 0 c).arrAt_eq_of_coversWhere 12 _ (fun β => β 1 = 2) (by decide +kernel) (fun t hf y => ?_)
    (fun j => by blk_simp [Pipeline.Window.cell_apply]; omega)
  obtain ⟨e0, e1⟩ := index_12 t
  rw [after0_12]
  have h0 : (y (0 : Fin 2)).val < 512 := Nat.lt_of_lt_of_le (y (0 : Fin 2)).isLt (extent_0 t)
  have h1 : (y (1 : Fin 2)).val < 2304 := Nat.lt_of_lt_of_le (y (1 : Fin 2)).isLt (extent_1 t)
  blk_simp
  have hy : (cfg0.win 12).xinj (cfg0.grid.coords t) y = ix2 (⟨(y (0 : Fin 2)).val, h0⟩ : Fin 512) (⟨(y (1 : Fin 2)).val, h1⟩ : Fin 2304) := by
    funext d
    apply Fin.ext
    match d with
    | ⟨0, _⟩ => rfl
    | ⟨1, _⟩ => rfl
  refine (congrArg (outsAt0 m c t : Vec Ideal S512x2304 .bf16) hy).trans ((hW t _ _).trans ?_)
  refine congrArg W ?_
  funext d
  apply Fin.ext
  match d with
  | ⟨0, _⟩ => show 512 * t.val + (y (0 : Fin 2)).val = win0_12.index t 0 * 512 + 1 * (y (0 : Fin 2)).val; rw [e0]; omega
  | ⟨1, _⟩ => show 4608 + (y (1 : Fin 2)).val = win0_12.index t 1 * 2304 + 1 * (y (1 : Fin 2)).val; rw [e1]; omega

theorem final (c : Dev nD) : (dats m 0 c).arrAt 12 cfg0.N
    = fun i => if 4608 ≤ (i 1 : ℕ) ∧ (i 1 : ℕ) < 6912 then val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i else (dats m 0 c).A 12 i :=
  final_of m c _ (out_12 m c)

/-- The gradients turned back by the kernel are the reference's. -/
theorem algebraic : Cert.algebraic_APrepIdeal_APrepRefIdeal := by
  pair_intro
  · run_from run_blocks m g
  · refine θ_run_mono (Cert.APrepRefIdeal.Value.run m' g') ?_
    intro r hr c
    obtain ⟨h0, h1, h2, h3, h4, h5, h6, h7, h8, h9, h10, h11⟩ := hagree c
    refine ⟨(hr c).1.trans ((val_main_v103_eq _ _).trans ?_), (hr c).2⟩
    rw [final m c, h0, h1, h2, h3, h4, h5, h6, h7, h8, h9, h10, h11]
    exact reference_outside _ _ _ _ _ _ _ _ _ _ _ _

/-- The reference terminates. -/
theorem frame_reference : Cert.quiescent_APrepRefIdeal := fun m g _ =>
  (θ_run _ _ _).mono (fun r h => ⟨fun c => (h c).2, sem_eq_zero_of_no_sems (by decide) r.2⟩) (Cert.APrepRefIdeal.Value.run m g)

end Cert.APrepIdeal.Rotation
-- ==== Proof.RotationForwardStages.lean ====
/-
  The call that rotates the query and the key columns (`att_prep_fwd`): its blocks' values, and the reference's results,
  both as the rotation of rows.
-/
module

public import proofs.«01_k».proof.Defs
public import Idealize.ShloMosaic.Lib.Pipeline.ValueKit
public import proofs.«01_k».proof.Proof.Products
public import proofs.«01_k».proof.Proof.RotationLaws
public import proofs.«01_k».proof.Proof.Gen.APrepFIdeal.Value
public import proofs.«01_k».proof.Proof.Gen.APrepFRefIdeal.Run
public import proofs.«01_k».proof.Proof.Gen.APrepFRefIdeal.Read

@[expose] public section

set_option maxRecDepth 16384

noncomputable section

open Idealize.ShloMosaic Idealize.ShloMosaic.TcCoe Idealize.SL.Sem

namespace Cert.APrepFIdeal.Rotation

open Cert.Products (offset_zero)
open Cert.Rotation
open Cert.APrepFIdeal Cert.APrepFIdeal.Gen Cert.APrepFIdeal.Value Cert.APrepFRefIdeal.Read

section Stages

variable {a b d : Vec Ideal S512x128 .f32} {C S : Fin 512 → Fin 8 → EReal}

/-- One block of rotated rows. -/
theorem pay5_apply (ha : ∀ r (l : Fin 128), a (ix2 r l) = tc (C r) l.val) (hb : ∀ r (l : Fin 128), b (ix2 r l) = t1 (S r) l.val)
    (hd : ∀ r (l : Fin 128), d (ix2 r l) = t2 (S r) l.val) (x : Vec Ideal S512x768 .f32) (r : Fin 512) (l : Fin 768) :
    k0_pay5 (F := Ideal) a b d x (ix2 r l) = turn (fun l => x (ix2 r l)) (C r) (S r) l := by
  rw [← turn_eq]
  pointwise [k0_pay5]
  unfold k0_pay1 k0_pay2 k0_pay3
  simp only [shapeCast_self]
  rw [tile_apply, tile_apply, tile_apply, ha, hb, hd]
  refine congrArg₂ (· + ·) (congrArg₂ (· + ·) rfl (congrArg₂ (· * ·) (at_eq x rfl ?_) rfl)) (congrArg₂ (· * ·) (at_eq x rfl ?_) rfl)
  · simp only [next]; omega
  · simp only [prev]; omega

theorem pay4_apply (ha : ∀ r (l : Fin 128), a (ix2 r l) = tc (C r) l.val) (hb : ∀ r (l : Fin 128), b (ix2 r l) = t1 (S r) l.val)
    (hd : ∀ r (l : Fin 128), d (ix2 r l) = t2 (S r) l.val) (x : Vec Ideal S512x768 .f32) (r : Fin 512) (l : Fin 768) :
    k0_pay4 (F := Ideal) a b d x (ix2 r l) = turn (fun l => x (ix2 r l)) (C r) (S r) l * Ideal.ofBits .f32 0x3E000000#32 := by
  rw [← pay5_apply ha hb hd]
  pointwise [k0_pay4, k0_pay5]

variable (x0 : Vec Ideal S8192x8192 .f32) (x1 x2 : Vec Ideal S8192x8 .f32)

set_option maxHeartbeats 4000000 in
theorem reference_42 (s : Fin 8192) (l : Fin 768) : val_main_v42 (F := Ideal) x0 x1 x2 (ix2 s l)
    = turn (fun l => x0 (ix2 s ⟨5376 + l.val, by omega⟩)) (fun e => x1 (ix2 s e)) (fun e => x2 (ix2 s e)) l := by
  have hs := s.isLt
  have hl := l.isLt
  rw [val_main_v42_apply, val_main_v40_apply]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v1]
  unfold turn
  by_cases h : l.val % 64 < 8
  · rw [if_pos h]
    split_ifs
    all_goals first | (exfalso; omega) | skip
    all_goals refine congrArg₂ (· - ·) (congrArg₂ (· * ·) (at_eq x0 ?_ ?_) (at_eq x1 ?_ ?_)) (congrArg₂ (· * ·) (at_eq x0 ?_ ?_) (at_eq x2 ?_ ?_)) <;> simp only [next] <;> omega
  · rw [if_neg h]
    by_cases h' : l.val % 64 < 16
    · rw [if_pos h']
      split_ifs
      all_goals first | (exfalso; omega) | skip
      all_goals refine congrArg₂ (· + ·) (congrArg₂ (· * ·) (at_eq x0 ?_ ?_) (at_eq x1 ?_ ?_)) (congrArg₂ (· * ·) (at_eq x0 ?_ ?_) (at_eq x2 ?_ ?_)) <;> simp only [prev] <;> omega
    · rw [if_neg h']
      split_ifs
      all_goals first | (exfalso; omega) | skip
      all_goals refine at_eq x0 ?_ ?_ <;> dsimp only <;> omega

set_option maxHeartbeats 4000000 in
theorem reference_41 (s : Fin 8192) (l : Fin 768) : val_main_v41 (F := Ideal) x0 x1 x2 (ix2 s l)
    = turn (fun l => x0 (ix2 s ⟨4608 + l.val, by omega⟩)) (fun e => x1 (ix2 s e)) (fun e => x2 (ix2 s e)) l * Ideal.ofBits .f32 0x3E000000#32 := by
  have hs := s.isLt
  have hl := l.isLt
  rw [val_main_v41_apply, val_main_v39_apply]
  show val_main_v19 (F := Ideal) x0 x1 x2 _ * _ = _
  refine congrArg₂ (· * ·) ?_ rfl
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0]
  unfold turn
  by_cases h : l.val % 64 < 8
  · rw [if_pos h]
    split_ifs
    all_goals first | (exfalso; omega) | skip
    all_goals refine congrArg₂ (· - ·) (congrArg₂ (· * ·) (at_eq x0 ?_ ?_) (at_eq x1 ?_ ?_)) (congrArg₂ (· * ·) (at_eq x0 ?_ ?_) (at_eq x2 ?_ ?_)) <;> simp only [next] <;> omega
  · rw [if_neg h]
    by_cases h' : l.val % 64 < 16
    · rw [if_pos h']
      split_ifs
      all_goals first | (exfalso; omega) | skip
      all_goals refine congrArg₂ (· + ·) (congrArg₂ (· * ·) (at_eq x0 ?_ ?_) (at_eq x1 ?_ ?_)) (congrArg₂ (· * ·) (at_eq x0 ?_ ?_) (at_eq x2 ?_ ?_)) <;> simp only [prev] <;> omega
    · rw [if_neg h']
      split_ifs
      all_goals first | (exfalso; omega) | skip
      all_goals refine at_eq x0 ?_ ?_ <;> dsimp only <;> omega

theorem reference_43 (s : Fin 8192) (l : Fin 768) : val_main_v43 (F := Ideal) x0 (ix2 s l) = x0 (ix2 s ⟨6144 + l.val, by omega⟩) := by
  pointwise [val_main_v43, val_main_v2]

end Stages

end Cert.APrepFIdeal.Rotation
-- ==== Proof.RotationForward.lean ====
/-
  The call that rotates the query and the key columns (`att_prep_fwd`): its blocks, its three results and the claim.
-/
module

public import proofs.«01_k».proof.Defs
public import Idealize.ShloMosaic.Lib.Pipeline.ValueKit
public import proofs.«01_k».proof.Proof.Products
public import proofs.«01_k».proof.Proof.RotationForwardStages
public import proofs.«01_k».proof.Proof.Gen.APrepFIdeal.Value
public import proofs.«01_k».proof.Proof.Gen.APrepFRefIdeal.Run
public import proofs.«01_k».proof.Proof.Gen.APrepFRefIdeal.Read

@[expose] public section

set_option maxRecDepth 16384

noncomputable section

open Idealize.ShloMosaic Idealize.ShloMosaic.TcCoe Idealize.SL.Sem

namespace Cert.APrepFIdeal.Rotation

open Cert.Products (offset_zero)
open Cert.Rotation
open Cert.APrepFIdeal Cert.APrepFIdeal.Gen Cert.APrepFIdeal.Value Cert.APrepFRefIdeal.Read

/-- What a point leaves in output block 6. -/
theorem out_block_6 (c : Dev nD) (i : grid0.Coords) (a1 : Memref sig .tc .vmem S512x768 .f32) (h1 : a1.IsWhole) (a2 : Memref sig .tc .vmem S512x768 .f32) (h2 : a2.IsWhole) (a3 : Memref sig .tc .vmem S512x768 .f32) (h3 : a3.IsWhole) (a4 : Memref sig .tc .vmem S512x128 .f32) (h4 : a4.IsWhole) (a5 : Memref sig .tc .vmem S512x128 .f32) (h5 : a5.IsWhole) (a6 : Memref sig .tc .vmem S512x128 .f32) (h6 : a6.IsWhole) (a7 : Memref sig .tc .vmem S512x768 .bf16) (h7 : a7.IsWhole) (a8 : Memref sig .tc .vmem S512x768 .bf16) (h8 : a8.IsWhole) (a9 : Memref sig .tc .vmem S512x768 .bf16) (h9 : a9.IsWhole)
    (x0 x1 x2 : Vec Ideal S512x768 .f32) (x3 x4 x5 : Vec Ideal S512x128 .f32) : out0_A_6 (F := Ideal) c i a1 h1 a2 h2 a3 h3 a4 h4 a5 h5 a6 h6 a7 h7 a8 h8 a9 h9 x0 x1 x2 x3 x4 x5 = k0_pay4 x3 x4 x5 x0 := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A
  dsimp only
  sl_unfold_words
  rw [View.canon_unit_zero offset_zero]
  simp only [View.readAt_eq_ld, h1.read_unread, h2.read_unread, h3.read_unread, h4.read_unread, h5.read_unread, h6.read_unread, View.ld_unit_zero (S := S512x768) offset_zero, View.ld_unit_zero (S := S512x128) offset_zero]

/-- What a point leaves in output block 7. -/
theorem out_block_7 (c : Dev nD) (i : grid0.Coords) (a1 : Memref sig .tc .vmem S512x768 .f32) (h1 : a1.IsWhole) (a2 : Memref sig .tc .vmem S512x768 .f32) (h2 : a2.IsWhole) (a3 : Memref sig .tc .vmem S512x768 .f32) (h3 : a3.IsWhole) (a4 : Memref sig .tc .vmem S512x128 .f32) (h4 : a4.IsWhole) (a5 : Memref sig .tc .vmem S512x128 .f32) (h5 : a5.IsWhole) (a6 : Memref sig .tc .vmem S512x128 .f32) (h6 : a6.IsWhole) (a7 : Memref sig .tc .vmem S512x768 .bf16) (h7 : a7.IsWhole) (a8 : Memref sig .tc .vmem S512x768 .bf16) (h8 : a8.IsWhole) (a9 : Memref sig .tc .vmem S512x768 .bf16) (h9 : a9.IsWhole)
    (x0 x1 x2 : Vec Ideal S512x768 .f32) (x3 x4 x5 : Vec Ideal S512x128 .f32) : out0_A_7 (F := Ideal) c i a1 h1 a2 h2 a3 h3 a4 h4 a5 h5 a6 h6 a7 h7 a8 h8 a9 h9 x0 x1 x2 x3 x4 x5 = k0_pay5 x3 x4 x5 x1 := by
  unfold out0_A_7
  rw [View.read_writes_eq_canon _ _ _ (cover0_A_7 c i a1 h1 a2 h2 a3 h3 a4 h4 a5 h5 a6 h6 a7 h7 a8 h8 a9 h9 x0 x1 x2 x3 x4 x5)]
  unfold kernelRun0_A
  dsimp only
  sl_unfold_words
  rw [View.canon_unit_zero offset_zero]
  simp only [View.readAt_eq_ld, h1.read_unread, h2.read_unread, h3.read_unread, h4.read_unread, h5.read_unread, h6.read_unread, View.ld_unit_zero (S := S512x768) offset_zero, View.ld_unit_zero (S := S512x128) offset_zero]

/-- What a point leaves in output block 8. -/
theorem out_block_8 (c : Dev nD) (i : grid0.Coords) (a1 : Memref sig .tc .vmem S512x768 .f32) (h1 : a1.IsWhole) (a2 : Memref sig .tc .vmem S512x768 .f32) (h2 : a2.IsWhole) (a3 : Memref sig .tc .vmem S512x768 .f32) (h3 : a3.IsWhole) (a4 : Memref sig .tc .vmem S512x128 .f32) (h4 : a4.IsWhole) (a5 : Memref sig .tc .vmem S512x128 .f32) (h5 : a5.IsWhole) (a6 : Memref sig .tc .vmem S512x128 .f32) (h6 : a6.IsWhole) (a7 : Memref sig .tc .vmem S512x768 .bf16) (h7 : a7.IsWhole) (a8 : Memref sig .tc .vmem S512x768 .bf16) (h8 : a8.IsWhole) (a9 : Memref sig .tc .vmem S512x768 .bf16) (h9 : a9.IsWhole)
    (x0 x1 x2 : Vec Ideal S512x768 .f32) (x3 x4 x5 : Vec Ideal S512x128 .f32) : out0_A_8 (F := Ideal) c i a1 h1 a2 h2 a3 h3 a4 h4 a5 h5 a6 h6 a7 h7 a8 h8 a9 h9 x0 x1 x2 x3 x4 x5 = k0_pay6 x2 := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  sl_unfold_words
  rw [View.canon_unit_zero offset_zero]
  simp only [View.readAt_eq_ld, h1.read_unread, h2.read_unread, h3.read_unread, h4.read_unread, h5.read_unread, h6.read_unread, View.ld_unit_zero (S := S512x768) offset_zero, View.ld_unit_zero (S := S512x128) offset_zero]

variable (m : (ℓ : Loc nD τ sig) → Buf (Elt Ideal) ℓ)

/-- The table `main_v10` as the host lays it out. -/
theorem host_c (c : Dev nD) :
    (V m c main_v10 : Vec Ideal S8192x128 .f32) = shapeCast S8192x128 (broadcastInDim S1x8192x2x64 ![0, 1, 2, 3] bcast_S1x8192x1x64_S1x8192x2x64_0_1_2_3
      (shapeCast S1x8192x1x64 (concatenate S8192x64 1 [⟨S8192x8, (m ((c : Thread nD τ).loc main_arg1) : Vec Ideal S8192x8 .f32)⟩, ⟨S8192x8, (m ((c : Thread nD τ).loc main_arg1) : Vec Ideal S8192x8 .f32)⟩, ⟨S8192x48, broadcastInDim S8192x48 ![] bcast_S_S8192x48 (constant (F := Ideal) S_ .f32 0x3F800000#32)⟩] concatenates_S8192x8_S8192x8_S8192x48_S8192x64_d1))) := by
  rfl

/-- One entry of the table `main_v10`. -/
theorem table_c (c : Dev nD) (s : Fin 8192) (l : Fin 128) :
    (V m c main_v10 : Vec Ideal S8192x128 .f32) (ix2 s l) = tc (fun e => (m ((c : Thread nD τ).loc main_arg1) : Vec Ideal S8192x8 .f32) (ix2 s e)) l.val := by
  have hs := s.isLt
  have hl := l.isLt
  rw [host_c]
  pointwise
  unfold tc
  by_cases h : l.val % 64 < 8
  · rw [dif_pos h, if_pos (show l.val % 64 < 16 by omega)]
    refine congrArg (m ((c : Thread nD τ).loc main_arg1) : Vec Ideal S8192x8 .f32) (congrArg₂ ix2 rfl (Fin.ext ?_)); dsimp only; omega
  · rw [dif_neg h]
    by_cases h' : l.val % 64 < 16
    · rw [dif_pos (show l.val % 64 - 8 < 8 by omega), if_pos h']
      refine congrArg (m ((c : Thread nD τ).loc main_arg1) : Vec Ideal S8192x8 .f32) (congrArg₂ ix2 rfl (Fin.ext ?_)); dsimp only; omega
    · rw [dif_neg (show ¬l.val % 64 - 8 < 8 by omega), if_neg h']

/-- One entry of the table `main_v13`. -/
theorem table_1 (c : Dev nD) (s : Fin 8192) (l : Fin 128) :
    (V m c main_v13 : Vec Ideal S8192x128 .f32) (ix2 s l) = t1 (fun e => (m ((c : Thread nD τ).loc main_arg2) : Vec Ideal S8192x8 .f32) (ix2 s e)) l.val := by
  have hs := s.isLt
  have hl := l.isLt
  entry_read
  pointwise
  unfold t1
  by_cases h : l.val % 64 < 8
  · rw [dif_pos h, if_pos h]
    refine congrArg (fun z : EReal => -z) ?_
    refine congrArg (m ((c : Thread nD τ).loc main_arg2) : Vec Ideal S8192x8 .f32) (congrArg₂ ix2 rfl (Fin.ext ?_)); dsimp only; omega
  · rw [dif_neg h, if_neg h]

/-- The table `main_v16` as the host lays it out. -/
theorem host_2 (c : Dev nD) :
    (V m c main_v16 : Vec Ideal S8192x128 .f32) = shapeCast S8192x128 (broadcastInDim S1x8192x2x64 ![0, 1, 2, 3] bcast_S1x8192x1x64_S1x8192x2x64_0_1_2_3
      (shapeCast S1x8192x1x64 (concatenate S8192x64 1 [⟨S8192x8, broadcastInDim S8192x8 ![] bcast_S_S8192x8 (constant (F := Ideal) S_ .f32 0x00000000#32)⟩, ⟨S8192x8, (m ((c : Thread nD τ).loc main_arg2) : Vec Ideal S8192x8 .f32)⟩, ⟨S8192x48, broadcastInDim S8192x48 ![] bcast_S_S8192x48 (constant (F := Ideal) S_ .f32 0x00000000#32)⟩] concatenates_S8192x8_S8192x8_S8192x48_S8192x64_d1))) := by
  rfl

/-- One entry of the table `main_v16`. -/
theorem table_2 (c : Dev nD) (s : Fin 8192) (l : Fin 128) :
    (V m c main_v16 : Vec Ideal S8192x128 .f32) (ix2 s l) = t2 (fun e => (m ((c : Thread nD τ).loc main_arg2) : Vec Ideal S8192x8 .f32) (ix2 s e)) l.val := by
  have hs := s.isLt
  have hl := l.isLt
  rw [host_2]
  pointwise
  unfold t2
  by_cases h : l.val % 64 < 8
  · rw [dif_pos h, if_pos h]
  · rw [dif_neg h, if_neg h]
    by_cases h' : l.val % 64 < 16
    · rw [dif_pos (show l.val % 64 - 8 < 8 by omega), if_pos h']
      refine congrArg (m ((c : Thread nD τ).loc main_arg2) : Vec Ideal S8192x8 .f32) (congrArg₂ ix2 rfl (Fin.ext ?_)); dsimp only; omega
    · rw [dif_neg (show ¬l.val % 64 - 8 < 8 by omega), if_neg h']

theorem points : cfg0.N = 16 := N_0

/-- The rows of the arrays that grid point `t` works on. -/
def row (t : Fin cfg0.N) (r : Fin 512) : Fin 8192 :=
  ⟨512 * t.val + r.val, by have := r.isLt; have := lt_of_lt_of_eq t.isLt points; omega⟩

theorem index_0 : ∀ t : Fin cfg0.N, win0_0.index t (0 : Fin 2) = t.val ∧ win0_0.index t (1 : Fin 2) = 6 :=
  (by decide +kernel : ∀ t : Fin grid0.N, _)
theorem index_1 : ∀ t : Fin cfg0.N, win0_1.index t (0 : Fin 2) = t.val ∧ win0_1.index t (1 : Fin 2) = 7 :=
  (by decide +kernel : ∀ t : Fin grid0.N, _)
theorem index_2 : ∀ t : Fin cfg0.N, win0_2.index t (0 : Fin 2) = t.val ∧ win0_2.index t (1 : Fin 2) = 8 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)

theorem block_0 (c : Dev nD) (t : Fin cfg0.N) (r : Fin 512) (l : Fin 768) : (X0_0 m c t : Vec Ideal S512x768 .f32) (ix2 r l)
    = (m ((c : Thread nD τ).loc main_arg0) : Vec Ideal S8192x8192 .f32) (ix2 (row t r) ⟨4608 + l.val, by omega⟩) := by
  obtain ⟨e0, e1⟩ := index_0 t
  unfold X0_0 Pipeline.Window.fill
  rw [dif_pos (moved0_0 t _)]
  unfold iblk
  rw [View.read_apply]
  show (V m c main_arg0 : Vec Ideal S8192x8192 .f32) _ = _
  rw [V_main_arg0 m c]
  refine congrArg (m ((c : Thread nD τ).loc main_arg0) : Vec Ideal S8192x8192 .f32) ?_
  funext d
  apply Fin.ext
  match d with
  | ⟨0, _⟩ => show win0_0.index t 0 * 512 + 1 * r.val = 512 * t.val + r.val; rw [e0]; omega
  | ⟨1, _⟩ => show win0_0.index t 1 * 768 + 1 * l.val = 4608 + l.val; rw [e1]; omega

theorem block_1 (c : Dev nD) (t : Fin cfg0.N) (r : Fin 512) (l : Fin 768) : (X0_1 m c t : Vec Ideal S512x768 .f32) (ix2 r l)
    = (m ((c : Thread nD τ).loc main_arg0) : Vec Ideal S8192x8192 .f32) (ix2 (row t r) ⟨5376 + l.val, by omega⟩) := by
  obtain ⟨e0, e1⟩ := index_1 t
  unfold X0_1 Pipeline.Window.fill
  rw [dif_pos (moved0_1 t _)]
  unfold iblk
  rw [View.read_apply]
  show (V m c main_arg0 : Vec Ideal S8192x8192 .f32) _ = _
  rw [V_main_arg0 m c]
  refine congrArg (m ((c : Thread nD τ).loc main_arg0) : Vec Ideal S8192x8192 .f32) ?_
  funext d
  apply Fin.ext
  match d with
  | ⟨0, _⟩ => show win0_1.index t 0 * 512 + 1 * r.val = 512 * t.val + r.val; rw [e0]; omega
  | ⟨1, _⟩ => show win0_1.index t 1 * 768 + 1 * l.val = 5376 + l.val; rw [e1]; omega

theorem block_2 (c : Dev nD) (t : Fin cfg0.N) (r : Fin 512) (l : Fin 768) : (X0_2 m c t : Vec Ideal S512x768 .f32) (ix2 r l)
    = (m ((c : Thread nD τ).loc main_arg0) : Vec Ideal S8192x8192 .f32) (ix2 (row t r) ⟨6144 + l.val, by omega⟩) := by
  obtain ⟨e0, e1⟩ := index_2 t
  unfold X0_2 Pipeline.Window.fill
  rw [dif_pos (moved0_2 t _)]
  unfold iblk
  rw [View.read_apply]
  show (V m c main_arg0 : Vec Ideal S8192x8192 .f32) _ = _
  rw [V_main_arg0 m c]
  refine congrArg (m ((c : Thread nD τ).loc main_arg0) : Vec Ideal S8192x8192 .f32) ?_
  funext d
  apply Fin.ext
  match d with
  | ⟨0, _⟩ => show win0_2.index t 0 * 512 + 1 * r.val = 512 * t.val + r.val; rw [e0]; omega
  | ⟨1, _⟩ => show win0_2.index t 1 * 768 + 1 * l.val = 6144 + l.val; rw [e1]; omega

theorem block_3 (c : Dev nD) (t : Fin cfg0.N) (r : Fin 512) (l : Fin 128) : (iblk m c 3 t : Vec Ideal S512x128 .f32) (ix2 r l)
    = tc (fun e => (m ((c : Thread nD τ).loc main_arg1) : Vec Ideal S8192x8 .f32) (ix2 (row t r) e)) l.val := by
  obtain ⟨e0, e1⟩ := index_3 t
  rw [← table_c]
  unfold iblk
  rw [View.read_apply]
  show (V m c main_v10 : Vec Ideal S8192x128 .f32) _ = (V m c main_v10 : Vec Ideal S8192x128 .f32) _
  refine congrArg (V m c main_v10 : Vec Ideal S8192x128 .f32) ?_
  funext d
  apply Fin.ext
  match d with
  | ⟨0, _⟩ => show win0_3.index t 0 * 512 + 1 * r.val = 512 * t.val + r.val; rw [e0]; omega
  | ⟨1, _⟩ => show win0_3.index t 1 * 128 + 1 * l.val = l.val; rw [e1]; omega

theorem block_4 (c : Dev nD) (t : Fin cfg0.N) (r : Fin 512) (l : Fin 128) : (iblk m c 4 t : Vec Ideal S512x128 .f32) (ix2 r l)
    = t1 (fun e => (m ((c : Thread nD τ).loc main_arg2) : Vec Ideal S8192x8 .f32) (ix2 (row t r) e)) l.val := by
  obtain ⟨e0, e1⟩ := index_4 t
  rw [← table_1]
  unfold iblk
  rw [View.read_apply]
  show (V m c main_v13 : Vec Ideal S8192x128 .f32) _ = (V m c main_v13 : Vec Ideal S8192x128 .f32) _
  refine congrArg (V m c main_v13 : Vec Ideal S8192x128 .f32) ?_
  funext d
  apply Fin.ext
  match d with
  | ⟨0, _⟩ => show win0_4.index t 0 * 512 + 1 * r.val = 512 * t.val + r.val; rw [e0]; omega
  | ⟨1, _⟩ => show win0_4.index t 1 * 128 + 1 * l.val = l.val; rw [e1]; omega

theorem block_5 (c : Dev nD) (t : Fin cfg0.N) (r : Fin 512) (l : Fin 128) : (iblk m c 5 t : Vec Ideal S512x128 .f32) (ix2 r l)
    = t2 (fun e => (m ((c : Thread nD τ).loc main_arg2) : Vec Ideal S8192x8 .f32) (ix2 (row t r) e)) l.val := by
  obtain ⟨e0, e1⟩ := index_5 t
  rw [← table_2]
  unfold iblk
  rw [View.read_apply]
  show (V m c main_v16 : Vec Ideal S8192x128 .f32) _ = (V m c main_v16 : Vec Ideal S8192x128 .f32) _
  refine congrArg (V m c main_v16 : Vec Ideal S8192x128 .f32) ?_
  funext d
  apply Fin.ext
  match d with
  | ⟨0, _⟩ => show win0_5.index t 0 * 512 + 1 * r.val = 512 * t.val + r.val; rw [e0]; omega
  | ⟨1, _⟩ => show win0_5.index t 1 * 128 + 1 * l.val = l.val; rw [e1]; omega

theorem out_6 (c : Dev nD) (t : Fin cfg0.N) (r : Fin 512) (l : Fin 768) :
    ((outsAt0 m c t).1 : Vec Ideal S512x768 .bf16) (ix2 r l) = val_main_v41 (F := Ideal) (m ((c : Thread nD τ).loc main_arg0)) (m ((c : Thread nD τ).loc main_arg1)) (m ((c : Thread nD τ).loc main_arg2)) (ix2 (row t r) l) := by
  unfold outsAt0
  dsimp only
  rw [out_block_6]
  rw [pay4_apply (block_3 m c t) (block_4 m c t) (block_5 m c t), reference_41]; simp only [block_0]

theorem final_6 (c : Dev nD) : (dats m 0 c).arrAt 6 cfg0.N = val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e0, e1⟩ := index_6 t
  rw [after0_6]
  obtain ⟨r, l, rfl⟩ : ∃ (r : Fin 512) (l : Fin 768), y = ix2 r l := ⟨y 0, y 1, eq_ix2 y⟩
  blk_simp
  refine (out_6 m c t r l).trans ?_
  blk_ext [e0, e1, row]

theorem out_7 (c : Dev nD) (t : Fin cfg0.N) (r : Fin 512) (l : Fin 768) :
    ((outsAt0 m c t).2.1 : Vec Ideal S512x768 .bf16) (ix2 r l) = val_main_v42 (F := Ideal) (m ((c : Thread nD τ).loc main_arg0)) (m ((c : Thread nD τ).loc main_arg1)) (m ((c : Thread nD τ).loc main_arg2)) (ix2 (row t r) l) := by
  unfold outsAt0
  dsimp only
  rw [out_block_7]
  rw [pay5_apply (block_3 m c t) (block_4 m c t) (block_5 m c t), reference_42]; simp only [block_1]

theorem final_7 (c : Dev nD) : (dats m 0 c).arrAt 7 cfg0.N = val_main_v42 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨e0, e1⟩ := index_7 t
  rw [after0_7]
  obtain ⟨r, l, rfl⟩ : ∃ (r : Fin 512) (l : Fin 768), y = ix2 r l := ⟨y 0, y 1, eq_ix2 y⟩
  blk_simp
  refine (out_7 m c t r l).trans ?_
  blk_ext [e0, e1, row]

theorem out_8 (c : Dev nD) (t : Fin cfg0.N) (r : Fin 512) (l : Fin 768) :
    ((outsAt0 m c t).2.2 : Vec Ideal S512x768 .bf16) (ix2 r l) = val_main_v43 (F := Ideal) (m ((c : Thread nD τ).loc main_arg0)) (ix2 (row t r) l) := by
  unfold outsAt0
  dsimp only
  rw [out_block_8]
  rw [reference_43]; pointwise [k0_pay6]; rw [block_2]

theorem final_8 (c : Dev nD) : (dats m 0 c).arrAt 8 cfg0.N = val_main_v43 (F := Ideal) (m ((c : Thread nD τ).loc main_arg0)) := by
  refine (dats m 0 c).arrAt_eq_of_covers 8 _ (by decide +kernel) fun t hf y => ?_
  obtain ⟨e0, e1⟩ := index_8 t
  rw [after0_8]
  obtain ⟨r, l, rfl⟩ : ∃ (r : Fin 512) (l : Fin 768), y = ix2 r l := ⟨y 0, y 1, eq_ix2 y⟩
  blk_simp
  refine (out_8 m c t r l).trans ?_
  blk_ext [e0, e1, row]

/-- The kernel's rotated queries, rotated keys and values are the reference's. -/
theorem algebraic : Cert.algebraic_APrepFIdeal_APrepFRefIdeal := by
  pair_intro
  · run_from run_blocks m g
  · refine θ_run_mono (Cert.APrepFRefIdeal.Value.run m' g') ?_
    intro r hr c
    obtain ⟨h0, h1, h2⟩ := hagree c
    refine ⟨(hr c).1.trans ((val_main_v41_eq _ _ _).trans ?_), (hr c).2.1.trans ((val_main_v42_eq _ _ _).trans ?_), (hr c).2.2.1.trans ((val_main_v43_eq _).trans ?_), (hr c).2.2.2⟩
    · rw [final_6 m c, h0, h1, h2]
    · rw [final_7 m c, h0, h1, h2]
    · rw [final_8 m c, h0]

/-- The reference terminates. -/
theorem frame_reference : Cert.quiescent_APrepFRefIdeal := fun m g _ =>
  (θ_run _ _ _).mono (fun r h => ⟨fun c => (h c).2.2.2, sem_eq_zero_of_no_sems (by decide) r.2⟩) (Cert.APrepFRefIdeal.Value.run m g)

end Cert.APrepFIdeal.Rotation
-- ==== Proof.lean ====
/-
  The certificate: one entry per claim. The frames of the kernels come from their generated runs; the frame of each
  reference and each value claim come from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.DwIn
public import proofs.«01_k».proof.Proof.Gen.DwInIdeal
public import proofs.«01_k».proof.Proof.Gen.DwInRefIdeal
public import proofs.«01_k».proof.Proof.Gen.DhIn
public import proofs.«01_k».proof.Proof.Gen.DhInIdeal
public import proofs.«01_k».proof.Proof.Gen.DhInRefIdeal
public import proofs.«01_k».proof.Proof.Gen.DwOut
public import proofs.«01_k».proof.Proof.Gen.DwOutIdeal
public import proofs.«01_k».proof.Proof.Gen.DwOutRefIdeal
public import proofs.«01_k».proof.Proof.Gen.DyOut
public import proofs.«01_k».proof.Proof.Gen.DyOutIdeal
public import proofs.«01_k».proof.Proof.Gen.DyOutRefIdeal
public import proofs.«01_k».proof.Proof.Gen.MIn
public import proofs.«01_k».proof.Proof.Gen.MInIdeal
public import proofs.«01_k».proof.Proof.Gen.MInRefIdeal
public import proofs.«01_k».proof.Proof.Gen.MOut
public import proofs.«01_k».proof.Proof.Gen.MOutIdeal
public import proofs.«01_k».proof.Proof.Gen.MOutRefIdeal
public import proofs.«01_k».proof.Proof.Gen.AWIn
public import proofs.«01_k».proof.Proof.Gen.AWInIdeal
public import proofs.«01_k».proof.Proof.Gen.AWInRefIdeal
public import proofs.«01_k».proof.Proof.Gen.AWOut
public import proofs.«01_k».proof.Proof.Gen.AWOutIdeal
public import proofs.«01_k».proof.Proof.Gen.AWOutRefIdeal
public import proofs.«01_k».proof.Proof.Gen.ANorm
public import proofs.«01_k».proof.Proof.Gen.ANormIdeal
public import proofs.«01_k».proof.Proof.Gen.ANormRefIdeal
public import proofs.«01_k».proof.Proof.Gen.AShort
public import proofs.«01_k».proof.Proof.Gen.AShortIdeal
public import proofs.«01_k».proof.Proof.Gen.AShortRefIdeal
public import proofs.«01_k».proof.Proof.Gen.AHead
public import proofs.«01_k».proof.Proof.Gen.AHeadIdeal
public import proofs.«01_k».proof.Proof.Gen.AHeadRefIdeal
public import proofs.«01_k».proof.Proof.Gen.AGdn
public import proofs.«01_k».proof.Proof.Gen.AGdnIdeal
public import proofs.«01_k».proof.Proof.Gen.AGdnRefIdeal
public import proofs.«01_k».proof.Proof.Gen.ADw
public import proofs.«01_k».proof.Proof.Gen.ADwIdeal
public import proofs.«01_k».proof.Proof.Gen.ADwRefIdeal
public import proofs.«01_k».proof.Proof.Gen.ALn
public import proofs.«01_k».proof.Proof.Gen.ALnIdeal
public import proofs.«01_k».proof.Proof.Gen.ALnRefIdeal
public import proofs.«01_k».proof.Proof.Gen.APw
public import proofs.«01_k».proof.Proof.Gen.APwIdeal
public import proofs.«01_k».proof.Proof.Gen.APwRefIdeal
public import proofs.«01_k».proof.Proof.Gen.AFinal
public import proofs.«01_k».proof.Proof.Gen.AFinalIdeal
public import proofs.«01_k».proof.Proof.Gen.AFinalRefIdeal
public import proofs.«01_k».proof.Proof.Gen.RmsB
public import proofs.«01_k».proof.Proof.Gen.RmsBIdeal
public import proofs.«01_k».proof.Proof.Gen.RmsBRefIdeal
public import proofs.«01_k».proof.Proof.Gen.Loss
public import proofs.«01_k».proof.Proof.Gen.LossIdeal
public import proofs.«01_k».proof.Proof.Gen.LossRefIdeal
public import proofs.«01_k».proof.Proof.Gen.RmsF
public import proofs.«01_k».proof.Proof.Gen.RmsFIdeal
public import proofs.«01_k».proof.Proof.Gen.RmsFRefIdeal
public import proofs.«01_k».proof.Proof.Gen.SSmall
public import proofs.«01_k».proof.Proof.Gen.SSmallIdeal
public import proofs.«01_k».proof.Proof.Gen.SSmallRefIdeal
public import proofs.«01_k».proof.Proof.Gen.SPw
public import proofs.«01_k».proof.Proof.Gen.SPwIdeal
public import proofs.«01_k».proof.Proof.Gen.SPwRefIdeal
public import proofs.«01_k».proof.Proof.Gen.SIn
public import proofs.«01_k».proof.Proof.Gen.SInIdeal
public import proofs.«01_k».proof.Proof.Gen.SInRefIdeal
public import proofs.«01_k».proof.Proof.Gen.SOut
public import proofs.«01_k».proof.Proof.Gen.SOutIdeal
public import proofs.«01_k».proof.Proof.Gen.SOutRefIdeal
public import proofs.«01_k».proof.Proof.Gen.APrep
public import proofs.«01_k».proof.Proof.Gen.APrepIdeal
public import proofs.«01_k».proof.Proof.Gen.APrepRefIdeal
public import proofs.«01_k».proof.Proof.Gen.APrepF
public import proofs.«01_k».proof.Proof.Gen.APrepFIdeal
public import proofs.«01_k».proof.Proof.Gen.APrepFRefIdeal
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DhIn.Skeleton
public import proofs.«01_k».proof.Proof.Gen.DhIn.Launch
public import proofs.«01_k».proof.Proof.Gen.DhIn.Points
public import proofs.«01_k».proof.Proof.Gen.DhIn.Frame
public import proofs.«01_k».proof.Proof.Gen.DhInIdeal.Skeleton
public import proofs.«01_k».proof.Proof.Gen.DhInIdeal.Launch
public import proofs.«01_k».proof.Proof.Gen.DhInIdeal.Points
public import proofs.«01_k».proof.Proof.Gen.DhInIdeal.Frame
public import proofs.«01_k».proof.Proof.Gen.DhInIdeal.Value
public import proofs.«01_k».proof.Proof.Gen.DhInRefIdeal.Run
public import proofs.«01_k».proof.Proof.Gen.DhInRefIdeal.Read
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DyOut.Skeleton
public import proofs.«01_k».proof.Proof.Gen.DyOut.Launch
public import proofs.«01_k».proof.Proof.Gen.DyOut.Points
public import proofs.«01_k».proof.Proof.Gen.DyOut.Frame
public import proofs.«01_k».proof.Proof.Gen.DyOutIdeal.Skeleton
public import proofs.«01_k».proof.Proof.Gen.DyOutIdeal.Launch
public import proofs.«01_k».proof.Proof.Gen.DyOutIdeal.Points
public import proofs.«01_k».proof.Proof.Gen.DyOutIdeal.Frame
public import proofs.«01_k».proof.Proof.Gen.DyOutIdeal.Value
public import proofs.«01_k».proof.Proof.Gen.DyOutRefIdeal.Run
public import proofs.«01_k».proof.Proof.Gen.DyOutRefIdeal.Read
public import proofs.«01_k».proof.Proof.Gen.MIn.Skeleton
public import proofs.«01_k».proof.Proof.Gen.MIn.Launch
public import proofs.«01_k».proof.Proof.Gen.MIn.Points
public import proofs.«01_k».proof.Proof.Gen.MIn.Frame
public import proofs.«01_k».proof.Proof.Gen.MInIdeal.Skeleton
public import proofs.«01_k».proof.Proof.Gen.MInIdeal.Launch
public import proofs.«01_k».proof.Proof.Gen.MInIdeal.Points
public import proofs.«01_k».proof.Proof.Gen.MInIdeal.Frame
public import proofs.«01_k».proof.Proof.Gen.MInIdeal.Value
public import proofs.«01_k».proof.Proof.Gen.MInRefIdeal.Run
public import proofs.«01_k».proof.Proof.Gen.MInRefIdeal.Read
public import proofs.«01_k».proof.Proof.Gen.MOut.Skeleton
public import proofs.«01_k».proof.Proof.Gen.MOut.Launch
public import proofs.«01_k».proof.Proof.Gen.MOut.Points
public import proofs.«01_k».proof.Proof.Gen.MOut.Frame
public import proofs.«01_k».proof.Proof.Gen.MOutIdeal.Skeleton
public import proofs.«01_k».proof.Proof.Gen.MOutIdeal.Launch
public import proofs.«01_k».proof.Proof.Gen.MOutIdeal.Points
public import proofs.«01_k».proof.Proof.Gen.MOutIdeal.Frame
public import proofs.«01_k».proof.Proof.Gen.MOutIdeal.Value
public import proofs.«01_k».proof.Proof.Gen.MOutRefIdeal.Run
public import proofs.«01_k».proof.Proof.Gen.MOutRefIdeal.Read
public import proofs.«01_k».proof.Proof.Gen.AWIn.Skeleton
public import proofs.«01_k».proof.Proof.Gen.AWIn.Launch
public import proofs.«01_k».proof.Proof.Gen.AWIn.Points
public import proofs.«01_k».proof.Proof.Gen.AWIn.Frame
public import proofs.«01_k».proof.Proof.Gen.AWInIdeal.Skeleton
public import proofs.«01_k».proof.Proof.Gen.AWInIdeal.Launch
public import proofs.«01_k».proof.Proof.Gen.AWInIdeal.Points
public import proofs.«01_k».proof.Proof.Gen.AWInIdeal.Frame
public import proofs.«01_k».proof.Proof.Gen.AWInIdeal.Value
public import proofs.«01_k».proof.Proof.Gen.AWInRefIdeal.Run
public import proofs.«01_k».proof.Proof.Gen.AWInRefIdeal.Read
public import proofs.«01_k».proof.Proof.Gen.AWOut.Skeleton
public import proofs.«01_k».proof.Proof.Gen.AWOut.Launch
public import proofs.«01_k».proof.Proof.Gen.AWOut.Points
public import proofs.«01_k».proof.Proof.Gen.AWOut.Frame
public import proofs.«01_k».proof.Proof.Gen.AWOutIdeal.Skeleton
public import proofs.«01_k».proof.Proof.Gen.AWOutIdeal.Launch
public import proofs.«01_k».proof.Proof.Gen.AWOutIdeal.Points
public import proofs.«01_k».proof.Proof.Gen.AWOutIdeal.Frame
public import proofs.«01_k».proof.Proof.Gen.AWOutIdeal.Value
public import proofs.«01_k».proof.Proof.Gen.AWOutRefIdeal.Run
public import proofs.«01_k».proof.Proof.Gen.AWOutRefIdeal.Read
public import proofs.«01_k».proof.Proof.Gen.ANorm.Skeleton
public import proofs.«01_k».proof.Proof.Gen.ANorm.Launch
public import proofs.«01_k».proof.Proof.Gen.ANorm.Points
public import proofs.«01_k».proof.Proof.Gen.ANorm.Frame
public import proofs.«01_k».proof.Proof.Gen.ANormIdeal.Skeleton
public import proofs.«01_k».proof.Proof.Gen.ANormIdeal.Launch
public import proofs.«01_k».proof.Proof.Gen.ANormIdeal.Points
public import proofs.«01_k».proof.Proof.Gen.ANormIdeal.Frame
public import proofs.«01_k».proof.Proof.Gen.ANormIdeal.Value
public import proofs.«01_k».proof.Proof.Gen.ANormRefIdeal.Run
public import proofs.«01_k».proof.Proof.Gen.ANormRefIdeal.Read
public import proofs.«01_k».proof.Proof.Gen.AShort.Skeleton
public import proofs.«01_k».proof.Proof.Gen.AShort.Launch
public import proofs.«01_k».proof.Proof.Gen.AShort.Points
public import proofs.«01_k».proof.Proof.Gen.AShort.Frame
public import proofs.«01_k».proof.Proof.Gen.AShortIdeal.Skeleton
public import proofs.«01_k».proof.Proof.Gen.AShortIdeal.Launch
public import proofs.«01_k».proof.Proof.Gen.AShortIdeal.Points
public import proofs.«01_k».proof.Proof.Gen.AShortIdeal.Frame
public import proofs.«01_k».proof.Proof.Gen.AShortIdeal.Value
public import proofs.«01_k».proof.Proof.Gen.AShortRefIdeal.Run
public import proofs.«01_k».proof.Proof.Gen.AShortRefIdeal.Read
public import proofs.«01_k».proof.Proof.Gen.AHead.Skeleton
public import proofs.«01_k».proof.Proof.Gen.AHead.Launch
public import proofs.«01_k».proof.Proof.Gen.AHead.Points
public import proofs.«01_k».proof.Proof.Gen.AHead.Frame
public import proofs.«01_k».proof.Proof.Gen.AHeadIdeal.Skeleton
public import proofs.«01_k».proof.Proof.Gen.AHeadIdeal.Launch
public import proofs.«01_k».proof.Proof.Gen.AHeadIdeal.Points
public import proofs.«01_k».proof.Proof.Gen.AHeadIdeal.Frame
public import proofs.«01_k».proof.Proof.Gen.AHeadIdeal.Value
public import proofs.«01_k».proof.Proof.Gen.AHeadRefIdeal.Run
public import proofs.«01_k».proof.Proof.Gen.AHeadRefIdeal.Read
public import proofs.«01_k».proof.Proof.Gen.AGdn.Skeleton
public import proofs.«01_k».proof.Proof.Gen.AGdn.Launch
public import proofs.«01_k».proof.Proof.Gen.AGdn.Points
public import proofs.«01_k».proof.Proof.Gen.AGdn.Frame
public import proofs.«01_k».proof.Proof.Gen.AGdnIdeal.Skeleton
public import proofs.«01_k».proof.Proof.Gen.AGdnIdeal.Launch
public import proofs.«01_k».proof.Proof.Gen.AGdnIdeal.Points
public import proofs.«01_k».proof.Proof.Gen.AGdnIdeal.Frame
public import proofs.«01_k».proof.Proof.Gen.AGdnIdeal.Value
public import proofs.«01_k».proof.Proof.Gen.AGdnRefIdeal.Run
public import proofs.«01_k».proof.Proof.Gen.AGdnRefIdeal.Read
public import proofs.«01_k».proof.Proof.Gen.ADw.Skeleton
public import proofs.«01_k».proof.Proof.Gen.ADw.Launch
public import proofs.«01_k».proof.Proof.Gen.ADw.Points
public import proofs.«01_k».proof.Proof.Gen.ADw.Frame
public import proofs.«01_k».proof.Proof.Gen.ADwIdeal.Skeleton
public import proofs.«01_k».proof.Proof.Gen.ADwIdeal.Launch
public import proofs.«01_k».proof.Proof.Gen.ADwIdeal.Points
public import proofs.«01_k».proof.Proof.Gen.ADwIdeal.Frame
public import proofs.«01_k».proof.Proof.Gen.ADwIdeal.Value
public import proofs.«01_k».proof.Proof.Gen.ADwRefIdeal.Run
public import proofs.«01_k».proof.Proof.Gen.ADwRefIdeal.Read
public import proofs.«01_k».proof.Proof.Gen.ALn.Skeleton
public import proofs.«01_k».proof.Proof.Gen.ALn.Launch
public import proofs.«01_k».proof.Proof.Gen.ALn.Points
public import proofs.«01_k».proof.Proof.Gen.ALn.Frame
public import proofs.«01_k».proof.Proof.Gen.ALnIdeal.Skeleton
public import proofs.«01_k».proof.Proof.Gen.ALnIdeal.Launch
public import proofs.«01_k».proof.Proof.Gen.ALnIdeal.Points
public import proofs.«01_k».proof.Proof.Gen.ALnIdeal.Frame
public import proofs.«01_k».proof.Proof.Gen.ALnIdeal.Value
public import proofs.«01_k».proof.Proof.Gen.ALnRefIdeal.Run
public import proofs.«01_k».proof.Proof.Gen.ALnRefIdeal.Read
public import proofs.«01_k».proof.Proof.Gen.APw.Skeleton
public import proofs.«01_k».proof.Proof.Gen.APw.Launch
public import proofs.«01_k».proof.Proof.Gen.APw.Points
public import proofs.«01_k».proof.Proof.Gen.APw.Frame
public import proofs.«01_k».proof.Proof.Gen.APwIdeal.Skeleton
public import proofs.«01_k».proof.Proof.Gen.APwIdeal.Launch
public import proofs.«01_k».proof.Proof.Gen.APwIdeal.Points
public import proofs.«01_k».proof.Proof.Gen.APwIdeal.Frame
public import proofs.«01_k».proof.Proof.Gen.APwIdeal.Value
public import proofs.«01_k».proof.Proof.Gen.APwRefIdeal.Run
public import proofs.«01_k».proof.Proof.Gen.APwRefIdeal.Read
public import proofs.«01_k».proof.Proof.Gen.AFinal.Skeleton
public import proofs.«01_k».proof.Proof.Gen.AFinal.Launch
public import proofs.«01_k».proof.Proof.Gen.AFinal.Points
public import proofs.«01_k».proof.Proof.Gen.AFinal.Frame
public import proofs.«01_k».proof.Proof.Gen.AFinalIdeal.Skeleton
public import proofs.«01_k».proof.Proof.Gen.AFinalIdeal.Launch
public import proofs.«01_k».proof.Proof.Gen.AFinalIdeal.Points
public import proofs.«01_k».proof.Proof.Gen.AFinalIdeal.Frame
public import proofs.«01_k».proof.Proof.Gen.AFinalIdeal.Value
public import proofs.«01_k».proof.Proof.Gen.AFinalRefIdeal.Run
public import proofs.«01_k».proof.Proof.Gen.AFinalRefIdeal.Read
public import proofs.«01_k».proof.Proof.Gen.RmsB.Skeleton
public import proofs.«01_k».proof.Proof.Gen.RmsB.Launch
public import proofs.«01_k».proof.Proof.Gen.RmsB.Points
public import proofs.«01_k».proof.Proof.Gen.RmsB.Frame
public import proofs.«01_k».proof.Proof.Gen.RmsBIdeal.Skeleton
public import proofs.«01_k».proof.Proof.Gen.RmsBIdeal.Launch
public import proofs.«01_k».proof.Proof.Gen.RmsBIdeal.Points
public import proofs.«01_k».proof.Proof.Gen.RmsBIdeal.Frame
public import proofs.«01_k».proof.Proof.Gen.RmsBIdeal.Value
public import proofs.«01_k».proof.Proof.Gen.RmsBRefIdeal.Run
public import proofs.«01_k».proof.Proof.Gen.RmsBRefIdeal.Read
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.RmsF.Skeleton
public import proofs.«01_k».proof.Proof.Gen.RmsF.Launch
public import proofs.«01_k».proof.Proof.Gen.RmsF.Points
public import proofs.«01_k».proof.Proof.Gen.RmsF.Frame
public import proofs.«01_k».proof.Proof.Gen.RmsFIdeal.Skeleton
public import proofs.«01_k».proof.Proof.Gen.RmsFIdeal.Launch
public import proofs.«01_k».proof.Proof.Gen.RmsFIdeal.Points
public import proofs.«01_k».proof.Proof.Gen.RmsFIdeal.Frame
public import proofs.«01_k».proof.Proof.Gen.RmsFIdeal.Value
public import proofs.«01_k».proof.Proof.Gen.RmsFRefIdeal.Run
public import proofs.«01_k».proof.Proof.Gen.RmsFRefIdeal.Read
public import proofs.«01_k».proof.Proof.Gen.SSmall.Skeleton
public import proofs.«01_k».proof.Proof.Gen.SSmall.Launch
public import proofs.«01_k».proof.Proof.Gen.SSmall.Points
public import proofs.«01_k».proof.Proof.Gen.SSmall.Frame
public import proofs.«01_k».proof.Proof.Gen.SSmallIdeal.Skeleton
public import proofs.«01_k».proof.Proof.Gen.SSmallIdeal.Launch
public import proofs.«01_k».proof.Proof.Gen.SSmallIdeal.Points
public import proofs.«01_k».proof.Proof.Gen.SSmallIdeal.Frame
public import proofs.«01_k».proof.Proof.Gen.SSmallIdeal.Value
public import proofs.«01_k».proof.Proof.Gen.SSmallRefIdeal.Run
public import proofs.«01_k».proof.Proof.Gen.SSmallRefIdeal.Read
public import proofs.«01_k».proof.Proof.Gen.SPw.Skeleton
public import proofs.«01_k».proof.Proof.Gen.SPw.Launch
public import proofs.«01_k».proof.Proof.Gen.SPw.Points
public import proofs.«01_k».proof.Proof.Gen.SPw.Frame
public import proofs.«01_k».proof.Proof.Gen.SPwIdeal.Skeleton
public import proofs.«01_k».proof.Proof.Gen.SPwIdeal.Launch
public import proofs.«01_k».proof.Proof.Gen.SPwIdeal.Points
public import proofs.«01_k».proof.Proof.Gen.SPwIdeal.Frame
public import proofs.«01_k».proof.Proof.Gen.SPwIdeal.Value
public import proofs.«01_k».proof.Proof.Gen.SPwRefIdeal.Run
public import proofs.«01_k».proof.Proof.Gen.SPwRefIdeal.Read
public import proofs.«01_k».proof.Proof.Gen.SIn.Skeleton
public import proofs.«01_k».proof.Proof.Gen.SIn.Launch
public import proofs.«01_k».proof.Proof.Gen.SIn.Points
public import proofs.«01_k».proof.Proof.Gen.SIn.Frame
public import proofs.«01_k».proof.Proof.Gen.SInIdeal.Skeleton
public import proofs.«01_k».proof.Proof.Gen.SInIdeal.Launch
public import proofs.«01_k».proof.Proof.Gen.SInIdeal.Points
public import proofs.«01_k».proof.Proof.Gen.SInIdeal.Frame
public import proofs.«01_k».proof.Proof.Gen.SInIdeal.Value
public import proofs.«01_k».proof.Proof.Gen.SInRefIdeal.Run
public import proofs.«01_k».proof.Proof.Gen.SInRefIdeal.Read
public import proofs.«01_k».proof.Proof.Gen.SOut.Skeleton
public import proofs.«01_k».proof.Proof.Gen.SOut.Launch
public import proofs.«01_k».proof.Proof.Gen.SOut.Points
public import proofs.«01_k».proof.Proof.Gen.SOut.Frame
public import proofs.«01_k».proof.Proof.Gen.SOutIdeal.Skeleton
public import proofs.«01_k».proof.Proof.Gen.SOutIdeal.Launch
public import proofs.«01_k».proof.Proof.Gen.SOutIdeal.Points
public import proofs.«01_k».proof.Proof.Gen.SOutIdeal.Frame
public import proofs.«01_k».proof.Proof.Gen.SOutIdeal.Value
public import proofs.«01_k».proof.Proof.Gen.SOutRefIdeal.Run
public import proofs.«01_k».proof.Proof.Gen.SOutRefIdeal.Read
public import proofs.«01_k».proof.Proof.Gen.APrep.Skeleton
public import proofs.«01_k».proof.Proof.Gen.APrep.Launch
public import proofs.«01_k».proof.Proof.Gen.APrep.Points
public import proofs.«01_k».proof.Proof.Gen.APrep.Frame
public import proofs.«01_k».proof.Proof.Gen.APrepIdeal.Skeleton
public import proofs.«01_k».proof.Proof.Gen.APrepIdeal.Launch
public import proofs.«01_k».proof.Proof.Gen.APrepIdeal.Points
public import proofs.«01_k».proof.Proof.Gen.APrepIdeal.Frame
public import proofs.«01_k».proof.Proof.Gen.APrepIdeal.Value
public import proofs.«01_k».proof.Proof.Gen.APrepRefIdeal.Run
public import proofs.«01_k».proof.Proof.Gen.APrepRefIdeal.Read
public import proofs.«01_k».proof.Proof.Gen.APrepF.Skeleton
public import proofs.«01_k».proof.Proof.Gen.APrepF.Launch
public import proofs.«01_k».proof.Proof.Gen.APrepF.Points
public import proofs.«01_k».proof.Proof.Gen.APrepF.Frame
public import proofs.«01_k».proof.Proof.Gen.APrepFIdeal.Skeleton
public import proofs.«01_k».proof.Proof.Gen.APrepFIdeal.Launch
public import proofs.«01_k».proof.Proof.Gen.APrepFIdeal.Points
public import proofs.«01_k».proof.Proof.Gen.APrepFIdeal.Frame
public import proofs.«01_k».proof.Proof.Gen.APrepFIdeal.Value
public import proofs.«01_k».proof.Proof.Gen.APrepFRefIdeal.Run
public import proofs.«01_k».proof.Proof.Gen.APrepFRefIdeal.Read
public import proofs.«01_k».proof.Proof.Post
public import proofs.«01_k».proof.Proof.InWeights
public import proofs.«01_k».proof.Proof.InRows
public import proofs.«01_k».proof.Proof.OutWeights
public import proofs.«01_k».proof.Proof.OutRows
public import proofs.«01_k».proof.Proof.In
public import proofs.«01_k».proof.Proof.Out
public import proofs.«01_k».proof.Proof.Adam
public import proofs.«01_k».proof.Proof.Rms
public import proofs.«01_k».proof.Proof.Loss
public import proofs.«01_k».proof.Proof.Sums
public import proofs.«01_k».proof.Proof.RotationBackward
public import proofs.«01_k».proof.Proof.RotationForward
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.DwIn.Gen.facts, Cert.DwInIdeal.Gen.facts, Cert.DwInRefIdeal.Gen.facts, Cert.DhIn.Gen.facts, Cert.DhInIdeal.Gen.facts, Cert.DhInRefIdeal.Gen.facts, Cert.DwOut.Gen.facts, Cert.DwOutIdeal.Gen.facts, Cert.DwOutRefIdeal.Gen.facts, Cert.DyOut.Gen.facts, Cert.DyOutIdeal.Gen.facts, Cert.DyOutRefIdeal.Gen.facts, Cert.MIn.Gen.facts, Cert.MInIdeal.Gen.facts, Cert.MInRefIdeal.Gen.facts, Cert.MOut.Gen.facts, Cert.MOutIdeal.Gen.facts, Cert.MOutRefIdeal.Gen.facts, Cert.AWIn.Gen.facts, Cert.AWInIdeal.Gen.facts, Cert.AWInRefIdeal.Gen.facts, Cert.AWOut.Gen.facts, Cert.AWOutIdeal.Gen.facts, Cert.AWOutRefIdeal.Gen.facts, Cert.ANorm.Gen.facts, Cert.ANormIdeal.Gen.facts, Cert.ANormRefIdeal.Gen.facts, Cert.AShort.Gen.facts, Cert.AShortIdeal.Gen.facts, Cert.AShortRefIdeal.Gen.facts, Cert.AHead.Gen.facts, Cert.AHeadIdeal.Gen.facts, Cert.AHeadRefIdeal.Gen.facts, Cert.AGdn.Gen.facts, Cert.AGdnIdeal.Gen.facts, Cert.AGdnRefIdeal.Gen.facts, Cert.ADw.Gen.facts, Cert.ADwIdeal.Gen.facts, Cert.ADwRefIdeal.Gen.facts, Cert.ALn.Gen.facts, Cert.ALnIdeal.Gen.facts, Cert.ALnRefIdeal.Gen.facts, Cert.APw.Gen.facts, Cert.APwIdeal.Gen.facts, Cert.APwRefIdeal.Gen.facts, Cert.AFinal.Gen.facts, Cert.AFinalIdeal.Gen.facts, Cert.AFinalRefIdeal.Gen.facts, Cert.RmsB.Gen.facts, Cert.RmsBIdeal.Gen.facts, Cert.RmsBRefIdeal.Gen.facts, Cert.Loss.Gen.facts, Cert.LossIdeal.Gen.facts, Cert.LossRefIdeal.Gen.facts, Cert.RmsF.Gen.facts, Cert.RmsFIdeal.Gen.facts, Cert.RmsFRefIdeal.Gen.facts, Cert.SSmall.Gen.facts, Cert.SSmallIdeal.Gen.facts, Cert.SSmallRefIdeal.Gen.facts, Cert.SPw.Gen.facts, Cert.SPwIdeal.Gen.facts, Cert.SPwRefIdeal.Gen.facts, Cert.SIn.Gen.facts, Cert.SInIdeal.Gen.facts, Cert.SInRefIdeal.Gen.facts, Cert.SOut.Gen.facts, Cert.SOutIdeal.Gen.facts, Cert.SOutRefIdeal.Gen.facts, Cert.APrep.Gen.facts, Cert.APrepIdeal.Gen.facts, Cert.APrepRefIdeal.Gen.facts, Cert.APrepF.Gen.facts, Cert.APrepFIdeal.Gen.facts, Cert.APrepFRefIdeal.Gen.facts,
    fun m ρ _ => Cert.Kernel.Gen.frame m ρ,
    fun m ρ _ => Cert.KernelIdeal.Gen.frame m ρ,
    Cert.Post.frame_reference,
    fun m ρ _ => Cert.DwIn.Gen.frame m ρ,
    fun m ρ _ => Cert.DwInIdeal.Gen.frame m ρ,
    Cert.DwInIdeal.Weights.frame_reference,
    fun m ρ _ => Cert.DhIn.Gen.frame m ρ,
    fun m ρ _ => Cert.DhInIdeal.Gen.frame m ρ,
    Cert.DhInIdeal.Weights.frame_reference,
    fun m ρ _ => Cert.DwOut.Gen.frame m ρ,
    fun m ρ _ => Cert.DwOutIdeal.Gen.frame m ρ,
    Cert.DwOutIdeal.Weights.frame_reference,
    fun m ρ _ => Cert.DyOut.Gen.frame m ρ,
    fun m ρ _ => Cert.DyOutIdeal.Gen.frame m ρ,
    Cert.DyOutIdeal.Weights.frame_reference,
    fun m ρ _ => Cert.MIn.Gen.frame m ρ,
    fun m ρ _ => Cert.MInIdeal.Gen.frame m ρ,
    Cert.MInIdeal.Weights.frame_reference,
    fun m ρ _ => Cert.MOut.Gen.frame m ρ,
    fun m ρ _ => Cert.MOutIdeal.Gen.frame m ρ,
    Cert.MOutIdeal.Weights.frame_reference,
    fun m ρ _ => Cert.AWIn.Gen.frame m ρ,
    fun m ρ _ => Cert.AWInIdeal.Gen.frame m ρ,
    Cert.AWInIdeal.Step.frame_reference,
    fun m ρ _ => Cert.AWOut.Gen.frame m ρ,
    fun m ρ _ => Cert.AWOutIdeal.Gen.frame m ρ,
    Cert.AWOutIdeal.Step.frame_reference,
    fun m ρ _ => Cert.ANorm.Gen.frame m ρ,
    fun m ρ _ => Cert.ANormIdeal.Gen.frame m ρ,
    Cert.ANormIdeal.Step.frame_reference,
    fun m ρ _ => Cert.AShort.Gen.frame m ρ,
    fun m ρ _ => Cert.AShortIdeal.Gen.frame m ρ,
    Cert.AShortIdeal.Step.frame_reference,
    fun m ρ _ => Cert.AHead.Gen.frame m ρ,
    fun m ρ _ => Cert.AHeadIdeal.Gen.frame m ρ,
    Cert.AHeadIdeal.Step.frame_reference,
    fun m ρ _ => Cert.AGdn.Gen.frame m ρ,
    fun m ρ _ => Cert.AGdnIdeal.Gen.frame m ρ,
    Cert.AGdnIdeal.Step.frame_reference,
    fun m ρ _ => Cert.ADw.Gen.frame m ρ,
    fun m ρ _ => Cert.ADwIdeal.Gen.frame m ρ,
    Cert.ADwIdeal.Step.frame_reference,
    fun m ρ _ => Cert.ALn.Gen.frame m ρ,
    fun m ρ _ => Cert.ALnIdeal.Gen.frame m ρ,
    Cert.ALnIdeal.Step.frame_reference,
    fun m ρ _ => Cert.APw.Gen.frame m ρ,
    fun m ρ _ => Cert.APwIdeal.Gen.frame m ρ,
    Cert.APwIdeal.Step.frame_reference,
    fun m ρ _ => Cert.AFinal.Gen.frame m ρ,
    fun m ρ _ => Cert.AFinalIdeal.Gen.frame m ρ,
    Cert.AFinalIdeal.Step.frame_reference,
    fun m ρ _ => Cert.RmsB.Gen.frame m ρ,
    fun m ρ _ => Cert.RmsBIdeal.Gen.frame m ρ,
    Cert.RmsBIdeal.Norm.frame_reference,
    fun m ρ _ => Cert.Loss.Gen.frame m ρ,
    fun m ρ _ => Cert.LossIdeal.Gen.frame m ρ,
    Cert.LossIdeal.Head.frame_reference,
    fun m ρ _ => Cert.RmsF.Gen.frame m ρ,
    fun m ρ _ => Cert.RmsFIdeal.Gen.frame m ρ,
    Cert.RmsFIdeal.Norm.frame_reference,
    fun m ρ _ => Cert.SSmall.Gen.frame m ρ,
    fun m ρ _ => Cert.SSmallIdeal.Gen.frame m ρ,
    Cert.SSmallIdeal.Slots.frame_reference,
    fun m ρ _ => Cert.SPw.Gen.frame m ρ,
    fun m ρ _ => Cert.SPwIdeal.Gen.frame m ρ,
    Cert.SPwIdeal.Slots.frame_reference,
    fun m ρ _ => Cert.SIn.Gen.frame m ρ,
    fun m ρ _ => Cert.SInIdeal.Gen.frame m ρ,
    Cert.SInIdeal.Slots.frame_reference,
    fun m ρ _ => Cert.SOut.Gen.frame m ρ,
    fun m ρ _ => Cert.SOutIdeal.Gen.frame m ρ,
    Cert.SOutIdeal.Slots.frame_reference,
    fun m ρ _ => Cert.APrep.Gen.frame m ρ,
    fun m ρ _ => Cert.APrepIdeal.Gen.frame m ρ,
    Cert.APrepIdeal.Rotation.frame_reference,
    fun m ρ _ => Cert.APrepF.Gen.frame m ρ,
    fun m ρ _ => Cert.APrepFIdeal.Gen.frame m ρ,
    Cert.APrepFIdeal.Rotation.frame_reference,
    trivial,
    Cert.Post.algebraic,
    trivial,
    Cert.DwInIdeal.Weights.algebraic,
    trivial,
    Cert.DhInIdeal.Weights.algebraic,
    trivial,
    Cert.DwOutIdeal.Weights.algebraic,
    trivial,
    Cert.DyOutIdeal.Weights.algebraic,
    trivial,
    Cert.MInIdeal.Weights.algebraic,
    trivial,
    Cert.MOutIdeal.Weights.algebraic,
    trivial,
    Cert.AWInIdeal.Step.algebraic,
    trivial,
    Cert.AWOutIdeal.Step.algebraic,
    trivial,
    Cert.ANormIdeal.Step.algebraic,
    trivial,
    Cert.AShortIdeal.Step.algebraic,
    trivial,
    Cert.AHeadIdeal.Step.algebraic,
    trivial,
    Cert.AGdnIdeal.Step.algebraic,
    trivial,
    Cert.ADwIdeal.Step.algebraic,
    trivial,
    Cert.ALnIdeal.Step.algebraic,
    trivial,
    Cert.APwIdeal.Step.algebraic,
    trivial,
    Cert.AFinalIdeal.Step.algebraic,
    trivial,
    Cert.RmsBIdeal.Norm.algebraic,
    trivial,
    Cert.LossIdeal.Head.algebraic,
    trivial,
    Cert.RmsFIdeal.Norm.algebraic,
    trivial,
    Cert.SSmallIdeal.Slots.algebraic,
    trivial,
    Cert.SPwIdeal.Slots.algebraic,
    trivial,
    Cert.SInIdeal.Slots.algebraic,
    trivial,
    Cert.SOutIdeal.Slots.algebraic,
    trivial,
    Cert.APrepIdeal.Rotation.algebraic,
    trivial,
    Cert.APrepFIdeal.Rotation.algebraic⟩

end Cert.Proof

end
